-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .f32) (main_arg1 : FVec F S512x256 .f32) (main_arg2 : FVec F S2x128x32x64 .f32) (main_arg3 : FVec F S2x128x32x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x1024x32x64 : S_.BroadcastsInDim S2x1024x32x64 (![] : Fin 0 → Fin S2x1024x32x64.rank)
  reducesTo_S2x1024x32x64_S_d0_1_2_3 : S2x1024x32x64.ReducesTo [0, 1, 2, 3] S_

variable [Facts]

def fn {F : FTy → Type} [FloatOps F] (main_arg0 : FVec F S2x128x512 .f32) (main_arg1 : FVec F S512x2048 .f32) (main_arg2 : FVec F S2x1024x32x64 .f32) (main_arg3 : FVec F S2x1024x32x64 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x1024x32x64 .f32 := Host.absf main_arg2
  let main_cst_2 : FVec F S_ .f32 := constant S_ .f32 0x7F800000#32
  let main_v10 : FVec F S2x1024x32x64 .f32 := broadcastInDim S2x1024x32x64 ![] bcast_S_S2x1024x32x64 main_cst_2
  let main_v11 : IVec S2x1024x32x64 1 := cmpf .olt main_v9 main_v10
  let main_c_3 : IVec S_ 1 := constantI S_ 1 1#1
  let main_v12 : IVec S_ 1 := (fun x v => Host.reduce IntOp.andi x v reducesTo_S2x1024x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S256x2048 : Shape := ⟨2, ![256, 2048]⟩
abbrev S2x2x256x256 : Shape := ⟨4, ![2, 2, 256, 256]⟩
abbrev S8x2x16x512 : Shape := ⟨4, ![8, 2, 16, 512]⟩
abbrev S2x16x512 : Shape := ⟨3, ![2, 16, 512]⟩
abbrev S2x8 : Shape := ⟨2, ![2, 8]⟩
abbrev S2x2 : Shape := ⟨2, ![2, 2]⟩
abbrev S7 : Shape := ⟨1, ![7]⟩
abbrev S8 : Shape := ⟨1, ![8]⟩
abbrev S_ : Shape := ⟨0, ![]⟩
abbrev S256x256 : Shape := ⟨2, ![256, 256]⟩
abbrev S1x1x256x256 : Shape := ⟨4, ![1, 1, 256, 256]⟩
abbrev S1x1 : Shape := ⟨2, ![1, 1]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x1x128x64 : Shape := ⟨4, ![1, 1, 128, 64]⟩
abbrev S256x64 : Shape := ⟨2, ![256, 64]⟩
abbrev S128 : Shape := ⟨1, ![128]⟩
abbrev S128x1 : Shape := ⟨2, ![128, 1]⟩
abbrev S1 : Shape := ⟨1, ![1]⟩
abbrev S1x2x16x512 : Shape := ⟨4, ![1, 2, 16, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x32x64, .f32⟩
  | .hbm, ⟨3, _⟩ => ⟨S2x128x32x64, .f32⟩
  | .hbm, ⟨4, _⟩ => ⟨S256x512, .f32⟩
  | .hbm, ⟨5, _⟩ => ⟨S2x128x32x64, .bf16⟩
  | .hbm, ⟨6, _⟩ => ⟨S256x2048, .bf16⟩
  | .hbm, ⟨7, _⟩ => ⟨S2x128x32x64, .bf16⟩
  | .hbm, ⟨8, _⟩ => ⟨S256x2048, .bf16⟩
  | .hbm, ⟨9, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x2048, .bf16⟩
  | .local _ .vmem, ⟨3, _⟩ => ⟨S256x2048, .bf16⟩
  | .local _ .vmem, ⟨4, _⟩ => ⟨S256x512, .f32⟩
  | .local _ .vmem, ⟨5, _⟩ => ⟨S2x128x512, .f32⟩
  | .local _ .vmem, ⟨6, _⟩ => ⟨S2x2x256x256, .bf16⟩
  | .local _ .vmem, ⟨7, _⟩ => ⟨S2x2x256x256, .bf16⟩
  | .local _ .vmem, ⟨8, _⟩ => ⟨S2x128x512, .bf16⟩
  | .local _ .vmem, ⟨9, _⟩ => ⟨S8x2x16x512, .bf16⟩
  | .local _ .vmem, ⟨10, _⟩ => ⟨S2x16x512, .bf16⟩
  | .local _ .vmem, ⟨11, _⟩ => ⟨S8x2x16x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let v95 : BitVec 1 := Scalar.cmpi .eq v2 c0_i32_64
  let v96 : BitVec 32 := Scalar.extui v95
  let c0_i32_65 : BitVec 32 := 0#32
  let v97 : BitVec 1 := Scalar.cmpi .ne v96 c0_i32_65
  v97

def k0_dev8 : Nat :=
  let c0_i32_883 : BitVec 32 := 0#32
  let c1_i32_881 : BitVec 32 := 1#32
  let c1_i32_882 : BitVec 32 := 1#32
  let v1108 : BitVec 32 := Scalar.muli c1_i32_881 c1_i32_882
  let v1109 : BitVec 32 := Scalar.addi c0_i32_883 v1108
  v1109.toNat
def k0_dev9 : Nat :=
  let c0_i32_895 : BitVec 32 := 0#32
  let c1_i32_893 : BitVec 32 := 1#32
  let c1_i32_894 : BitVec 32 := 1#32
  let v1117 : BitVec 32 := Scalar.muli c1_i32_893 c1_i32_894
  let v1118 : BitVec 32 := Scalar.addi c0_i32_895 v1117
  v1118.toNat
def k0_dev10 : Nat :=
  let c0_i32_908 : BitVec 32 := 0#32
  let c1_i32_906 : BitVec 32 := 1#32
  let c1_i32_907 : BitVec 32 := 1#32
  let v1126 : BitVec 32 := Scalar.muli c1_i32_906 c1_i32_907
  let v1127 : BitVec 32 := Scalar.addi c0_i32_908 v1126
  v1127.toNat
def k0_dev11 : Nat :=
  let c0_i32_920 : BitVec 32 := 0#32
  let c1_i32_918 : BitVec 32 := 1#32
  let c1_i32_919 : BitVec 32 := 1#32
  let v1135 : BitVec 32 := Scalar.muli c1_i32_918 c1_i32_919
  let v1136 : BitVec 32 := Scalar.addi c0_i32_920 v1135
  v1136.toNat
def k0_dev12 : Nat :=
  let c0_i32_933 : BitVec 32 := 0#32
  let c3_i32_931 : BitVec 32 := 3#32
  let c1_i32_932 : BitVec 32 := 1#32
  let v1144 : BitVec 32 := Scalar.muli c3_i32_931 c1_i32_932
  let v1145 : BitVec 32 := Scalar.addi c0_i32_933 v1144
  v1145.toNat
def k0_dev13 : Nat :=
  let c0_i32_945 : BitVec 32 := 0#32
  let c3_i32_943 : BitVec 32 := 3#32
  let c1_i32_944 : BitVec 32 := 1#32
  let v1153 : BitVec 32 := Scalar.muli c3_i32_943 c1_i32_944
  let v1154 : BitVec 32 := Scalar.addi c0_i32_945 v1153
  v1154.toNat
def k0_dev14 : Nat :=
  let c0_i32_958 : BitVec 32 := 0#32
  let c4_i32_956 : BitVec 32 := 4#32
  let c1_i32_957 : BitVec 32 := 1#32
  let v1162 : BitVec 32 := Scalar.muli c4_i32_956 c1_i32_957
  let v1163 : BitVec 32 := Scalar.addi c0_i32_958 v1162
  v1163.toNat
def k0_dev15 : Nat :=
  let c0_i32_970 : BitVec 32 := 0#32
  let c4_i32_968 : BitVec 32 := 4#32
  let c1_i32_969 : BitVec 32 := 1#32
  let v1171 : BitVec 32 := Scalar.muli c4_i32_968 c1_i32_969
  let v1172 : BitVec 32 := Scalar.addi c0_i32_970 v1171
  v1172.toNat
def k0_dev16 : Nat :=
  let c0_i32_983 : BitVec 32 := 0#32
  let c1_i32_981 : BitVec 32 := 1#32
  let c1_i32_982 : BitVec 32 := 1#32
  let v1180 : BitVec 32 := Scalar.muli c1_i32_981 c1_i32_982
  let v1181 : BitVec 32 := Scalar.addi c0_i32_983 v1180
  v1181.toNat
def k0_dev17 : Nat :=
  let c0_i32_995 : BitVec 32 := 0#32
  let c1_i32_993 : BitVec 32 := 1#32
  let c1_i32_994 : BitVec 32 := 1#32
  let v1189 : BitVec 32 := Scalar.muli c1_i32_993 c1_i32_994
  let v1190 : BitVec 32 := Scalar.addi c0_i32_995 v1189
  v1190.toNat
def k0_dev18 : Nat :=
  let c0_i32_1008 : BitVec 32 := 0#32
  let c3_i32_1006 : BitVec 32 := 3#32
  let c1_i32_1007 : BitVec 32 := 1#32
  let v1198 : BitVec 32 := Scalar.muli c3_i32_1006 c1_i32_1007
  let v1199 : BitVec 32 := Scalar.addi c0_i32_1008 v1198
  v1199.toNat
def k0_dev19 : Nat :=
  let c0_i32_1020 : BitVec 32 := 0#32
  let c3_i32_1018 : BitVec 32 := 3#32
  let c1_i32_1019 : BitVec 32 := 1#32
  let v1207 : BitVec 32 := Scalar.muli c3_i32_1018 c1_i32_1019
  let v1208 : BitVec 32 := Scalar.addi c0_i32_1020 v1207
  v1208.toNat
def k0_dev20 : Nat :=
  let c0_i32_1033 : BitVec 32 := 0#32
  let c4_i32_1031 : BitVec 32 := 4#32
  let c1_i32_1032 : BitVec 32 := 1#32
  let v1216 : BitVec 32 := Scalar.muli c4_i32_1031 c1_i32_1032
  let v1217 : BitVec 32 := Scalar.addi c0_i32_1033 v1216
  v1217.toNat
def k0_dev21 : Nat :=
  let c0_i32_1045 : BitVec 32 := 0#32
  let c4_i32_1043 : BitVec 32 := 4#32
  let c1_i32_1044 : BitVec 32 := 1#32
  let v1225 : BitVec 32 := Scalar.muli c4_i32_1043 c1_i32_1044
  let v1226 : BitVec 32 := Scalar.addi c0_i32_1045 v1225
  v1226.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_66 : BitVec 32 := 1#32
  let v98 : BitVec 1 := Scalar.cmpi .eq v2 c1_i32_66
  let v99 : BitVec 32 := Scalar.extui v98
  let c0_i32_67 : BitVec 32 := 0#32
  let v100 : BitVec 1 := Scalar.cmpi .ne v99 c0_i32_67
  v100

def k0_dev22 : Nat :=
  let c0_i32_882 : BitVec 32 := 0#32
  let c0_i32_880 : BitVec 32 := 0#32
  let c1_i32_881 : BitVec 32 := 1#32
  let v1108 : BitVec 32 := Scalar.muli c0_i32_880 c1_i32_881
  let v1109 : BitVec 32 := Scalar.addi c0_i32_882 v1108
  v1109.toNat
def k0_dev23 : Nat :=
  let c0_i32_894 : BitVec 32 := 0#32
  let c0_i32_892 : BitVec 32 := 0#32
  let c1_i32_893 : BitVec 32 := 1#32
  let v1117 : BitVec 32 := Scalar.muli c0_i32_892 c1_i32_893
  let v1118 : BitVec 32 := Scalar.addi c0_i32_894 v1117
  v1118.toNat
def k0_dev24 : Nat :=
  let c0_i32_907 : BitVec 32 := 0#32
  let c0_i32_905 : BitVec 32 := 0#32
  let c1_i32_906 : BitVec 32 := 1#32
  let v1126 : BitVec 32 := Scalar.muli c0_i32_905 c1_i32_906
  let v1127 : BitVec 32 := Scalar.addi c0_i32_907 v1126
  v1127.toNat
def k0_dev25 : Nat :=
  let c0_i32_919 : BitVec 32 := 0#32
  let c0_i32_917 : BitVec 32 := 0#32
  let c1_i32_918 : BitVec 32 := 1#32
  let v1135 : BitVec 32 := Scalar.muli c0_i32_917 c1_i32_918
  let v1136 : BitVec 32 := Scalar.addi c0_i32_919 v1135
  v1136.toNat
def k0_dev26 : Nat :=
  let c0_i32_932 : BitVec 32 := 0#32
  let c2_i32_930 : BitVec 32 := 2#32
  let c1_i32_931 : BitVec 32 := 1#32
  let v1144 : BitVec 32 := Scalar.muli c2_i32_930 c1_i32_931
  let v1145 : BitVec 32 := Scalar.addi c0_i32_932 v1144
  v1145.toNat
def k0_dev27 : Nat :=
  let c0_i32_944 : BitVec 32 := 0#32
  let c2_i32_942 : BitVec 32 := 2#32
  let c1_i32_943 : BitVec 32 := 1#32
  let v1153 : BitVec 32 := Scalar.muli c2_i32_942 c1_i32_943
  let v1154 : BitVec 32 := Scalar.addi c0_i32_944 v1153
  v1154.toNat
def k0_dev28 : Nat :=
  let c0_i32_957 : BitVec 32 := 0#32
  let c5_i32_955 : BitVec 32 := 5#32
  let c1_i32_956 : BitVec 32 := 1#32
  let v1162 : BitVec 32 := Scalar.muli c5_i32_955 c1_i32_956
  let v1163 : BitVec 32 := Scalar.addi c0_i32_957 v1162
  v1163.toNat
def k0_dev29 : Nat :=
  let c0_i32_969 : BitVec 32 := 0#32
  let c5_i32_967 : BitVec 32 := 5#32
  let c1_i32_968 : BitVec 32 := 1#32
  let v1171 : BitVec 32 := Scalar.muli c5_i32_967 c1_i32_968
  let v1172 : BitVec 32 := Scalar.addi c0_i32_969 v1171
  v1172.toNat
def k0_dev30 : Nat :=
  let c0_i32_982 : BitVec 32 := 0#32
  let c0_i32_980 : BitVec 32 := 0#32
  let c1_i32_981 : BitVec 32 := 1#32
  let v1180 : BitVec 32 := Scalar.muli c0_i32_980 c1_i32_981
  let v1181 : BitVec 32 := Scalar.addi c0_i32_982 v1180
  v1181.toNat
def k0_dev31 : Nat :=
  let c0_i32_995 : BitVec 32 := 0#32
  let c0_i32_993 : BitVec 32 := 0#32
  let c1_i32_994 : BitVec 32 := 1#32
  let v1189 : BitVec 32 := Scalar.muli c0_i32_993 c1_i32_994
  let v1190 : BitVec 32 := Scalar.addi c0_i32_995 v1189
  v1190.toNat
def k0_dev32 : Nat :=
  let c0_i32_1008 : BitVec 32 := 0#32
  let c2_i32_1006 : BitVec 32 := 2#32
  let c1_i32_1007 : BitVec 32 := 1#32
  let v1198 : BitVec 32 := Scalar.muli c2_i32_1006 c1_i32_1007
  let v1199 : BitVec 32 := Scalar.addi c0_i32_1008 v1198
  v1199.toNat
def k0_dev33 : Nat :=
  let c0_i32_1020 : BitVec 32 := 0#32
  let c2_i32_1018 : BitVec 32 := 2#32
  let c1_i32_1019 : BitVec 32 := 1#32
  let v1207 : BitVec 32 := Scalar.muli c2_i32_1018 c1_i32_1019
  let v1208 : BitVec 32 := Scalar.addi c0_i32_1020 v1207
  v1208.toNat
def k0_dev34 : Nat :=
  let c0_i32_1033 : BitVec 32 := 0#32
  let c5_i32_1031 : BitVec 32 := 5#32
  let c1_i32_1032 : BitVec 32 := 1#32
  let v1216 : BitVec 32 := Scalar.muli c5_i32_1031 c1_i32_1032
  let v1217 : BitVec 32 := Scalar.addi c0_i32_1033 v1216
  v1217.toNat
def k0_dev35 : Nat :=
  let c0_i32_1045 : BitVec 32 := 0#32
  let c5_i32_1043 : BitVec 32 := 5#32
  let c1_i32_1044 : BitVec 32 := 1#32
  let v1225 : BitVec 32 := Scalar.muli c5_i32_1043 c1_i32_1044
  let v1226 : BitVec 32 := Scalar.addi c0_i32_1045 v1225
  v1226.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_77 : BitVec 32 := 1#32
  let v113 : BitVec 1 := Scalar.cmpi .eq v2 c1_i32_77
  let v114 : BitVec 32 := Scalar.extui v113
  let c0_i32_78 : BitVec 32 := 0#32
  let v115 : BitVec 1 := Scalar.cmpi .ne v114 c0_i32_78
  v115

def k0_dev36 : Nat :=
  let c0_i32_885 : BitVec 32 := 0#32
  let c2_i32_883 : BitVec 32 := 2#32
  let c1_i32_884 : BitVec 32 := 1#32
  let v1105 : BitVec 32 := Scalar.muli c2_i32_883 c1_i32_884
  let v1106 : BitVec 32 := Scalar.addi c0_i32_885 v1105
  v1106.toNat
def k0_dev37 : Nat :=
  let c0_i32_913 : BitVec 32 := 0#32
  let c2_i32_911 : BitVec 32 := 2#32
  let c1_i32_912 : BitVec 32 := 1#32
  let v1122 : BitVec 32 := Scalar.muli c2_i32_911 c1_i32_912
  let v1123 : BitVec 32 := Scalar.addi c0_i32_913 v1122
  v1123.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_79 : BitVec 32 := 1#32
  let v116 : BitVec 1 := Scalar.cmpi .eq v2 c1_i32_79
  let v117 : BitVec 32 := Scalar.extui v116
  let c0_i32_80 : BitVec 32 := 0#32
  let v118 : BitVec 1 := Scalar.cmpi .ne v117 c0_i32_80
  v118

def k0_dev38 : Nat :=
  let c0_i32_885 : BitVec 32 := 0#32
  let c5_i32_883 : BitVec 32 := 5#32
  let c1_i32_884 : BitVec 32 := 1#32
  let v1105 : BitVec 32 := Scalar.muli c5_i32_883 c1_i32_884
  let v1106 : BitVec 32 := Scalar.addi c0_i32_885 v1105
  v1106.toNat
def k0_dev39 : Nat :=
  let c0_i32_913 : BitVec 32 := 0#32
  let c5_i32_911 : BitVec 32 := 5#32
  let c1_i32_912 : BitVec 32 := 1#32
  let v1122 : BitVec 32 := Scalar.muli c5_i32_911 c1_i32_912
  let v1123 : BitVec 32 := Scalar.addi c0_i32_913 v1122
  v1123.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_81 : BitVec 32 := 3#32
  let v119 : BitVec 1 := Scalar.cmpi .eq v2 c3_i32_81
  let v120 : BitVec 32 := Scalar.extui v119
  let c0_i32_82 : BitVec 32 := 0#32
  let v121 : BitVec 1 := Scalar.cmpi .ne v120 c0_i32_82
  v121

def k0_dev40 : Nat :=
  let c0_i32_885 : BitVec 32 := 0#32
  let c7_i32_883 : BitVec 32 := 7#32
  let c1_i32_884 : BitVec 32 := 1#32
  let v1105 : BitVec 32 := Scalar.muli c7_i32_883 c1_i32_884
  let v1106 : BitVec 32 := Scalar.addi c0_i32_885 v1105
  v1106.toNat
def k0_dev41 : Nat :=
  let c0_i32_913 : BitVec 32 := 0#32
  let c7_i32_911 : BitVec 32 := 7#32
  let c1_i32_912 : BitVec 32 := 1#32
  let v1122 : BitVec 32 := Scalar.muli c7_i32_911 c1_i32_912
  let v1123 : BitVec 32 := Scalar.addi c0_i32_913 v1122
  v1123.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_83 : BitVec 32 := 4#32
  let v122 : BitVec 1 := Scalar.cmpi .eq v2 c4_i32_83
  let v123 : BitVec 32 := Scalar.extui v122
  let c0_i32_84 : BitVec 32 := 0#32
  let v124 : BitVec 1 := Scalar.cmpi .ne v123 c0_i32_84
  v124

def k0_dev42 : Nat :=
  let c0_i32_885 : BitVec 32 := 0#32
  let c6_i32_883 : BitVec 32 := 6#32
  let c1_i32_884 : BitVec 32 := 1#32
  let v1105 : BitVec 32 := Scalar.muli c6_i32_883 c1_i32_884
  let v1106 : BitVec 32 := Scalar.addi c0_i32_885 v1105
  v1106.toNat
def k0_dev43 : Nat :=
  let c0_i32_913 : BitVec 32 := 0#32
  let c6_i32_911 : BitVec 32 := 6#32
  let c1_i32_912 : BitVec 32 := 1#32
  let v1122 : BitVec 32 := Scalar.muli c6_i32_911 c1_i32_912
  let v1123 : BitVec 32 := Scalar.addi c0_i32_913 v1122
  v1123.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  let v125 : BitVec 1 := Scalar.cmpi .eq v2 c0_i32_85
  let v126 : BitVec 32 := Scalar.extui v125
  let c0_i32_86 : BitVec 32 := 0#32
  let v127 : BitVec 1 := Scalar.cmpi .ne v126 c0_i32_86
  v127

def k0_dev44 : Nat :=
  let c0_i32_885 : BitVec 32 := 0#32
  let c3_i32_883 : BitVec 32 := 3#32
  let c1_i32_884 : BitVec 32 := 1#32
  let v1105 : BitVec 32 := Scalar.muli c3_i32_883 c1_i32_884
  let v1106 : BitVec 32 := Scalar.addi c0_i32_885 v1105
  v1106.toNat
def k0_dev45 : Nat :=
  let c0_i32_913 : BitVec 32 := 0#32
  let c3_i32_911 : BitVec 32 := 3#32
  let c1_i32_912 : BitVec 32 := 1#32
  let v1122 : BitVec 32 := Scalar.muli c3_i32_911 c1_i32_912
  let v1123 : BitVec 32 := Scalar.addi c0_i32_913 v1122
  v1123.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v128 : BitVec 1 := Scalar.cmpi .eq v2 c0_i32_87
  let v129 : BitVec 32 := Scalar.extui v128
  let c0_i32_88 : BitVec 32 := 0#32
  let v130 : BitVec 1 := Scalar.cmpi .ne v129 c0_i32_88
  v130

def k0_dev46 : Nat :=
  let c0_i32_885 : BitVec 32 := 0#32
  let c4_i32_883 : BitVec 32 := 4#32
  let c1_i32_884 : BitVec 32 := 1#32
  let v1105 : BitVec 32 := Scalar.muli c4_i32_883 c1_i32_884
  let v1106 : BitVec 32 := Scalar.addi c0_i32_885 v1105
  v1106.toNat
def k0_dev47 : Nat :=
  let c0_i32_913 : BitVec 32 := 0#32
  let c4_i32_911 : BitVec 32 := 4#32
  let c1_i32_912 : BitVec 32 := 1#32
  let v1122 : BitVec 32 := Scalar.muli c4_i32_911 c1_i32_912
  let v1123 : BitVec 32 := Scalar.addi c0_i32_913 v1122
  v1123.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v131 : BitVec 1 := Scalar.cmpi .eq v2 c2_i32_89
  let v132 : BitVec 32 := Scalar.extui v131
  let c0_i32_90 : BitVec 32 := 0#32
  let v133 : BitVec 1 := Scalar.cmpi .ne v132 c0_i32_90
  v133

def k0_dev48 : Nat :=
  let c0_i32_885 : BitVec 32 := 0#32
  let c6_i32_883 : BitVec 32 := 6#32
  let c1_i32_884 : BitVec 32 := 1#32
  let v1105 : BitVec 32 := Scalar.muli c6_i32_883 c1_i32_884
  let v1106 : BitVec 32 := Scalar.addi c0_i32_885 v1105
  v1106.toNat
def k0_dev49 : Nat :=
  let c0_i32_913 : BitVec 32 := 0#32
  let c6_i32_911 : BitVec 32 := 6#32
  let c1_i32_912 : BitVec 32 := 1#32
  let v1122 : BitVec 32 := Scalar.muli c6_i32_911 c1_i32_912
  let v1123 : BitVec 32 := Scalar.addi c0_i32_913 v1122
  v1123.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_91 : BitVec 32 := 5#32
  let v134 : BitVec 1 := Scalar.cmpi .eq v2 c5_i32_91
  let v135 : BitVec 32 := Scalar.extui v134
  let c0_i32_92 : BitVec 32 := 0#32
  let v136 : BitVec 1 := Scalar.cmpi .ne v135 c0_i32_92
  v136

def k0_dev50 : Nat :=
  let c0_i32_885 : BitVec 32 := 0#32
  let c7_i32_883 : BitVec 32 := 7#32
  let c1_i32_884 : BitVec 32 := 1#32
  let v1105 : BitVec 32 := Scalar.muli c7_i32_883 c1_i32_884
  let v1106 : BitVec 32 := Scalar.addi c0_i32_885 v1105
  v1106.toNat
def k0_dev51 : Nat :=
  let c0_i32_913 : BitVec 32 := 0#32
  let c7_i32_911 : BitVec 32 := 7#32
  let c1_i32_912 : BitVec 32 := 1#32
  let v1122 : BitVec 32 := Scalar.muli c7_i32_911 c1_i32_912
  let v1123 : BitVec 32 := Scalar.addi c0_i32_913 v1122
  v1123.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_312 : BitVec 32 := 0#32
  let c0_i32_313 : BitVec 32 := 0#32
  let c0_i32_314 : BitVec 32 := 0#32
  ![v2.toNat, 0, 0, 0]
def k0_off3 (d0 : Dev nD) (c1_i32_302 : BitVec 32) : Fin 3 → Nat :=
  let c0_i32_315 : BitVec 32 := 0#32
  let c16_i32 : BitVec 32 := 16#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v415 : BitVec 32 := Scalar.addi v2 c1_i32_302
  let c8_i32_303 : BitVec 32 := 8#32
  let c0_i32_304 : BitVec 32 := 0#32
  let v416 : BitVec 1 := Scalar.cmpi .eq c8_i32_303 c0_i32_304
  let c1_i32_305 : BitVec 32 := 1#32
  let v417 : BitVec 32 := Scalar.select v416 c1_i32_305 c8_i32_303
  let v418 : BitVec 32 := Scalar.remsi v415 v417
  let c0_i32_307 : BitVec 32 := 0#32
  let v420 : BitVec 1 := Scalar.cmpi .slt v418 c0_i32_307
  let c0_i32_308 : BitVec 32 := 0#32
  let v421 : BitVec 1 := Scalar.cmpi .slt v417 c0_i32_308
  let v422 : BitVec 1 := Scalar.xori v420 v421
  let c0_i32_306 : BitVec 32 := 0#32
  let v419 : BitVec 1 := Scalar.cmpi .ne v418 c0_i32_306
  let v423 : BitVec 1 := Scalar.andi v422 v419
  let v424 : BitVec 32 := Scalar.addi v418 v417
  let v425 : BitVec 32 := Scalar.select v423 v424 v418
  let v426 : BitVec 32 := Scalar.muli c16_i32 v425
  let c0_i32_316 : BitVec 32 := 0#32
  ![0, v426.toNat, 0]
def k0_dev52 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_302 : BitVec 32 := 1#32
  let v415 : BitVec 32 := Scalar.addi v2 c1_i32_302
  let c8_i32_303 : BitVec 32 := 8#32
  let c0_i32_304 : BitVec 32 := 0#32
  let v416 : BitVec 1 := Scalar.cmpi .eq c8_i32_303 c0_i32_304
  let c1_i32_305 : BitVec 32 := 1#32
  let v417 : BitVec 32 := Scalar.select v416 c1_i32_305 c8_i32_303
  let v418 : BitVec 32 := Scalar.remsi v415 v417
  let c0_i32_307 : BitVec 32 := 0#32
  let v420 : BitVec 1 := Scalar.cmpi .slt v418 c0_i32_307
  let c0_i32_308 : BitVec 32 := 0#32
  let v421 : BitVec 1 := Scalar.cmpi .slt v417 c0_i32_308
  let v422 : BitVec 1 := Scalar.xori v420 v421
  let c0_i32_306 : BitVec 32 := 0#32
  let v419 : BitVec 1 := Scalar.cmpi .ne v418 c0_i32_306
  let v423 : BitVec 1 := Scalar.andi v422 v419
  let v424 : BitVec 32 := Scalar.addi v418 v417
  let v425 : BitVec 32 := Scalar.select v423 v424 v418
  let c1_i32_310 : BitVec 32 := 1#32
  let v427 : BitVec 32 := Scalar.muli v425 c1_i32_310
  let v428 : BitVec 32 := Scalar.addi c0_i32_311 v427
  v428.toNat
def k0_dev53 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_317 : BitVec 32 := 2#32
  let v436 : BitVec 32 := Scalar.addi v2 c2_i32_317
  let c8_i32_318 : BitVec 32 := 8#32
  let c0_i32_319 : BitVec 32 := 0#32
  let v437 : BitVec 1 := Scalar.cmpi .eq c8_i32_318 c0_i32_319
  let c1_i32_320 : BitVec 32 := 1#32
  let v438 : BitVec 32 := Scalar.select v437 c1_i32_320 c8_i32_318
  let v439 : BitVec 32 := Scalar.remsi v436 v438
  let c0_i32_322 : BitVec 32 := 0#32
  let v441 : BitVec 1 := Scalar.cmpi .slt v439 c0_i32_322
  let c0_i32_323 : BitVec 32 := 0#32
  let v442 : BitVec 1 := Scalar.cmpi .slt v438 c0_i32_323
  let v443 : BitVec 1 := Scalar.xori v441 v442
  let c0_i32_321 : BitVec 32 := 0#32
  let v440 : BitVec 1 := Scalar.cmpi .ne v439 c0_i32_321
  let v444 : BitVec 1 := Scalar.andi v443 v440
  let v445 : BitVec 32 := Scalar.addi v439 v438
  let v446 : BitVec 32 := Scalar.select v444 v445 v439
  let c1_i32_326 : BitVec 32 := 1#32
  let v448 : BitVec 32 := Scalar.muli v446 c1_i32_326
  let v449 : BitVec 32 := Scalar.addi c0_i32_327 v448
  v449.toNat
def k0_dev54 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_333 : BitVec 32 := 3#32
  let v457 : BitVec 32 := Scalar.addi v2 c3_i32_333
  let c8_i32_334 : BitVec 32 := 8#32
  let c0_i32_335 : BitVec 32 := 0#32
  let v458 : BitVec 1 := Scalar.cmpi .eq c8_i32_334 c0_i32_335
  let c1_i32_336 : BitVec 32 := 1#32
  let v459 : BitVec 32 := Scalar.select v458 c1_i32_336 c8_i32_334
  let v460 : BitVec 32 := Scalar.remsi v457 v459
  let c0_i32_338 : BitVec 32 := 0#32
  let v462 : BitVec 1 := Scalar.cmpi .slt v460 c0_i32_338
  let c0_i32_339 : BitVec 32 := 0#32
  let v463 : BitVec 1 := Scalar.cmpi .slt v459 c0_i32_339
  let v464 : BitVec 1 := Scalar.xori v462 v463
  let c0_i32_337 : BitVec 32 := 0#32
  let v461 : BitVec 1 := Scalar.cmpi .ne v460 c0_i32_337
  let v465 : BitVec 1 := Scalar.andi v464 v461
  let v466 : BitVec 32 := Scalar.addi v460 v459
  let v467 : BitVec 32 := Scalar.select v465 v466 v460
  let c1_i32_342 : BitVec 32 := 1#32
  let v469 : BitVec 32 := Scalar.muli v467 c1_i32_342
  let v470 : BitVec 32 := Scalar.addi c0_i32_343 v469
  v470.toNat
def k0_dev55 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_349 : BitVec 32 := 4#32
  let v478 : BitVec 32 := Scalar.addi v2 c4_i32_349
  let c8_i32_350 : BitVec 32 := 8#32
  let c0_i32_351 : BitVec 32 := 0#32
  let v479 : BitVec 1 := Scalar.cmpi .eq c8_i32_350 c0_i32_351
  let c1_i32_352 : BitVec 32 := 1#32
  let v480 : BitVec 32 := Scalar.select v479 c1_i32_352 c8_i32_350
  let v481 : BitVec 32 := Scalar.remsi v478 v480
  let c0_i32_354 : BitVec 32 := 0#32
  let v483 : BitVec 1 := Scalar.cmpi .slt v481 c0_i32_354
  let c0_i32_355 : BitVec 32 := 0#32
  let v484 : BitVec 1 := Scalar.cmpi .slt v480 c0_i32_355
  let v485 : BitVec 1 := Scalar.xori v483 v484
  let c0_i32_353 : BitVec 32 := 0#32
  let v482 : BitVec 1 := Scalar.cmpi .ne v481 c0_i32_353
  let v486 : BitVec 1 := Scalar.andi v485 v482
  let v487 : BitVec 32 := Scalar.addi v481 v480
  let v488 : BitVec 32 := Scalar.select v486 v487 v481
  let c1_i32_358 : BitVec 32 := 1#32
  let v490 : BitVec 32 := Scalar.muli v488 c1_i32_358
  let v491 : BitVec 32 := Scalar.addi c0_i32_359 v490
  v491.toNat
def k0_dev56 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_365 : BitVec 32 := 5#32
  let v499 : BitVec 32 := Scalar.addi v2 c5_i32_365
  let c8_i32_366 : BitVec 32 := 8#32
  let c0_i32_367 : BitVec 32 := 0#32
  let v500 : BitVec 1 := Scalar.cmpi .eq c8_i32_366 c0_i32_367
  let c1_i32_368 : BitVec 32 := 1#32
  let v501 : BitVec 32 := Scalar.select v500 c1_i32_368 c8_i32_366
  let v502 : BitVec 32 := Scalar.remsi v499 v501
  let c0_i32_370 : BitVec 32 := 0#32
  let v504 : BitVec 1 := Scalar.cmpi .slt v502 c0_i32_370
  let c0_i32_371 : BitVec 32 := 0#32
  let v505 : BitVec 1 := Scalar.cmpi .slt v501 c0_i32_371
  let v506 : BitVec 1 := Scalar.xori v504 v505
  let c0_i32_369 : BitVec 32 := 0#32
  let v503 : BitVec 1 := Scalar.cmpi .ne v502 c0_i32_369
  let v507 : BitVec 1 := Scalar.andi v506 v503
  let v508 : BitVec 32 := Scalar.addi v502 v501
  let v509 : BitVec 32 := Scalar.select v507 v508 v502
  let c1_i32_374 : BitVec 32 := 1#32
  let v511 : BitVec 32 := Scalar.muli v509 c1_i32_374
  let v512 : BitVec 32 := Scalar.addi c0_i32_375 v511
  v512.toNat
def k0_dev57 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_381 : BitVec 32 := 6#32
  let v520 : BitVec 32 := Scalar.addi v2 c6_i32_381
  let c8_i32_382 : BitVec 32 := 8#32
  let c0_i32_383 : BitVec 32 := 0#32
  let v521 : BitVec 1 := Scalar.cmpi .eq c8_i32_382 c0_i32_383
  let c1_i32_384 : BitVec 32 := 1#32
  let v522 : BitVec 32 := Scalar.select v521 c1_i32_384 c8_i32_382
  let v523 : BitVec 32 := Scalar.remsi v520 v522
  let c0_i32_386 : BitVec 32 := 0#32
  let v525 : BitVec 1 := Scalar.cmpi .slt v523 c0_i32_386
  let c0_i32_387 : BitVec 32 := 0#32
  let v526 : BitVec 1 := Scalar.cmpi .slt v522 c0_i32_387
  let v527 : BitVec 1 := Scalar.xori v525 v526
  let c0_i32_385 : BitVec 32 := 0#32
  let v524 : BitVec 1 := Scalar.cmpi .ne v523 c0_i32_385
  let v528 : BitVec 1 := Scalar.andi v527 v524
  let v529 : BitVec 32 := Scalar.addi v523 v522
  let v530 : BitVec 32 := Scalar.select v528 v529 v523
  let c1_i32_390 : BitVec 32 := 1#32
  let v532 : BitVec 32 := Scalar.muli v530 c1_i32_390
  let v533 : BitVec 32 := Scalar.addi c0_i32_391 v532
  v533.toNat
def k0_dev58 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_397 : BitVec 32 := 7#32
  let v541 : BitVec 32 := Scalar.addi v2 c7_i32_397
  let c8_i32_398 : BitVec 32 := 8#32
  let c0_i32_399 : BitVec 32 := 0#32
  let v542 : BitVec 1 := Scalar.cmpi .eq c8_i32_398 c0_i32_399
  let c1_i32_400 : BitVec 32 := 1#32
  let v543 : BitVec 32 := Scalar.select v542 c1_i32_400 c8_i32_398
  let v544 : BitVec 32 := Scalar.remsi v541 v543
  let c0_i32_402 : BitVec 32 := 0#32
  let v546 : BitVec 1 := Scalar.cmpi .slt v544 c0_i32_402
  let c0_i32_403 : BitVec 32 := 0#32
  let v547 : BitVec 1 := Scalar.cmpi .slt v543 c0_i32_403
  let v548 : BitVec 1 := Scalar.xori v546 v547
  let c0_i32_401 : BitVec 32 := 0#32
  let v545 : BitVec 1 := Scalar.cmpi .ne v544 c0_i32_401
  let v549 : BitVec 1 := Scalar.andi v548 v545
  let v550 : BitVec 32 := Scalar.addi v544 v543
  let v551 : BitVec 32 := Scalar.select v549 v550 v544
  let c1_i32_406 : BitVec 32 := 1#32
  let v553 : BitVec 32 := Scalar.muli v551 c1_i32_406
  let v554 : BitVec 32 := Scalar.addi c0_i32_407 v553
  v554.toNat
def k0_off4 (d0 : Dev nD) : Fin 3 → Nat :=
  let c0_414 : Index := 0#32
  let c16_i32_413 : BitVec 32 := 16#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v562 : BitVec 32 := Scalar.muli c16_i32_413 v2
  let v563 : Index := Scalar.indexCast v562
  let c0_415 : Index := 0#32
  ![0, v563.toNat, 0]
def k0_off5 (d0 : Dev nD) (c1_i32_416 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v566 : BitVec 32 := Scalar.addi v2 c1_i32_416
  let c8_i32_417 : BitVec 32 := 8#32
  let c0_i32_418 : BitVec 32 := 0#32
  let v567 : BitVec 1 := Scalar.cmpi .eq c8_i32_417 c0_i32_418
  let c1_i32_419 : BitVec 32 := 1#32
  let v568 : BitVec 32 := Scalar.select v567 c1_i32_419 c8_i32_417
  let v569 : BitVec 32 := Scalar.remsi v566 v568
  let c0_i32_421 : BitVec 32 := 0#32
  let v571 : BitVec 1 := Scalar.cmpi .slt v569 c0_i32_421
  let c0_i32_422 : BitVec 32 := 0#32
  let v572 : BitVec 1 := Scalar.cmpi .slt v568 c0_i32_422
  let v573 : BitVec 1 := Scalar.xori v571 v572
  let c0_i32_420 : BitVec 32 := 0#32
  let v570 : BitVec 1 := Scalar.cmpi .ne v569 c0_i32_420
  let v574 : BitVec 1 := Scalar.andi v573 v570
  let v575 : BitVec 32 := Scalar.addi v569 v568
  let v576 : BitVec 32 := Scalar.select v574 v575 v569
  ![v576.toNat]
def k0_off6 (d0 : Dev nD) (c1_i32_416 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v566 : BitVec 32 := Scalar.addi v2 c1_i32_416
  let c8_i32_417 : BitVec 32 := 8#32
  let c0_i32_418 : BitVec 32 := 0#32
  let v567 : BitVec 1 := Scalar.cmpi .eq c8_i32_417 c0_i32_418
  let c1_i32_419 : BitVec 32 := 1#32
  let v568 : BitVec 32 := Scalar.select v567 c1_i32_419 c8_i32_417
  let v569 : BitVec 32 := Scalar.remsi v566 v568
  let c0_i32_421 : BitVec 32 := 0#32
  let v571 : BitVec 1 := Scalar.cmpi .slt v569 c0_i32_421
  let c0_i32_422 : BitVec 32 := 0#32
  let v572 : BitVec 1 := Scalar.cmpi .slt v568 c0_i32_422
  let v573 : BitVec 1 := Scalar.xori v571 v572
  let c0_i32_420 : BitVec 32 := 0#32
  let v570 : BitVec 1 := Scalar.cmpi .ne v569 c0_i32_420
  let v574 : BitVec 1 := Scalar.andi v573 v570
  let v575 : BitVec 32 := Scalar.addi v569 v568
  let v576 : BitVec 32 := Scalar.select v574 v575 v569
  let c0_i32_426 : BitVec 32 := 0#32
  let c0_i32_427 : BitVec 32 := 0#32
  let c0_i32_428 : BitVec 32 := 0#32
  ![v576.toNat, 0, 0, 0]
def k0_off7 (d0 : Dev nD) (c1_i32_416 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v566 : BitVec 32 := Scalar.addi v2 c1_i32_416
  let c8_i32_417 : BitVec 32 := 8#32
  let c0_i32_418 : BitVec 32 := 0#32
  let v567 : BitVec 1 := Scalar.cmpi .eq c8_i32_417 c0_i32_418
  let c1_i32_419 : BitVec 32 := 1#32
  let v568 : BitVec 32 := Scalar.select v567 c1_i32_419 c8_i32_417
  let v569 : BitVec 32 := Scalar.remsi v566 v568
  let c0_i32_421 : BitVec 32 := 0#32
  let v571 : BitVec 1 := Scalar.cmpi .slt v569 c0_i32_421
  let c0_i32_422 : BitVec 32 := 0#32
  let v572 : BitVec 1 := Scalar.cmpi .slt v568 c0_i32_422
  let v573 : BitVec 1 := Scalar.xori v571 v572
  let c0_i32_420 : BitVec 32 := 0#32
  let v570 : BitVec 1 := Scalar.cmpi .ne v569 c0_i32_420
  let v574 : BitVec 1 := Scalar.andi v573 v570
  let v575 : BitVec 32 := Scalar.addi v569 v568
  let v576 : BitVec 32 := Scalar.select v574 v575 v569
  let v584 : Index := Scalar.indexCast v576
  let c0_432 : Index := 0#32
  let c0_433 : Index := 0#32
  let c0_434 : Index := 0#32
  ![v584.toNat, 0, 0, 0]
def k0_dev59 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_555 : BitVec 32 := 1#32
  let v734 : BitVec 32 := Scalar.addi v2 c1_i32_555
  let c8_i32_556 : BitVec 32 := 8#32
  let c0_i32_557 : BitVec 32 := 0#32
  let v735 : BitVec 1 := Scalar.cmpi .eq c8_i32_556 c0_i32_557
  let c1_i32_558 : BitVec 32 := 1#32
  let v736 : BitVec 32 := Scalar.select v735 c1_i32_558 c8_i32_556
  let v737 : BitVec 32 := Scalar.remsi v734 v736
  let c0_i32_560 : BitVec 32 := 0#32
  let v739 : BitVec 1 := Scalar.cmpi .slt v737 c0_i32_560
  let c0_i32_561 : BitVec 32 := 0#32
  let v740 : BitVec 1 := Scalar.cmpi .slt v736 c0_i32_561
  let v741 : BitVec 1 := Scalar.xori v739 v740
  let c0_i32_559 : BitVec 32 := 0#32
  let v738 : BitVec 1 := Scalar.cmpi .ne v737 c0_i32_559
  let v742 : BitVec 1 := Scalar.andi v741 v738
  let v743 : BitVec 32 := Scalar.addi v737 v736
  let v744 : BitVec 32 := Scalar.select v742 v743 v737
  let c1_i32_563 : BitVec 32 := 1#32
  let v745 : BitVec 32 := Scalar.muli v744 c1_i32_563
  let v746 : BitVec 32 := Scalar.addi c0_i32_564 v745
  v746.toNat
def k0_dev60 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_568 : BitVec 32 := 2#32
  let v753 : BitVec 32 := Scalar.addi v2 c2_i32_568
  let c8_i32_569 : BitVec 32 := 8#32
  let c0_i32_570 : BitVec 32 := 0#32
  let v754 : BitVec 1 := Scalar.cmpi .eq c8_i32_569 c0_i32_570
  let c1_i32_571 : BitVec 32 := 1#32
  let v755 : BitVec 32 := Scalar.select v754 c1_i32_571 c8_i32_569
  let v756 : BitVec 32 := Scalar.remsi v753 v755
  let c0_i32_573 : BitVec 32 := 0#32
  let v758 : BitVec 1 := Scalar.cmpi .slt v756 c0_i32_573
  let c0_i32_574 : BitVec 32 := 0#32
  let v759 : BitVec 1 := Scalar.cmpi .slt v755 c0_i32_574
  let v760 : BitVec 1 := Scalar.xori v758 v759
  let c0_i32_572 : BitVec 32 := 0#32
  let v757 : BitVec 1 := Scalar.cmpi .ne v756 c0_i32_572
  let v761 : BitVec 1 := Scalar.andi v760 v757
  let v762 : BitVec 32 := Scalar.addi v756 v755
  let v763 : BitVec 32 := Scalar.select v761 v762 v756
  let c1_i32_576 : BitVec 32 := 1#32
  let v764 : BitVec 32 := Scalar.muli v763 c1_i32_576
  let v765 : BitVec 32 := Scalar.addi c0_i32_577 v764
  v765.toNat
def k0_dev61 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_581 : BitVec 32 := 3#32
  let v772 : BitVec 32 := Scalar.addi v2 c3_i32_581
  let c8_i32_582 : BitVec 32 := 8#32
  let c0_i32_583 : BitVec 32 := 0#32
  let v773 : BitVec 1 := Scalar.cmpi .eq c8_i32_582 c0_i32_583
  let c1_i32_584 : BitVec 32 := 1#32
  let v774 : BitVec 32 := Scalar.select v773 c1_i32_584 c8_i32_582
  let v775 : BitVec 32 := Scalar.remsi v772 v774
  let c0_i32_586 : BitVec 32 := 0#32
  let v777 : BitVec 1 := Scalar.cmpi .slt v775 c0_i32_586
  let c0_i32_587 : BitVec 32 := 0#32
  let v778 : BitVec 1 := Scalar.cmpi .slt v774 c0_i32_587
  let v779 : BitVec 1 := Scalar.xori v777 v778
  let c0_i32_585 : BitVec 32 := 0#32
  let v776 : BitVec 1 := Scalar.cmpi .ne v775 c0_i32_585
  let v780 : BitVec 1 := Scalar.andi v779 v776
  let v781 : BitVec 32 := Scalar.addi v775 v774
  let v782 : BitVec 32 := Scalar.select v780 v781 v775
  let c1_i32_589 : BitVec 32 := 1#32
  let v783 : BitVec 32 := Scalar.muli v782 c1_i32_589
  let v784 : BitVec 32 := Scalar.addi c0_i32_590 v783
  v784.toNat
def k0_dev62 (d0 : Dev nD) : Nat :=
  let c0_i32_603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_594 : BitVec 32 := 4#32
  let v791 : BitVec 32 := Scalar.addi v2 c4_i32_594
  let c8_i32_595 : BitVec 32 := 8#32
  let c0_i32_596 : BitVec 32 := 0#32
  let v792 : BitVec 1 := Scalar.cmpi .eq c8_i32_595 c0_i32_596
  let c1_i32_597 : BitVec 32 := 1#32
  let v793 : BitVec 32 := Scalar.select v792 c1_i32_597 c8_i32_595
  let v794 : BitVec 32 := Scalar.remsi v791 v793
  let c0_i32_599 : BitVec 32 := 0#32
  let v796 : BitVec 1 := Scalar.cmpi .slt v794 c0_i32_599
  let c0_i32_600 : BitVec 32 := 0#32
  let v797 : BitVec 1 := Scalar.cmpi .slt v793 c0_i32_600
  let v798 : BitVec 1 := Scalar.xori v796 v797
  let c0_i32_598 : BitVec 32 := 0#32
  let v795 : BitVec 1 := Scalar.cmpi .ne v794 c0_i32_598
  let v799 : BitVec 1 := Scalar.andi v798 v795
  let v800 : BitVec 32 := Scalar.addi v794 v793
  let v801 : BitVec 32 := Scalar.select v799 v800 v794
  let c1_i32_602 : BitVec 32 := 1#32
  let v802 : BitVec 32 := Scalar.muli v801 c1_i32_602
  let v803 : BitVec 32 := Scalar.addi c0_i32_603 v802
  v803.toNat
def k0_dev63 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_607 : BitVec 32 := 5#32
  let v810 : BitVec 32 := Scalar.addi v2 c5_i32_607
  let c8_i32_608 : BitVec 32 := 8#32
  let c0_i32_609 : BitVec 32 := 0#32
  let v811 : BitVec 1 := Scalar.cmpi .eq c8_i32_608 c0_i32_609
  let c1_i32_610 : BitVec 32 := 1#32
  let v812 : BitVec 32 := Scalar.select v811 c1_i32_610 c8_i32_608
  let v813 : BitVec 32 := Scalar.remsi v810 v812
  let c0_i32_612 : BitVec 32 := 0#32
  let v815 : BitVec 1 := Scalar.cmpi .slt v813 c0_i32_612
  let c0_i32_613 : BitVec 32 := 0#32
  let v816 : BitVec 1 := Scalar.cmpi .slt v812 c0_i32_613
  let v817 : BitVec 1 := Scalar.xori v815 v816
  let c0_i32_611 : BitVec 32 := 0#32
  let v814 : BitVec 1 := Scalar.cmpi .ne v813 c0_i32_611
  let v818 : BitVec 1 := Scalar.andi v817 v814
  let v819 : BitVec 32 := Scalar.addi v813 v812
  let v820 : BitVec 32 := Scalar.select v818 v819 v813
  let c1_i32_615 : BitVec 32 := 1#32
  let v821 : BitVec 32 := Scalar.muli v820 c1_i32_615
  let v822 : BitVec 32 := Scalar.addi c0_i32_616 v821
  v822.toNat
def k0_dev64 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_620 : BitVec 32 := 6#32
  let v829 : BitVec 32 := Scalar.addi v2 c6_i32_620
  let c8_i32_621 : BitVec 32 := 8#32
  let c0_i32_622 : BitVec 32 := 0#32
  let v830 : BitVec 1 := Scalar.cmpi .eq c8_i32_621 c0_i32_622
  let c1_i32_623 : BitVec 32 := 1#32
  let v831 : BitVec 32 := Scalar.select v830 c1_i32_623 c8_i32_621
  let v832 : BitVec 32 := Scalar.remsi v829 v831
  let c0_i32_625 : BitVec 32 := 0#32
  let v834 : BitVec 1 := Scalar.cmpi .slt v832 c0_i32_625
  let c0_i32_626 : BitVec 32 := 0#32
  let v835 : BitVec 1 := Scalar.cmpi .slt v831 c0_i32_626
  let v836 : BitVec 1 := Scalar.xori v834 v835
  let c0_i32_624 : BitVec 32 := 0#32
  let v833 : BitVec 1 := Scalar.cmpi .ne v832 c0_i32_624
  let v837 : BitVec 1 := Scalar.andi v836 v833
  let v838 : BitVec 32 := Scalar.addi v832 v831
  let v839 : BitVec 32 := Scalar.select v837 v838 v832
  let c1_i32_628 : BitVec 32 := 1#32
  let v840 : BitVec 32 := Scalar.muli v839 c1_i32_628
  let v841 : BitVec 32 := Scalar.addi c0_i32_629 v840
  v841.toNat
def k0_dev65 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_633 : BitVec 32 := 7#32
  let v848 : BitVec 32 := Scalar.addi v2 c7_i32_633
  let c8_i32_634 : BitVec 32 := 8#32
  let c0_i32_635 : BitVec 32 := 0#32
  let v849 : BitVec 1 := Scalar.cmpi .eq c8_i32_634 c0_i32_635
  let c1_i32_636 : BitVec 32 := 1#32
  let v850 : BitVec 32 := Scalar.select v849 c1_i32_636 c8_i32_634
  let v851 : BitVec 32 := Scalar.remsi v848 v850
  let c0_i32_638 : BitVec 32 := 0#32
  let v853 : BitVec 1 := Scalar.cmpi .slt v851 c0_i32_638
  let c0_i32_639 : BitVec 32 := 0#32
  let v854 : BitVec 1 := Scalar.cmpi .slt v850 c0_i32_639
  let v855 : BitVec 1 := Scalar.xori v853 v854
  let c0_i32_637 : BitVec 32 := 0#32
  let v852 : BitVec 1 := Scalar.cmpi .ne v851 c0_i32_637
  let v856 : BitVec 1 := Scalar.andi v855 v852
  let v857 : BitVec 32 := Scalar.addi v851 v850
  let v858 : BitVec 32 := Scalar.select v856 v857 v851
  let c1_i32_641 : BitVec 32 := 1#32
  let v859 : BitVec 32 := Scalar.muli v858 c1_i32_641
  let v860 : BitVec 32 := Scalar.addi c0_i32_642 v859
  v860.toNat
def k0_off8 (d0 : Dev nD) (c1_i32_646 : BitVec 32) : Fin 3 → Nat :=
  let c0_663 : Index := 0#32
  let c16_i32_662 : BitVec 32 := 16#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v867 : BitVec 32 := Scalar.addi v2 c1_i32_646
  let c8_i32_647 : BitVec 32 := 8#32
  let c0_i32_648 : BitVec 32 := 0#32
  let v868 : BitVec 1 := Scalar.cmpi .eq c8_i32_647 c0_i32_648
  let c1_i32_649 : BitVec 32 := 1#32
  let v869 : BitVec 32 := Scalar.select v868 c1_i32_649 c8_i32_647
  let v870 : BitVec 32 := Scalar.remsi v867 v869
  let c0_i32_651 : BitVec 32 := 0#32
  let v872 : BitVec 1 := Scalar.cmpi .slt v870 c0_i32_651
  let c0_i32_652 : BitVec 32 := 0#32
  let v873 : BitVec 1 := Scalar.cmpi .slt v869 c0_i32_652
  let v874 : BitVec 1 := Scalar.xori v872 v873
  let c0_i32_650 : BitVec 32 := 0#32
  let v871 : BitVec 1 := Scalar.cmpi .ne v870 c0_i32_650
  let v875 : BitVec 1 := Scalar.andi v874 v871
  let v876 : BitVec 32 := Scalar.addi v870 v869
  let v877 : BitVec 32 := Scalar.select v875 v876 v870
  let v888 : BitVec 32 := Scalar.muli c16_i32_662 v877
  let v889 : Index := Scalar.indexCast v888
  let c0_664 : Index := 0#32
  ![0, v889.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S2x128x2048 : Shape := ⟨3, ![2, 128, 2048]⟩
abbrev S2x128x32x64 : Shape := ⟨4, ![2, 128, 32, 64]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S_ : Shape := ⟨0, ![]⟩
abbrev S2x32x128x1024 : Shape := ⟨4, ![2, 32, 128, 1024]⟩
abbrev S1x1x128x1024 : Shape := ⟨4, ![1, 1, 128, 1024]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x1024x32x64, .f32⟩
  | .hbm, ⟨3, _⟩ => ⟨S2x1024x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S128, .i32⟩
  | .hbm, ⟨8, _⟩ => ⟨S128x1, .i32⟩
  | .hbm, ⟨9, _⟩ => ⟨S1024, .i32⟩
  | .hbm, ⟨10, _⟩ => ⟨S1x1024, .i32⟩
  | .hbm, ⟨11, _⟩ => ⟨S128x1024, .i32⟩
  | .hbm, ⟨12, _⟩ => ⟨S128x1024, .i32⟩
  | .hbm, ⟨13, _⟩ => ⟨S128x1024, .i32⟩
  | .hbm, ⟨14, _⟩ => ⟨S128x1024, .i32⟩
  | .hbm, ⟨15, _⟩ => ⟨S_, .i32⟩
  | .hbm, ⟨16, _⟩ => ⟨S128x1024, .i32⟩
  | .hbm, ⟨17, _⟩ => ⟨S128x1024, .i1⟩
  | .hbm, ⟨18, _⟩ => ⟨S2x32x128x1024, .f32⟩
  | .hbm, ⟨19, _⟩ => ⟨S_, .f32⟩
  | .hbm, ⟨20, _⟩ => ⟨S2x32x128x1024, .f32⟩
  | .hbm, ⟨21, _⟩ => ⟨S2x32x128x1024, .f32⟩
  | .hbm, ⟨22, _⟩ => ⟨S1x1x128x1024, .i1⟩
  | .hbm, ⟨23, _⟩ => ⟨S_, .f32⟩
  | .hbm, ⟨24, _⟩ => ⟨S_, .f32⟩
  | .hbm, ⟨25, _⟩ => ⟨S2x32x128x1024, .i1⟩
  | .hbm, ⟨26, _⟩ => ⟨S2x32x128x1024, .f32⟩
  | .hbm, ⟨27, _⟩ => ⟨S2x32x128x1024, .f32⟩
  | .hbm, ⟨28, _⟩ => ⟨S_, .f32⟩
  | .hbm, ⟨29, _⟩ => ⟨S2x32x128, .f32⟩
  | .hbm, ⟨30, _⟩ => ⟨S2x32x128x1, .f32⟩
  | .hbm, ⟨31, _⟩ => ⟨S2x32x128x1024, .f32⟩
  | .hbm, ⟨32, _⟩ => ⟨S2x32x128x1024, .f32⟩
  | .hbm, ⟨33, _⟩ => ⟨S2x32x128x1024, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x32x128, .f32⟩
  | .hbm, ⟨39, _⟩ => ⟨S2x32x128x1, .f32⟩
  | .hbm, ⟨40, _⟩ => ⟨S_, .f32⟩
  | .hbm, ⟨41, _⟩ => ⟨S_, .f32⟩
  | .hbm, ⟨42, _⟩ => ⟨S2x32x128x1, .i1⟩
  | .hbm, ⟨43, _⟩ => ⟨S2x32x128x1, .f32⟩
  | .hbm, ⟨44, _⟩ => ⟨S2x32x128x1, .f32⟩
  | .hbm, ⟨45, _⟩ => ⟨S2x32x128x1024, .f32⟩
  | .hbm, ⟨46, _⟩ => ⟨S2x32x128x1024, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x32x128x1024, .i1⟩
  | .hbm, ⟨51, _⟩ => ⟨S2x32x128x1024, .f32⟩
  | .hbm, ⟨52, _⟩ => ⟨S2x32x128x1024, .f32⟩
  | .hbm, ⟨53, _⟩ => ⟨S2x32x64x128, .f32⟩
  | .hbm, ⟨54, _⟩ => ⟨S2x128x32x64, .f32⟩
  | .hbm, ⟨55, _⟩ => ⟨S2x128x2048, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KI.Cells.lean ====
/-
  THE CELLS OF THE CROSS-DEVICE PROTOCOL, AS A FINITE TABLE.

  Every device has one barrier cell and 58 DMA cells. A cell is named by its kind; `osem` is the semaphore behind it. The kernel's communication is
  listed per device: which cells of which devices it pays with a signal or with the landing of a copy (`dues`), and which cells of its own its copies
  pay when their source is read (`sendK`). Everything else about who pays whom is decided from these lists.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.TalkSites

@[expose] public section

noncomputable section

namespace Cert.KernelIdeal.Run

open Idealize.ShloMosaic Idealize.ShloMosaic.TcCoe
open Cert.KernelIdeal.Gen

/-- A device of the mesh. -/
abbrev D8 : Type := Dev nD

/-- The kinds of cells a device has. -/
inductive CK where
  /-- the barrier semaphore -/
  | bar
  /-- source of a scattered key (t = 0) or value (t = 1) chunk for device d -/
  | send (t : Fin 2) (d : Fin 8)
  /-- arrival of root j's key or value chunk -/
  | recv (t j : Fin 2)
  /-- arrival of a chunk to pass on -/
  | rrecv (s t : Fin 2)
  /-- source of a passed-on chunk -/
  | fwd (s t : Fin 2)
  /-- source of the reduce-scatter copy to the device i + 1 further round -/
  | rsS (i : Fin 7)
  /-- arrival of device s's partial rows -/
  | rsR (s : Fin 8)
  /-- source of the all-gather copy to the device i + 1 further round -/
  | agS (i : Fin 7)
  /-- arrival of device s's reduced rows -/
  | agR (s : Fin 8)
deriving DecidableEq

/-- The semaphore behind a cell. -/
def osem : CK → SemLoc sig
  | .bar => .reg (SemArray.scalar (sig.barrier 0 rfl) : Sems sig S_).sem
  | .send t d => .dma (⟨6 + 8 * t.val + d.val, by have := t.2; have := d.2; show _ < 64; omega⟩ : Fin 64)
  | .recv t j => .dma (⟨22 + 2 * t.val + j.val, by have := t.2; have := j.2; show _ < 64; omega⟩ : Fin 64)
  | .rrecv s t => .dma (⟨26 + 2 * s.val + t.val, by have := t.2; have := s.2; show _ < 64; omega⟩ : Fin 64)
  | .fwd s t => .dma (⟨30 + 2 * s.val + t.val, by have := t.2; have := s.2; show _ < 64; omega⟩ : Fin 64)
  | .rsS i => .dma (⟨34 + i.val, by have := i.2; show _ < 64; omega⟩ : Fin 64)
  | .rsR s => .dma (⟨41 + s.val, by have := s.2; show _ < 64; omega⟩ : Fin 64)
  | .agS i => .dma (⟨49 + i.val, by have := i.2; show _ < 64; omega⟩ : Fin 64)
  | .agR s => .dma (⟨56 + s.val, by have := s.2; show _ < 64; omega⟩ : Fin 64)

/-- The cell of DMA semaphore number n. -/
def ckN (n : ℕ) : CK :=
  if n < 22 then .send (Fin.ofNat 2 ((n - 6) / 8)) (Fin.ofNat 8 (n - 6))
  else if n < 26 then .recv (Fin.ofNat 2 ((n - 22) / 2)) (Fin.ofNat 2 (n - 22))
  else if n < 30 then .rrecv (Fin.ofNat 2 ((n - 26) / 2)) (Fin.ofNat 2 (n - 26))
  else if n < 34 then .fwd (Fin.ofNat 2 ((n - 30) / 2)) (Fin.ofNat 2 (n - 30))
  else if n < 41 then .rsS (Fin.ofNat 7 (n - 34))
  else if n < 49 then .rsR (Fin.ofNat 8 (n - 41))
  else if n < 56 then .agS (Fin.ofNat 7 (n - 49))
  else .agR (Fin.ofNat 8 (n - 56))

/-- The cell behind a semaphore. -/
def ckOf : SemLoc sig → CK
  | .reg _ => .bar
  | .dma n => ckN (n : Fin 64).val

theorem ckOf_osem (k : CK) : ckOf (osem k) = k := by
  cases k with
  | bar => rfl
  | send t d => revert t d; decide
  | recv t j => revert t j; decide
  | rrecv s t => revert s t; decide
  | fwd s t => revert s t; decide
  | rsS i => revert i; decide
  | rsR s => revert s; decide
  | agS i => revert i; decide
  | agR s => revert s; decide

theorem osem_inj {k k' : CK} (h : osem k = osem k') : k = k' := by rw [← ckOf_osem k, h, ckOf_osem]

/-- A device's cell. -/
abbrev cell (c : D8) (k : CK) : GSem nD τ sig := ((c : Thread nD τ), osem k)

/-- The kernel's own 58 DMA semaphores by number. -/
def osemN (i : Fin 58) : SemLoc sig := .dma (⟨i.val + 6, by have := i.2; show _ < 64; omega⟩ : Fin 64)

/-- All DMA cells of a device. -/
def ownK : List CK :=
  [.send 0 0, .send 0 1, .send 0 2, .send 0 3, .send 0 4, .send 0 5, .send 0 6, .send 0 7,
   .send 1 0, .send 1 1, .send 1 2, .send 1 3, .send 1 4, .send 1 5, .send 1 6, .send 1 7,
   .recv 0 0, .recv 0 1, .recv 1 0, .recv 1 1, .rrecv 0 0, .rrecv 0 1, .rrecv 1 0, .rrecv 1 1,
   .fwd 0 0, .fwd 0 1, .fwd 1 0, .fwd 1 1,
   .rsS 0, .rsS 1, .rsS 2, .rsS 3, .rsS 4, .rsS 5, .rsS 6,
   .rsR 0, .rsR 1, .rsR 2, .rsR 3, .rsR 4, .rsR 5, .rsR 6, .rsR 7,
   .agS 0, .agS 1, .agS 2, .agS 3, .agS 4, .agS 5, .agS 6,
   .agR 0, .agR 1, .agR 2, .agR 3, .agR 4, .agR 5, .agR 6, .agR 7]

theorem ownK_nodup : ownK.Nodup := by decide +kernel

theorem mem_ownK {k : CK} (h : k ≠ .bar) : k ∈ ownK := by
  cases k with
  | bar => exact absurd rfl h
  | send t d => revert t d; decide
  | recv t j => revert t j; decide
  | rrecv s t => revert s t; decide
  | fwd s t => revert s t; decide
  | rsS i => revert i; decide
  | rsR s => revert s; decide
  | agS i => revert i; decide
  | agR s => revert s; decide

theorem bar_notMem_ownK : CK.bar ∉ ownK := by decide

/-! ## Who pays what -/

/-- A payment: the device and the cell. -/
abbrev PayK : Type := D8 × CK

/-- The seven other devices, in the order the kernel addresses them. -/
def others (c : D8) : List D8 := [c + 1, c + 2, c + 3, c + 4, c + 5, c + 6, c + 7]

/-- The scatter's landings: first the chunks that are passed on, then the direct ones. -/
def scat (c : D8) : List PayK :=
  if c = 0 then
    [(1, .rrecv 0 0), (1, .rrecv 0 1), (1, .rrecv 1 0), (1, .rrecv 1 1), (3, .rrecv 0 0), (3, .rrecv 0 1), (4, .rrecv 0 0), (4, .rrecv 0 1),
     (1, .recv 0 0), (1, .recv 1 0), (3, .recv 0 0), (3, .recv 1 0), (4, .recv 0 0), (4, .recv 1 0)]
  else if c = 1 then
    [(0, .rrecv 0 0), (0, .rrecv 0 1), (0, .rrecv 1 0), (0, .rrecv 1 1), (2, .rrecv 0 0), (2, .rrecv 0 1), (5, .rrecv 0 0), (5, .rrecv 0 1),
     (0, .recv 0 1), (0, .recv 1 1), (2, .recv 0 1), (2, .recv 1 1), (5, .recv 0 1), (5, .recv 1 1)]
  else []

/-- What one relay block passes on: the device that runs it, its landing slot, the root, the device it passes to. -/
structure Rel where
  /-- the device that runs the block -/
  r : D8
  /-- its landing slot -/
  s : Fin 2
  /-- the root the chunk comes from -/
  j : Fin 2
  /-- the device the chunk goes to -/
  d : D8

/-- The eight relay blocks in the kernel's order. -/
def rel0 : Rel := ⟨1, 0, 0, 2⟩
@[inherit_doc rel0] def rel1 : Rel := ⟨1, 1, 0, 5⟩
@[inherit_doc rel0] def rel2 : Rel := ⟨3, 0, 0, 7⟩
@[inherit_doc rel0] def rel3 : Rel := ⟨4, 0, 0, 6⟩
@[inherit_doc rel0] def rel4 : Rel := ⟨0, 0, 1, 3⟩
@[inherit_doc rel0] def rel5 : Rel := ⟨0, 1, 1, 4⟩
@[inherit_doc rel0] def rel6 : Rel := ⟨2, 0, 1, 6⟩
@[inherit_doc rel0] def rel7 : Rel := ⟨5, 0, 1, 7⟩

/-- The landings of one relay block. -/
def relP (b : Rel) (c : D8) : List PayK := if c = b.r then [(b.d, .recv 0 b.j), (b.d, .recv 1 b.j)] else []

/-- All relay landings of a device. -/
def rels (c : D8) : List PayK :=
  relP rel0 c ++ (relP rel1 c ++ (relP rel2 c ++ (relP rel3 c ++ (relP rel4 c ++ (relP rel5 c ++ (relP rel6 c ++ relP rel7 c))))))

/-- The reduce-scatter's and the all-gather's landings. -/
def rsP (c : D8) : List PayK := (others c).map fun d => (d, .rsR c)
@[inherit_doc rsP] def agP (c : D8) : List PayK := (others c).map fun d => (d, .agR c)

/-- The landings of a device's copies, in program order. -/
def lands (c : D8) : List PayK := scat c ++ (rels c ++ (rsP c ++ agP c))

/-- The barrier signals, in program order. -/
def barP (c : D8) : List PayK := (others c).map fun d => (d, .bar)

/-- All that a device owes the others at launch. -/
def dues (c : D8) : List PayK := barP c ++ lands c

/-- The cells of its own that a device's copies pay when their source has been read. -/
def scatS (c : D8) : List CK :=
  if c = 0 then
    [.send 0 2, .send 1 2, .send 0 5, .send 1 5, .send 0 7, .send 1 7, .send 0 6, .send 1 6, .send 0 1, .send 1 1, .send 0 3, .send 1 3, .send 0 4, .send 1 4]
  else if c = 1 then
    [.send 0 3, .send 1 3, .send 0 4, .send 1 4, .send 0 6, .send 1 6, .send 0 7, .send 1 7, .send 0 0, .send 1 0, .send 0 2, .send 1 2, .send 0 5, .send 1 5]
  else []

/-- The source cells of one relay block. -/
def relS (b : Rel) (c : D8) : List CK := if c = b.r then [.fwd b.s 0, .fwd b.s 1] else []

/-- The arrival cells of one relay block. -/
def relR (b : Rel) (c : D8) : List CK := if c = b.r then [.rrecv b.s 0, .rrecv b.s 1] else []

/-- All source cells of a device's relay blocks. -/
def relsS (c : D8) : List CK :=
  relS rel0 c ++ (relS rel1 c ++ (relS rel2 c ++ (relS rel3 c ++ (relS rel4 c ++ (relS rel5 c ++ (relS rel6 c ++ relS rel7 c))))))

/-- All arrival cells of a device's relay blocks. -/
def relsR (c : D8) : List CK :=
  relR rel0 c ++ (relR rel1 c ++ (relR rel2 c ++ (relR rel3 c ++ (relR rel4 c ++ (relR rel5 c ++ (relR rel6 c ++ relR rel7 c))))))

/-- The source cells of the reduce-scatter and of the all-gather. -/
def rsSK : List CK := [.rsS 0, .rsS 1, .rsS 2, .rsS 3, .rsS 4, .rsS 5, .rsS 6]
@[inherit_doc rsSK] def agSK : List CK := [.agS 0, .agS 1, .agS 2, .agS 3, .agS 4, .agS 5, .agS 6]

/-- All source cells a device uses, in program order. -/
def sendK (c : D8) : List CK := scatS c ++ (relsS c ++ (rsSK ++ agSK))

/-- The arrival cells of root j's chunks, on every device but root j. -/
def recvR (j : Fin 2) (c : D8) : List CK := if c.val = j.val then [] else [.recv 0 j, .recv 1 j]

/-- The arrival cells of the reduce-scatter and of the all-gather, in the order they are waited for. -/
def rsRK (c : D8) : List CK := (others c).map fun d => .rsR d
@[inherit_doc rsRK] def agRK (c : D8) : List CK := (others c).map fun d => .agR d

/-- All arrival cells a device waits on, in program order. -/
def recvK (c : D8) : List CK := relsR c ++ (recvR 0 c ++ (recvR 1 c ++ (rsRK c ++ agRK c)))

/-- The landing slots of a device: one per arrival cell, whether another device writes it or not. -/
def slotK : List CK :=
  [.recv 0 0, .recv 0 1, .recv 1 0, .recv 1 1, .rrecv 0 0, .rrecv 0 1, .rrecv 1 0, .rrecv 1 1,
   .rsR 0, .rsR 1, .rsR 2, .rsR 3, .rsR 4, .rsR 5, .rsR 6, .rsR 7,
   .agR 0, .agR 1, .agR 2, .agR 3, .agR 4, .agR 5, .agR 6, .agR 7]

/-- The slots no other device writes. -/
def keepK (c : D8) : List CK := slotK.filter fun k => decide (k ∉ recvK c)

/-- The cells of a device that nothing pays. -/
def idleK (c : D8) : List CK := ownK.filter fun k => decide (k ∉ recvK c ∧ k ∉ sendK c)

/-- What a device p hands device c with its barrier signal: the slots of p that c writes. -/
def handed (p c : D8) : List CK := ((lands c).filter fun x => decide (x.1 = p)).map Prod.snd

/-- The payers of a cell. -/
def payers (c : D8) (k : CK) : Finset D8 := Finset.univ.filter fun p => (c, k) ∈ dues p ∨ (p = c ∧ k ∈ sendK p)

/-- The slots of a device sorted into those others write and those it keeps. -/
theorem slots_perm : ∀ c : D8, slotK.Perm (recvK c ++ keepK c) := by decide +kernel
/-- The cells of a device sorted into those it waits on, those its copies pay, and the idle ones. -/
theorem cells_perm : ∀ c : D8, ownK.Perm (recvK c ++ (sendK c ++ idleK c)) := by decide +kernel
/-- The slots others write on p, sorted by writer. -/
theorem handed_perm : ∀ p : D8, (recvK p).Perm ((others p).flatMap fun c => handed p c) := by decide +kernel
/-- The slots device c writes, sorted by the device they are on. -/
theorem room_perm : ∀ c : D8, (lands c).Perm ((others c).flatMap fun p => (handed p c).map fun k => (p, k)) := by decide +kernel
/-- All payments to device c's cells: seven barrier units and one landing per arrival cell. -/
theorem creds_perm : ∀ c : D8, (((List.finRange nD).flatMap dues).filter fun x => decide (x.1 = c)).Perm
    (((others c).map fun _ => (c, .bar)) ++ (recvK c).map fun k => (c, k)) := by decide +kernel

theorem payers_bar : ∀ c : D8, payers c .bar = (others c).toFinset := by decide +kernel
theorem others_nodup : ∀ c : D8, (others c).Nodup := by decide +kernel
theorem payers_recv : ∀ c : D8, ∀ k ∈ recvK c, ∃ p, payers c k = {p} := by decide +kernel
theorem payers_send : ∀ c : D8, ∀ k ∈ sendK c, payers c k = {c} := by decide +kernel

end Cert.KernelIdeal.Run

end
-- ==== Proof.KI.Values.lean ====
/-
  WHAT THE BUFFERS HOLD.

  From a device's staged inputs: the buffers of the kernel as memrefs, the slots its copies read and write, and the contents each slot has once its
  copy has landed - the key and value tiles, the partial products of the attention output, the reduced rows, the output rows. The contents are
  written over any float values, as the printed payloads.
-/
module

public import proofs.«01_k».proof.Proof.KI.Cells

@[expose] public section

noncomputable section

namespace Cert.KernelIdeal.Run

open Idealize.ShloMosaic Idealize.ShloMosaic.TcCoe
open Cert.KernelIdeal Cert.KernelIdeal.Gen

/-! ## The buffers -/

abbrev xM : Memref sig .tc .vmem S2x128x512 .f32 := Memref.whole cc0_stg0_0
abbrev wqM : Memref sig .tc .vmem S512x256 .f32 := Memref.whole cc0_stg1_0
abbrev kM : Memref sig .tc .vmem S256x2048 .bf16 := Memref.whole cc0_stg2_0
abbrev vM : Memref sig .tc .vmem S256x2048 .bf16 := Memref.whole cc0_stg3_0
abbrev woM : Memref sig .tc .vmem S256x512 .f32 := Memref.whole cc0_stg4_0
abbrev outM : Memref sig .tc .vmem S2x128x512 .f32 := Memref.whole cc0_stg5_0
abbrev kvM : Memref sig .tc .vmem S2x2x256x256 .bf16 := Memref.whole cc0_scratch0
abbrev rlM : Memref sig .tc .vmem S2x2x256x256 .bf16 := Memref.whole cc0_scratch1
abbrev ptM : Memref sig .tc .vmem S2x128x512 .bf16 := Memref.whole cc0_scratch2
abbrev rsM : Memref sig .tc .vmem S8x2x16x512 .bf16 := Memref.whole cc0_scratch3
abbrev redM : Memref sig .tc .vmem S2x16x512 .bf16 := Memref.whole cc0_scratch4
abbrev agM : Memref sig .tc .vmem S8x2x16x512 .bf16 := Memref.whole cc0_scratch5

/-! ## The slots -/

theorem colInb (d : Fin 8) : ∀ a, (![0, 256 * d.val] : Fin 2 → ℕ) a + S256x256.size a ≤ S256x2048.size a := by
  revert d; decide
theorem slotInb (j t : Fin 2) : ∀ a, (![j.val, t.val, 0, 0] : Fin 4 → ℕ) a + S1x1x256x256.size a ≤ S2x2x256x256.size a := by
  revert j t; decide
theorem rowInb (s : Fin 8) : ∀ a, (![0, 16 * s.val, 0] : Fin 3 → ℕ) a + S2x16x512.size a ≤ S2x128x512.size a := by
  revert s; decide
theorem blkInb (s : Fin 8) : ∀ a, (![s.val, 0, 0, 0] : Fin 4 → ℕ) a + S1x2x16x512.size a ≤ S8x2x16x512.size a := by
  revert s; decide

/-- The 256 columns of the keys (four heads) meant for device d, -/
abbrev colR (d : Fin 8) : Rect S256x2048 := Rect.unit (s := S256x2048) ![0, 256 * d.val] S256x256.size (colInb d)
/-- slot (j, t) of a landing buffer of four tiles, -/
abbrev slotR (j t : Fin 2) : Rect S2x2x256x256 := Rect.unit (s := S2x2x256x256) ![j.val, t.val, 0, 0] S1x1x256x256.size (slotInb j t)
/-- the 16 rows of each batch that device s reduces, -/
abbrev rowR (s : Fin 8) : Rect S2x128x512 := Rect.unit (s := S2x128x512) ![0, 16 * s.val, 0] S2x16x512.size (rowInb s)
/-- block s of a landing buffer of eight blocks. -/
abbrev blkR (s : Fin 8) : Rect S8x2x16x512 := Rect.unit (s := S8x2x16x512) ![s.val, 0, 0, 0] S1x2x16x512.size (blkInb s)

abbrev kSl (d : Fin 8) : Memref sig .tc .vmem S256x256 .bf16 := kM.slice (colR d) (fun _ => rfl)
abbrev vSl (d : Fin 8) : Memref sig .tc .vmem S256x256 .bf16 := vM.slice (colR d) (fun _ => rfl)
abbrev kvSl (j t : Fin 2) : Memref sig .tc .vmem S256x256 .bf16 := (kvM.slice (slotR j t) (fun _ => rfl)).squeeze S256x256 squeezes_S1x1x256x256_S256x256
abbrev rlSl (s t : Fin 2) : Memref sig .tc .vmem S256x256 .bf16 := (rlM.slice (slotR s t) (fun _ => rfl)).squeeze S256x256 squeezes_S1x1x256x256_S256x256
abbrev ptSl (s : Fin 8) : Memref sig .tc .vmem S2x16x512 .bf16 := ptM.slice (rowR s) (fun _ => rfl)
abbrev outSl (s : Fin 8) : Memref sig .tc .vmem S2x16x512 .f32 := outM.slice (rowR s) (fun _ => rfl)
abbrev rsSl (s : Fin 8) : Memref sig .tc .vmem S2x16x512 .bf16 := (rsM.slice (blkR s) (fun _ => rfl)).squeeze S2x16x512 squeezes_S1x2x16x512_S2x16x512
abbrev agSl (s : Fin 8) : Memref sig .tc .vmem S2x16x512 .bf16 := (agM.slice (blkR s) (fun _ => rfl)).squeeze S2x16x512 squeezes_S1x2x16x512_S2x16x512

/-! ## Contents by slot -/

section Whole

variable {α : Type}

/-- An index of a tile, -/
def ix2 (a b : Fin 256) : S256x256.Idx := fun | 0 => a | 1 => b
/-- and of a block of rows, by its coordinates. -/
def ix3 (a : Fin 2) (b : Fin 16) (c : Fin 512) : S2x16x512.Idx := fun | 0 => a | 1 => b | 2 => c

theorem ix2_eq {a b : Fin 256} {x : S256x256.Idx} (h0 : a.val = (x 0).val) (h1 : b.val = (x 1).val) : ix2 a b = x := by
  funext i
  match i with
  | 0 => exact Fin.ext h0
  | 1 => exact Fin.ext h1
theorem ix3_eq {a : Fin 2} {b : Fin 16} {c : Fin 512} {x : S2x16x512.Idx} (h0 : a.val = (x 0).val) (h1 : b.val = (x 1).val) (h2 : c.val = (x 2).val) :
    ix3 a b c = x := by
  funext i
  match i with
  | 0 => exact Fin.ext h0
  | 1 => exact Fin.ext h1
  | 2 => exact Fin.ext h2

/-- Contents of a buffer of four tiles, from its tiles. -/
def whole22 (T : Fin 2 → Fin 2 → S256x256.Idx → α) : S2x2x256x256.Idx → α := fun i => T (i 0) (i 1) (ix2 (i 2) (i 3))
/-- Contents of a buffer of eight blocks, from its blocks. -/
def whole8 (T : Fin 8 → S2x16x512.Idx → α) : S8x2x16x512.Idx → α := fun i => T (i 0) (ix3 (i 1) (i 2) (i 3))
/-- The group of 16 rows a row is in. -/
def grp (r : Fin 128) : Fin 8 := ⟨r.val / 16, by have := r.2; omega⟩
/-- Contents of a buffer of 128 rows per batch, from its eight groups of 16 rows. -/
def wholeR (T : Fin 8 → S2x16x512.Idx → α) : S2x128x512.Idx → α := fun i =>
  T (grp (i 1)) (ix3 (i 0) ⟨(i 1).val % 16, Nat.mod_lt _ (by decide)⟩ (i 2))

end Whole

section Reads

variable {F : FTy → Type}

/-- A tile's index placed behind two unit axes. -/
theorem squeeze_tile (x : S256x256.Idx) : Shape.reshapeEquiv squeezes_S1x1x256x256_S256x256.numel_eq x = (fun | 0 => ⟨0, by decide⟩ | 1 => ⟨0, by decide⟩ | 2 => x 0 | 3 => x 1 : S1x1x256x256.Idx) := by
  have h1 : S256x256.numel = (⟨3, ![1, 256, 256]⟩ : Shape).numel := by decide
  have h2 : (⟨3, ![1, 256, 256]⟩ : Shape).numel = S1x1x256x256.numel := by decide
  have h := Shape.reshapeEquiv_reshapeEquiv h2 h1 x
  refine h.symm.trans ?_
  have e1 := Shape.reshapeEquiv_cons_one (n := 2) (d := ![256, 256]) h1 x
  have e2 := Shape.reshapeEquiv_cons_one (n := 3) (d := ![1, 256, 256]) h2 (Fin.cons ⟨0, Nat.one_pos⟩ x)
  refine (congrArg _ e1).trans (e2.trans ?_)
  funext a
  fin_cases a <;> rfl

/-- A block's index placed behind one unit axis. -/
theorem squeeze_block (x : S2x16x512.Idx) : Shape.reshapeEquiv squeezes_S1x2x16x512_S2x16x512.numel_eq x = (fun | 0 => ⟨0, by decide⟩ | 1 => x 0 | 2 => x 1 | 3 => x 2 : S1x2x16x512.Idx) := by
  have e1 := Shape.reshapeEquiv_cons_one (n := 3) (d := ![2, 16, 512]) squeezes_S1x2x16x512_S2x16x512.numel_eq x
  refine e1.trans ?_
  funext a
  fin_cases a <;> rfl

theorem kvSl_read (T : Fin 2 → Fin 2 → Vec F S256x256 .bf16) (j t : Fin 2) : (kvSl j t).view.read (Elt F) (whole22 T) = T j t := by
  funext x
  refine (congrArg (whole22 T) (congrArg (slotR j t).emb (squeeze_tile x))).trans ?_
  unfold whole22
  exact congr (congr (congrArg T (Fin.ext (by show j.val + 1 * 0 = j.val; omega))) (Fin.ext (by show t.val + 1 * 0 = t.val; omega)))
    (ix2_eq (by show 0 + 1 * (x 0).val = _; omega) (by show 0 + 1 * (x 1).val = _; omega))

theorem rlSl_read (T : Fin 2 → Fin 2 → Vec F S256x256 .bf16) (j t : Fin 2) : (rlSl j t).view.read (Elt F) (whole22 T) = T j t := kvSl_read T j t

theorem rsSl_read (T : Fin 8 → Vec F S2x16x512 .bf16) (s : Fin 8) : (rsSl s).view.read (Elt F) (whole8 T) = T s := by
  funext x
  refine (congrArg (whole8 T) (congrArg (blkR s).emb (squeeze_block x))).trans ?_
  unfold whole8
  exact congr (congrArg T (Fin.ext (by show s.val + 1 * 0 = s.val; omega)))
    (ix3_eq (by show 0 + 1 * (x 0).val = _; omega) (by show 0 + 1 * (x 1).val = _; omega) (by show 0 + 1 * (x 2).val = _; omega))

theorem agSl_read (T : Fin 8 → Vec F S2x16x512 .bf16) (s : Fin 8) : (agSl s).view.read (Elt F) (whole8 T) = T s := rsSl_read T s

theorem rowR_read {α : Type} (T : Fin 8 → S2x16x512.Idx → α) (s : Fin 8) (x : S2x16x512.Idx) : wholeR T ((rowR s).emb x) = T s x := by
  unfold wholeR
  have hx1 : (x 1).val < 16 := (x 1).2
  exact congr (congrArg T (Fin.ext (by show (16 * s.val + 1 * (x 1).val) / 16 = s.val; omega)))
    (ix3_eq (by show 0 + 1 * (x 0).val = _; omega) (by show (16 * s.val + 1 * (x 1).val) % 16 = (x 1).val; omega) (by show 0 + 1 * (x 2).val = _; omega))

end Reads

/-! ## The inputs and what the kernel makes of them -/

/-- The staged inputs of the eight devices. -/
structure In (F : FTy → Type) where
  /-- the activations -/
  x : D8 → Vec F S2x128x512 .f32
  /-- the device's columns of the query weights -/
  wq : D8 → Vec F S512x256 .f32
  /-- the device's keys, all heads side by side -/
  k : D8 → Vec F S256x2048 .bf16
  /-- the device's values -/
  v : D8 → Vec F S256x2048 .bf16
  /-- the device's rows of the output weights -/
  wo : D8 → Vec F S256x512 .f32

/-- The relays' table: the root whose chunk device r passes on from slot s, -/
def relJ (r : D8) (s : Fin 2) : Fin 2 := if r = 0 ∨ r = 2 ∨ r = 5 then 1 else 0
/-- and the device it passes it to. -/
def relD (r : D8) (s : Fin 2) : D8 :=
  if r = 1 ∧ s = 0 then 2 else if r = 1 then 5 else if r = 3 then 7 else if r = 4 then 6 else if r = 0 ∧ s = 0 then 3 else if r = 0 then 4
  else if r = 2 then 6 else 7

/-- A root as a device. -/
abbrev rootD (j : Fin 2) : D8 := ⟨j.val, by have := j.2; show _ < 8; omega⟩

variable {F : FTy → Type} [FloatOps F] [Named F]

section Contents

variable (I : In F)

/-- Root j's key (t = 0) or value (t = 1) tile for device d. -/
def tile (j t : Fin 2) (d : D8) : Vec F S256x256 .bf16 :=
  match t with
  | 0 => (kSl d).view.read (Elt F) (I.k (rootD j))
  | 1 => (vSl d).view.read (Elt F) (I.v (rootD j))

/-- Device d's four tiles once everything has landed. -/
def kvW (d : D8) : Vec F S2x2x256x256 .bf16 := whole22 fun j t => tile I j t d
/-- Device r's relay slots once the chunks to pass on have landed. -/
def rlW (r : D8) : Vec F S2x2x256x256 .bf16 := whole22 fun s t => tile I (relJ r s) t (relD r s)

/-- A head's keys (t = 0) or values (t = 1) from one root: rows 128 b + …, columns 64 h + …. -/
def ld (d : D8) (o : Fin 4 → ℕ) (h : ∀ a, o a + S1x1x128x64.size a ≤ S2x2x256x256.size a) : Vec F S1x1x128x64 .bf16 :=
  kvM.view.readAt (Elt F) (Rect.unit (s := S2x2x256x256) o S1x1x128x64.size h).toLoadRect (kvW I d)

/-- The queries of the two batches. -/
def q0 (d : D8) : FVec F S128x256 .bf16 :=
  k0_pay5 (xM.view.readAt (Elt F) (Rect.unit (s := S2x128x512) ![0, 0, 0] S1x128x512.size inb_S2x128x512_S1x128x512_0_0_0).toLoadRect (I.x d))
    (wqM.view.readAt (Elt F) (Rect.unit (s := S512x256) ![0, 0] S512x256.size inb_S512x256_S512x256_0_0).toLoadRect (I.wq d))
@[inherit_doc q0] def q1 (d : D8) : FVec F S128x256 .bf16 :=
  k0_pay6 (xM.view.readAt (Elt F) (Rect.unit (s := S2x128x512) ![1, 0, 0] S1x128x512.size inb_S2x128x512_S1x128x512_1_0_0).toLoadRect (I.x d))
    (wqM.view.readAt (Elt F) (Rect.unit (s := S512x256) ![0, 0] S512x256.size inb_S512x256_S512x256_0_0).toLoadRect (I.wq d))

/-- The output weights as loaded. -/
def woL (d : D8) : Vec F S256x512 .f32 :=
  woM.view.readAt (Elt F) (Rect.unit (s := S256x512) ![0, 0] S256x512.size inb_S256x512_S256x512_0_0).toLoadRect (I.wo d)

/-- Batch 0: the heads' contexts, -/
def c00 (d : D8) : FVec F S128x64 .f32 :=
  k0_pay10 k0_pay7 (k0_pay8 (q0 I d)) (k0_pay9 (ld I d ![0, 0, 0, 0] inb_S2x2x256x256_S1x1x128x64_0_0_0_0) (ld I d ![1, 0, 0, 0] inb_S2x2x256x256_S1x1x128x64_1_0_0_0))
    (ld I d ![0, 1, 0, 0] inb_S2x2x256x256_S1x1x128x64_0_1_0_0) (ld I d ![1, 1, 0, 0] inb_S2x2x256x256_S1x1x128x64_1_1_0_0)
@[inherit_doc c00] def c01 (d : D8) : FVec F S128x64 .f32 :=
  k0_pay13 k0_pay7 (k0_pay11 (ld I d ![0, 1, 0, 64] inb_S2x2x256x256_S1x1x128x64_0_1_0_64) (ld I d ![1, 1, 0, 64] inb_S2x2x256x256_S1x1x128x64_1_1_0_64))
    (k0_pay12 (q0 I d) (ld I d ![0, 0, 0, 64] inb_S2x2x256x256_S1x1x128x64_0_0_0_64) (ld I d ![1, 0, 0, 64] inb_S2x2x256x256_S1x1x128x64_1_0_0_64))
    (Scalar.ofBits .f32 0x3E000000#32)
/-- the four heads' contexts side by side, -/
def cx0 (d : D8) : FVec F S128x256 .bf16 :=
  k0_pay16 (q0 I d) k0_pay7 (c00 I d) (c01 I d)
    (k0_pay14 (ld I d ![0, 1, 0, 128] inb_S2x2x256x256_S1x1x128x64_0_1_0_128) (ld I d ![1, 1, 0, 128] inb_S2x2x256x256_S1x1x128x64_1_1_0_128))
    (k0_pay15 (q0 I d) k0_pay7 (ld I d ![0, 0, 0, 128] inb_S2x2x256x256_S1x1x128x64_0_0_0_128) (ld I d ![1, 0, 0, 128] inb_S2x2x256x256_S1x1x128x64_1_0_0_128))
    (ld I d ![0, 0, 0, 192] inb_S2x2x256x256_S1x1x128x64_0_0_0_192) (ld I d ![1, 0, 0, 192] inb_S2x2x256x256_S1x1x128x64_1_0_0_192)
    (ld I d ![0, 1, 0, 192] inb_S2x2x256x256_S1x1x128x64_0_1_0_192) (ld I d ![1, 1, 0, 192] inb_S2x2x256x256_S1x1x128x64_1_1_0_192)
/-- and their product with the output weights. -/
def pt0 (d : D8) : FVec F S1x128x512 .bf16 := k0_pay17 (cx0 I d) (woL I d)

/-- Batch 1: the heads' contexts -/
def c10 (d : D8) : FVec F S128x64 .f32 :=
  k0_pay20 (k0_pay18 (ld I d ![0, 1, 128, 0] inb_S2x2x256x256_S1x1x128x64_0_1_128_0) (ld I d ![1, 1, 128, 0] inb_S2x2x256x256_S1x1x128x64_1_1_128_0))
    (k0_pay19 (q1 I d) k0_pay7 (ld I d ![0, 0, 128, 0] inb_S2x2x256x256_S1x1x128x64_0_0_128_0) (ld I d ![1, 0, 128, 0] inb_S2x2x256x256_S1x1x128x64_1_0_128_0))
@[inherit_doc c10] def c11 (d : D8) : FVec F S128x64 .f32 :=
  k0_pay21 (q1 I d) k0_pay7 (ld I d ![0, 0, 128, 64] inb_S2x2x256x256_S1x1x128x64_0_0_128_64) (ld I d ![1, 0, 128, 64] inb_S2x2x256x256_S1x1x128x64_1_0_128_64)
    (ld I d ![0, 1, 128, 64] inb_S2x2x256x256_S1x1x128x64_0_1_128_64) (ld I d ![1, 1, 128, 64] inb_S2x2x256x256_S1x1x128x64_1_1_128_64)
@[inherit_doc c10] def c12 (d : D8) : FVec F S128x64 .f32 :=
  k0_pay24 k0_pay7 (k0_pay22 (q1 I d)) (k0_pay23 (ld I d ![0, 0, 128, 128] inb_S2x2x256x256_S1x1x128x64_0_0_128_128))
    (ld I d ![1, 0, 128, 128] inb_S2x2x256x256_S1x1x128x64_1_0_128_128)
    (ld I d ![0, 1, 128, 128] inb_S2x2x256x256_S1x1x128x64_0_1_128_128) (ld I d ![1, 1, 128, 128] inb_S2x2x256x256_S1x1x128x64_1_1_128_128)
/-- and the product with the output weights. -/
def pt1 (d : D8) : FVec F S1x128x512 .bf16 :=
  k0_pay27 k0_pay7 (c10 I d) (c11 I d) (c12 I d) (k0_pay25 (q1 I d))
    (k0_pay26 (ld I d ![0, 0, 128, 192] inb_S2x2x256x256_S1x1x128x64_0_0_128_192) (ld I d ![1, 0, 128, 192] inb_S2x2x256x256_S1x1x128x64_1_0_128_192))
    (ld I d ![0, 1, 128, 192] inb_S2x2x256x256_S1x1x128x64_0_1_128_192) (ld I d ![1, 1, 128, 192] inb_S2x2x256x256_S1x1x128x64_1_1_128_192) (woL I d)

/-- Device d's partial products of both batches. -/
def ptW (d : D8) : Vec F S2x128x512 .bf16 := fun i =>
  if (i 0).val = 0 then pt0 I d (fun | 0 => ⟨0, by decide⟩ | 1 => i 1 | 2 => i 2) else pt1 I d (fun | 0 => ⟨0, by decide⟩ | 1 => i 1 | 2 => i 2)

/-- The partial rows device s sends to device c. -/
def ptRow (s c : D8) : Vec F S2x16x512 .bf16 := (ptSl c).view.read (Elt F) (ptW I s)

/-- Device c's landing buffer of partial rows. -/
def rsW (c : D8) : Vec F S8x2x16x512 .bf16 := whole8 fun s => ptRow I s c

/-- Block s of it as loaded. -/
def rsL (c s : D8) : Vec F S1x2x16x512 .bf16 := rsM.view.readAt (Elt F) (blkR s).toLoadRect (rsW I c)

/-- Device c's rows summed over the devices, all but the last addend, -/
def acc (c : D8) : FVec F S2x16x512 .f32 :=
  k0_pay32 (k0_pay31 (k0_pay30 (k0_pay29 (k0_pay28 (ptM.view.readAt (Elt F) (rowR c).toLoadRect (ptW I c))) (rsL I c (c + 1)) (rsL I c (c + 2)))
    (rsL I c (c + 3))) (rsL I c (c + 4)) (rsL I c (c + 5))) (rsL I c (c + 6))
/-- with the last addend, -/
def own (c : D8) : FVec F S2x16x512 .f32 := k0_pay33 (acc I c) (rsL I c (c + 7))
/-- and as the rows device c sends to the others. -/
def red (c : D8) : FVec F S2x16x512 .bf16 := k0_pay34 (acc I c) (rsL I c (c + 7))

/-- The landing buffer of reduced rows. -/
def agW : Vec F S8x2x16x512 .bf16 := whole8 fun s => red I s
/-- Block s of it as loaded. -/
def agL (s : D8) : Vec F S1x2x16x512 .bf16 := agM.view.readAt (Elt F) (blkR s).toLoadRect (agW I)

/-- The output of device c: its own rows as summed, the others' as received. -/
def outT (c s : D8) : Vec F S2x16x512 .f32 := if s = c then own I c else k0_pay35 (agL I s)
@[inherit_doc outT] def outW (c : D8) : Vec F S2x128x512 .f32 := wholeR (outT I c)

end Contents

end Cert.KernelIdeal.Run

end
-- ==== Proof.KI.Sched.lean ====
/-
  THE CROSS-DEVICE PROTOCOL AS A SCHEDULE.

  Every cell has one round, with one duty per device that pays it (the duty's name is the payer). A barrier duty hands the room the payer's landing
  slots are, for the copies the signalled device will make into them. The landing of a copy hands the slot over at the contents the copy brought; the
  reading of a copy's source hands the source back. The levels order the waits: barrier, relays, tiles, partial rows, reduced rows.
-/
module

public import proofs.«01_k».proof.Proof.KI.Values
public import Idealize.ShloMosaic.Lib.Pipeline.Regions
public import Idealize.ShloMosaic.Lib.Pipeline.RegionTalk
public import Idealize.ShloMosaic.Lib.Pipeline.Kit
public import Idealize.ShloMosaic.Lib.Pipeline.TalkSched
public import Idealize.ShloMosaic.Lib.Pipeline.BigSepL
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds
open Idealize.ShloMosaic.TalkSites (Pay tallyL addL addL_eq Fam)
open Pipeline

variable {F : FTy → Type} [FloatOps F] [Named F]

/-- The launch protocol's component and the rounds of the cells. -/
abbrev UU : Type := UR sig nD τ × URounds (GSem nD τ sig) D8

local notation "𝕄" => MT nD τ sig ℕ (Elt F) ℕ UU ℕ

abbrev EP : Emb (UR sig nD τ) 𝕄 := embL
abbrev ER : Emb (URounds (GSem nD τ sig) D8) 𝕄 := embR

/-- A device's elements of a view, at a share and contents. -/
abbrev pts {sp : Space} {s : Shape} {e : EltTy} (c : D8) (M : Memref sig .tc sp s e) (q : PosShare TreeShare)
    (f : Buf (Elt F) (M.view.loc (c : Thread nD τ))) : sProp 𝕄 :=
  M.view.loc (c : Thread nD τ) ↦[M.view.set]{q} f

/-- The seven shares of the reduced rows, one per copy in flight. -/
def shr : Fin 7 → PosShare TreeShare
  | 0 => fullShare.left
  | 1 => fullShare.right.left
  | 2 => fullShare.right.right.left
  | 3 => fullShare.right.right.right.left
  | 4 => fullShare.right.right.right.right.left
  | 5 => fullShare.right.right.right.right.right.left
  | 6 => fullShare.right.right.right.right.right.right

/-- The device i + 1 further round. -/
def nxt (c : D8) : Fin 7 → D8
  | 0 => c + 1 | 1 => c + 2 | 2 => c + 3 | 3 => c + 4 | 4 => c + 5 | 5 => c + 6 | 6 => c + 7

/-- The landing slot of a cell, at any contents. -/
def roomBuf (c : D8) : CK → sProp 𝕄
  | .recv t j => iprop(∃ f, pts c (kvSl j t) fullShare f)
  | .rrecv s t => iprop(∃ f, pts c (rlSl s t) fullShare f)
  | .rsR s => iprop(∃ f, pts c (rsSl s) fullShare f)
  | .agR s => iprop(∃ f, pts c (agSl s) fullShare f)
  | _ => iprop(emp)

/-- The room a copy lands in, handed over at the barrier. -/
def Room (x : PayK) : sProp 𝕄 := iprop(roomBuf x.1 x.2 ∗ reached ER (cell x.1 x.2) 0)

/-- What the barrier signal of p hands to c. -/
def barPay (p c : D8) : sProp 𝕄 := bigSepL (handed p c) fun k => Room (F := F) (p, k)

/-- A copy's units at its cells. -/
def amt : CK → ℕ
  | .bar => 1
  | .send _ _ | .recv _ _ | .rrecv _ _ | .fwd _ _ => (kvSl 0 0).view.dmaCredit
  | _ => (rsSl 0).view.dmaCredit

theorem amt_pos (k : CK) : 0 < amt k := by
  cases k <;> first | exact Nat.one_pos | exact (by decide +kernel : 0 < (kvSl 0 0).view.dmaCredit) | exact (by decide +kernel : 0 < (rsSl 0).view.dmaCredit)

/-- A cell's level. -/
def lvl : CK → ℕ
  | .bar => 1 | .rrecv _ _ => 2 | .recv _ _ => 3 | .rsR _ => 4 | .agR _ => 5 | _ => 0

section Sched

variable (I : In F)

/-- What the wait on a cell other than the barrier brings. -/
def pay (c : D8) : CK → sProp 𝕄
  | .bar => iprop(emp)
  | .recv t j => pts c (kvSl j t) fullShare (kvW I c)
  | .rrecv s t => pts c (rlSl s t) fullShare (rlW I c)
  | .rsR s => pts c (rsSl s) fullShare (rsW I c)
  | .agR s => pts c (agSl s) fullShare (agW I)
  | .send t d => if t = 0 then pts c (kSl d) fullShare (I.k c) else pts c (vSl d) fullShare (I.v c)
  | .fwd s t => pts c (rlSl s t) fullShare (rlW I c)
  | .rsS i => pts c (ptSl (nxt c i)) fullShare (ptW I c)
  | .agS i => pts c redM (shr i) (red I c)

/-- What device p's payment of a cell of c hands over. -/
def payP (p c : D8) (k : CK) : sProp 𝕄 := if k = .bar then barPay (F := F) p c else pay I c k

omit [FloatOps F] [Named F] in
theorem bigSepL_storable {J : Type} (l : List J) (Φ : J → sProp 𝕄) (h : ∀ i, Storable (upEmb : UEmb _ 𝕄) (Φ i)) :
    Storable (upEmb : UEmb _ 𝕄) (bigSepL l Φ) := by
  induction l with
  | nil => rw [bigSepL_nil]; exact Storable.emp _
  | cons i l ih => rw [bigSepL_cons]; have := h i; exact Storable.sep _ _ _

/-- The protocol. -/
def Rd : Schedule (GSem nD τ sig) D8 𝕄 where
  duties g r := if r = 0 ∧ g.1.2 = .tc ∧ g.2 = osem (ckOf g.2) then payers g.1.1 (ckOf g.2) else ∅
  unitless _ := False
  amount g _ _ := amt (ckOf g.2)
  payload g _ p := payP I p g.1.1 (ckOf g.2)
  amount_pos g _ _ _ := amt_pos _

instance Rd_storable (g : GSem nD τ sig) (r : ℕ) (p : D8) : Storable (upEmb : UEmb _ 𝕄) ((Rd I).payload g r p) := by
  show Storable upEmb (payP I p g.1.1 (ckOf g.2))
  have hr : ∀ k : CK, Storable (upEmb : UEmb _ 𝕄) (Room (F := F) (p, k)) := fun k => by
    unfold Room
    cases k <;> (dsimp only [roomBuf]; infer_instance)
  unfold payP barPay
  split
  · exact bigSepL_storable _ _ hr
  unfold pay
  (repeat' split) <;> infer_instance

variable (c : D8) (k : CK)

theorem duties_at : (Rd I).duties (cell c k) 0 = payers c k := by
  dsimp only [Rd]
  rw [ckOf_osem]
  exact if_pos ⟨rfl, rfl, rfl⟩

theorem duties_later (g : GSem nD τ sig) : ∀ r, 1 ≤ r → (Rd I).duties g r = ∅ := fun r hr => by
  dsimp only [Rd]; exact if_neg fun h => by omega

theorem amount_at (p : D8) : (Rd I).amount (cell c k) 0 p = amt k := by
  dsimp only [Rd]; rw [ckOf_osem]

theorem payload_at (p : D8) : (Rd I).payload (cell c k) 0 p = payP I p c k := by
  dsimp only [Rd]; rw [ckOf_osem]

theorem expect_one {p : D8} (h : payers c k = {p}) : (Rd I).expect (cell c k) 0 = amt k := by
  unfold Schedule.expect Schedule.amountOf
  rw [duties_at, h, Finset.sum_singleton, amount_at]

theorem rest_one {p : D8} (h : payers c k = {p}) (hk : k ≠ .bar) :
    bigSep ((Rd I).duties (cell c k) 0 \ ∅) (fun p => (Rd I).payload (cell c k) 0 p) = pay I c k := by
  rw [Finset.sdiff_empty, duties_at, h, bigSep_singleton, payload_at]
  exact if_neg hk

theorem expect_bar : (Rd I).expect (cell c .bar) 0 = 7 := by
  unfold Schedule.expect Schedule.amountOf
  rw [duties_at, payers_bar, Finset.sum_congr rfl fun p _ => amount_at I c .bar p]
  revert c; decide +kernel

theorem rest_bar : bigSep ((Rd I).duties (cell c .bar) 0 \ ∅) (fun p => (Rd I).payload (cell c .bar) 0 p)
    = bigSepL (others c) fun p => barPay (F := F) p c := by
  rw [Finset.sdiff_empty, duties_at, payers_bar, bigSep_eq_bigSepL _ (others_nodup c)]
  exact congrArg (bigSepL (others c)) (funext fun p => (payload_at I c .bar p).trans (if_pos rfl))

/-! ## What a landing makes of a slot -/

omit [FloatOps F] [Named F] in
/-- A view written at what a whole buffer's contents read as through it holds that buffer's contents. -/
theorem pts_write {sp : Space} {s : Shape} {e : EltTy} (M : Memref sig .tc sp s e) (q : PosShare TreeShare)
    (f g : Buf (Elt F) (M.view.loc (c : Thread nD τ))) (w : s.Idx → Elt F e) (h : M.view.read (Elt F) g = w) :
    (pts c M q (M.view.write (Elt F) f w Finset.univ) : sProp 𝕄) = pts c M q g := by
  subst h
  refine pointsTo_congr fun i hi => ?_
  obtain ⟨x, -, rfl⟩ := Finset.mem_map.mp hi
  have h1 := congrFun (View.read_write_univ (v := M.view) f (M.view.read (Elt F) g)) x
  rw [View.read_apply, View.read_apply] at h1
  exact eq_of_heq ((cast_heq _ _).symm.trans ((heq_of_eq h1).trans (cast_heq _ _)))

end Sched
end Cert.KernelIdeal.Run
end
-- ==== Proof.KI.Steps.lean ====
/-
  THE PROTOCOL'S STEPS.

  The kernel's state between two of its operations, as lists: the copies still to be made, the copies in flight (their source cells still to be waited
  for), the arrivals still to be waited for, the cells already back at zero, the slots and sources in hand, and the payments still owed. A copy takes its
  source out of the slots in hand and moves its cell to the cells in flight; a wait takes a cell to zero and puts what it brings in hand.
-/
module

public import proofs.«01_k».proof.Proof.KI.Sched

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds
open Idealize.ShloMosaic.TalkSites (Pay tallyL addL addL_eq Fam)
open Pipeline

variable {F : FTy → Type} [FloatOps F] [Named F]

local notation "𝕄" => MT nD τ sig ℕ (Elt F) ℕ UU ℕ

omit [FloatOps F] [Named F] in
theorem sEq {P Q : sProp 𝕄} (h₁ : P ⊢ Q) (h₂ : Q ⊢ P) : P = Q := BI.Entails.antisymm h₁ h₂

/-! ## The cells' family and their invariants -/

theorem osem_ownK_ne_bar : osem .bar ∉ (ownK.map osem).toFinset := fun h => by
  obtain ⟨k, hk, e⟩ := List.mem_map.mp (List.mem_toFinset.mp h)
  exact bar_notMem_ownK (osem_inj e ▸ hk)

/-- The cells, and the tokens of the duties a device pays. -/
def fam : Fam nD τ sig D8 1 where
  bar := osem .bar
  dorm _ := (ownK.map osem).toFinset
  toks c _ := ((dues c).map (fun x : PayK => (cell x.1 x.2, 0, c)) ++ (sendK c).map fun k => (cell c k, 0, c)).toFinset
  semKey _ := 0
  hsem j _ _ := (Subsingleton.elim _ _)
  hbar _ := osem_ownK_ne_bar
  tokKey x := (x.2.2, 0)
  htok c j x hx := by
    rcases List.mem_append.mp (List.mem_toFinset.mp hx) with h | h <;> obtain ⟨y, -, rfl⟩ := List.mem_map.mp h <;>
      exact Prod.ext rfl (Subsingleton.elim _ _)

/-- No kernel of the program is given a variant. -/
abbrev 𝒱₀ : Variants := Variants.none

/-- A device's weakest precondition. -/
abbrev WP (c : D8) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (κ : GSem nD τ sig → ℕ) (I : In F)

/-- The cells' invariants and the levels. -/
def Ctx : sProp 𝕄 := iprop(fam.cellInvs ER (Rd I) κ ∗ levAts (SiteBlocks.L 6) SiteBlocks.lv)

instance Ctx_persistent : BI.Persistent (Ctx κ I) := by unfold Ctx; infer_instance

theorem Ctx_inv (c : D8) (k : CK) : Ctx κ I ⊢ cellInv ER (Rd I) (κ (cell c k)) (cell c k) := by
  unfold Ctx
  refine sep_elim_left.trans ?_
  by_cases h : k = .bar
  · subst h; exact fam.cellInvs_bar ER (Rd I) κ c
  · exact fam.cellInvs_dorm ER (Rd I) κ c (j := 0) (List.mem_toFinset.mpr (List.mem_map.mpr ⟨k, mem_ownK h, rfl⟩))

theorem Ctx_lev : Ctx κ I ⊢ levAts (SiteBlocks.L 6) SiteBlocks.lv := by unfold Ctx; exact sep_elim_right

/-- A payment, as the tallies list it. -/
abbrev payT (l : List PayK) : List (Pay nD τ sig) := l.map fun x => (cell x.1 x.2, lvl x.2, amt x.2)

/-- What device c still owes. -/
def Ow (c : D8) (l : List PayK) : sProp 𝕄 := iprop(∃ W, owes (c : Thread nD τ) (tallyL (payT l)) W)

/-- A copy to be made: its source cell at the start, the arrival's duty, the room it lands in. -/
def Item (c : D8) (t : CK × PayK) : sProp 𝕄 :=
  iprop((atPos ER (cell c t.1) 0 ∅ 0 ∗ reached ER (cell c t.1) 0 ∗ dutyTok ER (cell c t.1) 0 c) ∗ dutyTok ER (cell t.2.1 t.2.2) 0 c ∗ Room t.2)

/-- A cell to be waited on, with the credit to wait. -/
def Wt (c : D8) (k : CK) : sProp 𝕄 := iprop(atPos ER (cell c k) 0 ∅ 0 ∗ cred (tallyAt (cell c k) (lvl k) (amt k)))

/-- A cell waited on and closed. -/
def Zero (c : D8) (k : CK) : sProp 𝕄 := semVal (cell c k) 0

/-- THE STATE: copies to make, copies in flight, arrivals to wait for, cells at zero, slots and sources in hand, payments owed, and the rest. -/
def St (c : D8) (its : List (CK × PayK)) (sw wts zs ps : List CK) (rest : List PayK) (R : sProp 𝕄) : sProp 𝕄 :=
  iprop(Ctx κ I ∗ bigSepL its (Item (F := F) c) ∗ bigSepL sw (Wt (F := F) c) ∗ bigSepL wts (Wt (F := F) c) ∗ bigSepL zs (Zero (F := F) c)
    ∗ bigSepL ps (pay I c) ∗ Ow (F := F) c rest ∗ R)

variable {κ I}
variable {c : D8} {its : List (CK × PayK)} {sw wts zs ps : List CK} {rest : List PayK}

/-- Something out of the state and back. -/
theorem St_out {R : sProp 𝕄} (P : sProp 𝕄) : St κ I c its sw wts zs ps rest iprop(P ∗ R) ⊣⊢ iprop(P ∗ St κ I c its sw wts zs ps rest R) := by
  unfold St
  constructor
  · iintro ⟨H1, H2, H3, H4, H5, H6, H7, HP, HR⟩
    isplitl [HP]; · iexact HP
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HR
  · iintro ⟨HP, H1, H2, H3, H4, H5, H6, H7, HR⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HP]; · iexact HP
    iexact HR

theorem St_mono {R : sProp 𝕄} {R' : sProp 𝕄} (h : R ⊢ R') : St κ I c its sw wts zs ps rest R ⊢ St κ I c its sw wts zs ps rest R' := by
  unfold St
  exact sep_mono_right (sep_mono_right (sep_mono_right (sep_mono_right (sep_mono_right (sep_mono_right (sep_mono_right h))))))

/-- The slots in hand as part of the rest, -/
theorem St_pays {R : sProp 𝕄} (l : List CK) : St κ I c its sw wts zs (l ++ ps) rest R = St κ I c its sw wts zs ps rest iprop(bigSepL l (pay I c) ∗ R) := by
  unfold St
  rw [bigSepL_append]
  refine sEq ?_ ?_
  · iintro ⟨H1, H2, H3, H4, H5, ⟨HP, H6⟩, H7, HR⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HP]; · iexact HP
    iexact HR
  · iintro ⟨H1, H2, H3, H4, H5, H6, H7, HP, HR⟩
    isplitl [H1]; · iexact H1
    isplitl [H2]; · iexact H2
    isplitl [H3]; · iexact H3
    isplitl [H4]; · iexact H4
    isplitl [H5]; · iexact H5
    isplitl [HP H6]; · isplitl [HP]; · iexact HP
                       iexact H6
    isplitl [H7]; · iexact H7
    iexact HR

/-! ## The copy -/

theorem wp_copy {R : sProp 𝕄} {α : Type} {Q : α → sProp 𝕄} {sp sp' : Space} {s : Shape} {e : EltTy} {srcM : Memref sig .tc sp s e} {dstM : Memref sig .tc sp' s e}
    {c' : D8} {sS sR : SemLoc sig} {hsc : dstM.view.ref.isScScratch = false} {hsrc : srcM.view.WordExact} {hdst : dstM.view.WordExact}
    {hsem : DmaTarget.Typed sp sR (.remote (Dev.tc c' : Thread nD τ) dstM sS hsc)} {k : PUnit → Prog (TpuEff nD τ sig (Elt F) Λ₀ .tc) α}
    (ks kp : CK) (x : PayK) (q : PosShare TreeShare) (fs : Buf (Elt F) (srcM.view.loc (c : Thread nD τ))) (g : Buf (Elt F) (dstM.view.loc (x.1 : Thread nD τ)))
    (hc : c' = x.1) (hsS : sS = osem ks) (hsR : sR = osem x.2)
    (hks : c ∈ payers c ks) (hx : c ∈ payers x.1 x.2) (hkb : ks ≠ .bar) (hxb : x.2 ≠ .bar)
    (hkp : pay I c kp = pts c srcM q fs) (hpay : pay I c ks = pts c srcM q fs)
    (hroom : roomBuf (F := F) x.1 x.2 = iprop(∃ f, pts x.1 dstM fullShare f)) (hland : pay I x.1 x.2 = pts x.1 dstM fullShare g)
    (hg : dstM.view.read (Elt F) g = srcM.view.read (Elt F) fs) (hN : dstM.view.amount sR = amt x.2) (hN' : amt ks = amt x.2)
    (h : St κ I c its (ks :: sw) wts zs ps rest R ⊢ WP c (k ⟨⟩) Q) :
    St κ I c ((ks, x) :: its) sw wts zs (kp :: ps) (x :: rest) R
      ⊢ WP c (.op (.enqueueDma srcM (.remote (Dev.tc c' : Thread nD τ) dstM sS hsc) sR hsrc hdst hsem) k) Q := by
  subst hc hsS hsR
  unfold St Ow
  rw [bigSepL_cons', bigSepL_cons']
  unfold Item Room
  iintro ⟨#Hctx, ⟨⟨⟨Hat, #Hre, Htk⟩, Htx, Hroom, #Hrx⟩, Hits⟩, Hsw, Hwts, Hzs, ⟨Hsrc, Hps⟩, ⟨%W, HO⟩, HR⟩
  ihave Hf := (Entails.of_eq hroom) $$ Hroom
  icases Hf with ⟨%fd, Hd⟩
  ihave Hs := (Entails.of_eq hkp) $$ Hsrc
  iapply (Rounds.wp_send_pointsTo 𝒱₀ ER (Rd I) (c : Thread nD τ) none (c' := (x.1 : Thread nD τ)) (κ₁ := κ (cell c ks)) (κ₂ := κ (cell x.1 x.2))
    (r₁ := 0) (r₂ := 0) (d₁ := c) (d₂ := c) (fd := fd)
    (by rw [duties_at]; exact hks) (by rw [duties_at]; exact hx)
    (lvl x.2) (lvl ks) (amt x.2) hN ((amount_at I c ks c).trans hN') (amount_at I x.1 x.2 c) (tallyL (payT rest))
    (add_comm _ _) (W := W)
    (by rw [payload_at]; exact Entails.of_eq (hpay.symm.trans (if_neg hkb).symm))
    (by rw [payload_at]
        exact Entails.of_eq ((pts_write x.1 dstM fullShare fd g _ hg).trans (hland.symm.trans (if_neg hxb).symm)))) $$ [Htk Htx Hd Hs HO]
  · isplitr; · iapply (Ctx_inv κ I c ks); iexact Hctx
    isplitr; · iapply (Ctx_inv κ I x.1 x.2); iexact Hctx
    isplitl [Hs]; · iexact Hs
    isplitl [Hd]; · iexact Hd
    isplitl [HO]; · iexact HO
    isplitl [Htk]; · iexact Htk
    isplitr; · iexact Hre
    isplitl [Htx]; · iexact Htx
    iexact Hrx
  iintro ⟨Hcr, HO⟩
  iapply h
  unfold St Ow
  rw [bigSepL_cons']
  isplitr; · iexact Hctx
  isplitl [Hits]; · iexact Hits
  isplitl [Hsw Hat Hcr]
  · isplitl [Hat Hcr]
    · unfold Wt
      isplitl [Hat]; · iexact Hat
      rw [hN']; iexact Hcr
    iexact Hsw
  isplitl [Hwts]; · iexact Hwts
  isplitl [Hzs]; · iexact Hzs
  isplitl [Hps]; · iexact Hps
  isplitl [HO]; · iexists W; iexact HO
  iexact HR

/-! ## The wait -/

/-- A wait below everything still owed. -/
theorem mayWait_of (k : CK) (hl : ∀ x ∈ rest, lvl k < lvl x.2) : Ctx κ I ⊢ MayWait (c : Thread nD τ) (osem k) (lvl k) (tallyL (payT rest)) := by
  have hlt : ∀ k : CK, lvl k < 6 := fun k => by cases k <;> (dsimp only [lvl]; decide)
  have h := TalkSites.mayWait_addL (nD := nD) (τ := τ) (sig := sig) (Val := Elt F) (U := UU) (N := 6) (e := 6) (i := lvl k) (hlt k) le_rfl
    (O := fun _ => 0) (SiteBlocks.above_zero 6 6) c (osem k) (payT rest) (fun y hy => by
      obtain ⟨x, hx, rfl⟩ := List.mem_map.mp hy
      exact ⟨rfl, hl x hx, hlt x.2⟩)
  rw [addL_eq, zero_add] at h
  exact (Ctx_lev κ I).trans h

/-- A wait on a cell, by its weakest precondition. -/
theorem wait_core {α : Type} {Q : α → sProp 𝕄} {w : TpuEff nD τ sig (Elt F) Λ₀ .tc PUnit} {N : ℕ} {k : PUnit → Prog (TpuEff nD τ sig (Elt F) Λ₀ .tc) α}
    (ck : CK) (hck : ∃ p, payers c ck = {p}) (hb : ck ≠ .bar)
    (hw : ∀ K : PUnit → sProp 𝕄, wpE (defs₀ (F := F)) 𝒱₀ (c : Thread nD τ) none Set.univ w K = waitSpec (c : Thread nD τ) Set.univ (osem ck) N K)
    (hN : N = amt ck) (hl : ∀ x ∈ rest, lvl ck < lvl x.2) :
    iprop(Ctx κ I ∗ Wt c ck ∗ Ow c rest ∗ ((Zero c ck ∗ pay I c ck ∗ Ow c rest) -∗ WP c (k ⟨⟩) Q)) ⊢ WP c (.op w k) Q := by
  obtain ⟨p, hp⟩ := hck
  subst hN
  unfold Wt Ow Zero
  iintro ⟨#Hctx, ⟨Hat, Hcr⟩, ⟨%W, HO⟩, Hk⟩
  iapply (Rounds.wp_wait_rest_token 𝒱₀ ER (Rd I) (c : Thread nD τ) none (κ := κ (cell c ck)) hw (Set.mem_univ _) (lvl ck) (O := tallyL (payT rest)) (W := W)
    (R := 0) (m := 0) (T := ∅) (by rw [Nat.zero_add]; exact (expect_one I c ck hp).symm)) $$ [Hat Hcr HO]
  · isplitr; · iapply (Ctx_inv κ I c ck); iexact Hctx
    isplitl [Hcr]; · iexact Hcr
    isplitl [HO]; · iexact HO
    isplitr; · iapply (mayWait_of (κ := κ) (I := I) (c := c) ck hl); iexact Hctx
    iexact Hat
  iintro ⟨HO, Hat, -, Hpay⟩
  ihave Hp := (Entails.of_eq (rest_one I c ck hp hb)) $$ Hpay
  ihave Hc := (Rounds.cell_close ER (Rd I) (g := cell c ck) (κ := κ (cell c ck)) (Es := Set.univ) (Set.mem_univ _) id (R := 0 + 1) (duties_later I _)) $$ [Hat]
  · isplitr; · iapply (Ctx_inv κ I c ck); iexact Hctx
    iexact Hat
  imod Hc with Hz
  iapply Hk
  isplitl [Hz]; · iexact Hz
  isplitl [Hp]; · iexact Hp
  iexists _; iexact HO

variable {α : Type} {sp sp' : Space} {s s' : Shape} {e e' : EltTy} {sem : DmaSem sig} {srcM : Memref sig .tc sp' s' e'}
    {dstM : Memref sig .tc sp s e} {hsrc : srcM.view.WordExact} {hdst : dstM.view.WordExact} {k : PUnit → Prog (TpuEff nD τ sig (Elt F) Λ₀ .tc) α}

/-- A wait for an arrival. -/
theorem wp_arrive {R : sProp 𝕄} {Q : α → sProp 𝕄} (ck : CK) (hsem : SemLoc.dma sem = osem ck) (hck : ∃ p, payers c ck = {p}) (hb : ck ≠ .bar) (hN : dstM.view.dmaCredit = amt ck)
    (hl : ∀ x ∈ rest, lvl ck < lvl x.2) (h : St κ I c its sw wts (ck :: zs) (ck :: ps) rest R ⊢ WP c (k ⟨⟩) Q) :
    St κ I c its sw (ck :: wts) zs ps rest R ⊢ WP c (.op (.waitDma2 sem srcM dstM hsrc hdst) k) Q := by
  refine BIBase.Entails.trans ?_ (wait_core (κ := κ) (I := I) (rest := rest) ck hck hb (fun K => (wpE_waitDma2_eq 𝒱₀ (c : Thread nD τ) none Set.univ K).trans (by rw [hsem])) hN hl)
  unfold St
  rw [bigSepL_cons']
  iintro ⟨#Hctx, Hits, Hsw, ⟨Hw, Hwts⟩, Hzs, Hps, HO, HR⟩
  isplitr; · iexact Hctx
  isplitl [Hw]; · iexact Hw
  isplitl [HO]; · iexact HO
  iintro ⟨Hz, Hp, HO⟩
  iapply h
  unfold St
  rw [bigSepL_cons', bigSepL_cons']
  isplitr; · iexact Hctx
  isplitl [Hits]; · iexact Hits
  isplitl [Hsw]; · iexact Hsw
  isplitl [Hwts]; · iexact Hwts
  isplitl [Hzs Hz]; · isplitl [Hz]; · iexact Hz
                      iexact Hzs
  isplitl [Hps Hp]; · isplitl [Hp]; · iexact Hp
                      iexact Hps
  isplitl [HO]; · iexact HO
  iexact HR

/-- A wait for a copy's source. -/
theorem wp_sent {R : sProp 𝕄} {Q : α → sProp 𝕄} (ck : CK) (hsem : SemLoc.dma sem = osem ck) (hck : ∃ p, payers c ck = {p}) (hb : ck ≠ .bar) (hN : dstM.view.dmaCredit = amt ck)
    (hl : ∀ x ∈ rest, lvl ck < lvl x.2) (h : St κ I c its sw wts (ck :: zs) (ck :: ps) rest R ⊢ WP c (k ⟨⟩) Q) :
    St κ I c its (ck :: sw) wts zs ps rest R ⊢ WP c (.op (.waitDma2 sem srcM dstM hsrc hdst) k) Q := by
  refine BIBase.Entails.trans ?_ (wait_core (κ := κ) (I := I) (rest := rest) ck hck hb (fun K => (wpE_waitDma2_eq 𝒱₀ (c : Thread nD τ) none Set.univ K).trans (by rw [hsem])) hN hl)
  unfold St
  rw [bigSepL_cons']
  iintro ⟨#Hctx, Hits, ⟨Hw, Hsw⟩, Hwts, Hzs, Hps, HO, HR⟩
  isplitr; · iexact Hctx
  isplitl [Hw]; · iexact Hw
  isplitl [HO]; · iexact HO
  iintro ⟨Hz, Hp, HO⟩
  iapply h
  unfold St
  rw [bigSepL_cons', bigSepL_cons']
  isplitr; · iexact Hctx
  isplitl [Hits]; · iexact Hits
  isplitl [Hsw]; · iexact Hsw
  isplitl [Hwts]; · iexact Hwts
  isplitl [Hzs Hz]; · isplitl [Hz]; · iexact Hz
                      iexact Hzs
  isplitl [Hps Hp]; · isplitl [Hp]; · iexact Hp
                      iexact Hps
  isplitl [HO]; · iexact HO
  iexact HR

end Steps
end Cert.KernelIdeal.Run
end
-- ==== Proof.KI.Copies.lean ====
/-
  THE KERNEL'S COPIES AND WAITS, KIND BY KIND.

  The five kinds of copies: a root's tile into a relay's slot, a root's tile into a device's tile slot, a relay's slot into a device's tile slot, partial
  rows into their reducer's block, reduced rows into every device's block. And the barrier.
-/
module

public import proofs.«01_k».proof.Proof.KI.Steps

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds
open Idealize.ShloMosaic.TalkSites (Pay tallyL addL addL_eq Fam)
open Pipeline

variable {F : FTy → Type} [FloatOps F] [Named F]

local notation "𝕄" => MT nD τ sig ℕ (Elt F) ℕ UU ℕ

/-! ## Who pays -/

theorem pays_due {c : D8} {x : PayK} (h : x ∈ lands c) : c ∈ payers x.1 x.2 :=
  Finset.mem_filter.mpr ⟨Finset.mem_univ _, Or.inl (List.mem_append_right _ h)⟩
theorem pays_own {c : D8} {k : CK} (h : k ∈ sendK c) : c ∈ payers c k :=
  Finset.mem_filter.mpr ⟨Finset.mem_univ _, Or.inr ⟨rfl, h⟩⟩
theorem pays_bar : ∀ c n : D8, n ∈ others c → c ∈ payers n .bar := by decide +kernel
theorem rsS_own : ∀ (c : D8) (i : Fin 7), CK.rsS i ∈ sendK c ∧ CK.agS i ∈ sendK c := by decide +kernel
theorem rsP_land : ∀ (c : D8) (i : Fin 7), (nxt c i, CK.rsR c) ∈ lands c ∧ (nxt c i, CK.agR c) ∈ lands c := by decide +kernel

/-- The columns of the keys (t = 0) or values (t = 1) for device d. -/
abbrev srcOf (t : Fin 2) (d : Fin 8) : Memref sig .tc .vmem S256x256 .bf16 :=
  match t with
  | 0 => kSl d
  | 1 => vSl d

section Copies

variable {κ : GSem nD τ sig → ℕ} {I : In F} {c : D8} {its : List (CK × PayK)} {sw wts zs ps : List CK} {rest : List PayK}
variable {α : Type} {s₀ : Shape} {srcM dstM : Memref sig .tc .vmem S256x256 .bf16} {srcN dstN : Memref sig .tc .vmem S2x16x512 .bf16}
  {c' : D8} {sS sR : SemLoc sig} {k : PUnit → Prog (TpuEff nD τ sig (Elt F) Λ₀ .tc) α}

theorem pay_send (t : Fin 2) (d : Fin 8) :
    pay I c (.send t d) = pts c (srcOf t d) fullShare (match t with | 0 => I.k c | 1 => I.v c) := by
  match t with
  | 0 => rfl
  | 1 => rfl

theorem tile_read (j t : Fin 2) (d : Fin 8) :
    tile I j t d = (srcOf t d).view.read (Elt F) (match t with | 0 => I.k (rootD j) | 1 => I.v (rootD j)) := by
  match t with
  | 0 => rfl
  | 1 => rfl

theorem copy_relay {R : sProp 𝕄} {Q : α → sProp 𝕄} {hsc : dstM.view.ref.isScScratch = false} {hsrc : srcM.view.WordExact} {hdst : dstM.view.WordExact}
    {hsem : DmaTarget.Typed .vmem sR (.remote (Dev.tc c' : Thread nD τ) dstM sS hsc)}
    (t : Fin 2) (d r : D8) (s j : Fin 2) (hM : srcM = srcOf t d) (hD : dstM = rlSl s t) (hc : c' = r) (hsS : sS = osem (.send t d))
    (hsR : sR = osem (.rrecv s t)) (hj : relJ r s = j) (hd : relD r s = d) (hr : c = rootD j)
    (hks : CK.send t d ∈ sendK c) (hx : (r, CK.rrecv s t) ∈ lands c)
    (h : St κ I c its (.send t d :: sw) wts zs ps rest R ⊢ WP c (k ⟨⟩) Q) :
    St κ I c ((.send t d, (r, .rrecv s t)) :: its) sw wts zs (.send t d :: ps) ((r, .rrecv s t) :: rest) R
      ⊢ WP c (.op (.enqueueDma srcM (.remote (Dev.tc c' : Thread nD τ) dstM sS hsc) sR hsrc hdst hsem) k) Q := by
  subst hM hD hr hj hd
  exact wp_copy (.send t _) (.send t _) (r, .rrecv s t) fullShare _ (rlW I r) hc hsS hsR (pays_own hks) (pays_due hx) (by simp) (by simp) (pay_send t _) (pay_send t _) rfl rfl
    ((rlSl_read _ s t).trans (tile_read _ t _)) (by subst hsR; rfl) rfl h

theorem copy_direct {R : sProp 𝕄} {Q : α → sProp 𝕄} {hsc : dstM.view.ref.isScScratch = false} {hsrc : srcM.view.WordExact} {hdst : dstM.view.WordExact}
    {hsem : DmaTarget.Typed .vmem sR (.remote (Dev.tc c' : Thread nD τ) dstM sS hsc)}
    (t : Fin 2) (d : D8) (j : Fin 2) (hM : srcM = srcOf t d) (hD : dstM = kvSl j t) (hc : c' = d) (hsS : sS = osem (.send t d))
    (hsR : sR = osem (.recv t j)) (hr : c = rootD j)
    (hks : CK.send t d ∈ sendK c) (hx : (d, CK.recv t j) ∈ lands c)
    (h : St κ I c its (.send t d :: sw) wts zs ps rest R ⊢ WP c (k ⟨⟩) Q) :
    St κ I c ((.send t d, (d, .recv t j)) :: its) sw wts zs (.send t d :: ps) ((d, .recv t j) :: rest) R
      ⊢ WP c (.op (.enqueueDma srcM (.remote (Dev.tc c' : Thread nD τ) dstM sS hsc) sR hsrc hdst hsem) k) Q := by
  subst hM hD hr
  exact wp_copy (.send t _) (.send t _) (d, .recv t j) fullShare _ (kvW I d) hc hsS hsR (pays_own hks) (pays_due hx) (by simp) (by simp) (pay_send t _) (pay_send t _) rfl rfl
    ((kvSl_read _ j t).trans (tile_read _ t _)) (by subst hsR; rfl) rfl h

theorem copy_fwd {R : sProp 𝕄} {Q : α → sProp 𝕄} {hsc : dstM.view.ref.isScScratch = false} {hsrc : srcM.view.WordExact} {hdst : dstM.view.WordExact}
    {hsem : DmaTarget.Typed .vmem sR (.remote (Dev.tc c' : Thread nD τ) dstM sS hsc)}
    (s t : Fin 2) (d : D8) (j : Fin 2) (hM : srcM = rlSl s t) (hD : dstM = kvSl j t) (hc : c' = d) (hsS : sS = osem (.fwd s t))
    (hsR : sR = osem (.recv t j)) (hj : relJ c s = j) (hd : relD c s = d)
    (hks : CK.fwd s t ∈ sendK c) (hx : (d, CK.recv t j) ∈ lands c)
    (h : St κ I c its (.fwd s t :: sw) wts zs ps rest R ⊢ WP c (k ⟨⟩) Q) :
    St κ I c ((.fwd s t, (d, .recv t j)) :: its) sw wts zs (.rrecv s t :: ps) ((d, .recv t j) :: rest) R
      ⊢ WP c (.op (.enqueueDma srcM (.remote (Dev.tc c' : Thread nD τ) dstM sS hsc) sR hsrc hdst hsem) k) Q := by
  subst hM hD hj hd
  exact wp_copy (.fwd s t) (.rrecv s t) (_, .recv t _) fullShare _ (kvW I _) hc hsS hsR (pays_own hks) (pays_due hx) (by simp) (by simp) rfl rfl rfl rfl
    ((kvSl_read _ _ t).trans (rlSl_read (fun s t => tile I (relJ c s) t (relD c s)) s t).symm) (by subst hsR; rfl) rfl h

theorem copy_rs {R : sProp 𝕄} {Q : α → sProp 𝕄} {hsc : dstN.view.ref.isScScratch = false} {hsrc : srcN.view.WordExact} {hdst : dstN.view.WordExact}
    {hsem : DmaTarget.Typed .vmem sR (.remote (Dev.tc c' : Thread nD τ) dstN sS hsc)}
    (i : Fin 7) (hM : srcN = ptSl (nxt c i)) (hD : dstN = rsSl c) (hc : c' = nxt c i) (hsS : sS = osem (.rsS i)) (hsR : sR = osem (.rsR c))
    (h : St κ I c its (.rsS i :: sw) wts zs ps rest R ⊢ WP c (k ⟨⟩) Q) :
    St κ I c ((.rsS i, (nxt c i, .rsR c)) :: its) sw wts zs (.rsS i :: ps) ((nxt c i, .rsR c) :: rest) R
      ⊢ WP c (.op (.enqueueDma srcN (.remote (Dev.tc c' : Thread nD τ) dstN sS hsc) sR hsrc hdst hsem) k) Q := by
  subst hM hD
  exact wp_copy (.rsS i) (.rsS i) (nxt c i, .rsR c) fullShare (ptW I c) (rsW I (nxt c i)) hc hsS hsR (pays_own (rsS_own c i).1) (pays_due (rsP_land c i).1) (by simp) (by simp)
    rfl rfl rfl rfl (rsSl_read _ c) (by subst hsR; rfl) rfl h

theorem copy_ag {R : sProp 𝕄} {Q : α → sProp 𝕄} {hsc : dstN.view.ref.isScScratch = false} {hsrc : srcN.view.WordExact} {hdst : dstN.view.WordExact}
    {hsem : DmaTarget.Typed .vmem sR (.remote (Dev.tc c' : Thread nD τ) dstN sS hsc)}
    (i : Fin 7) (hM : srcN = redM) (hD : dstN = agSl c) (hc : c' = nxt c i) (hsS : sS = osem (.agS i)) (hsR : sR = osem (.agR c))
    (h : St κ I c its (.agS i :: sw) wts zs ps rest R ⊢ WP c (k ⟨⟩) Q) :
    St κ I c ((.agS i, (nxt c i, .agR c)) :: its) sw wts zs (.agS i :: ps) ((nxt c i, .agR c) :: rest) R
      ⊢ WP c (.op (.enqueueDma srcN (.remote (Dev.tc c' : Thread nD τ) dstN sS hsc) sR hsrc hdst hsem) k) Q := by
  subst hM hD
  exact wp_copy (.agS i) (.agS i) (nxt c i, .agR c) (shr i) (red I c) (agW I) hc hsS hsR (pays_own (rsS_own c i).2) (pays_due (rsP_land c i).2) (by simp) (by simp)
    rfl rfl rfl rfl (agSl_read _ c) (by subst hsR; rfl) rfl h

end Copies

/-! ## The barrier -/

section Barrier

variable (κ : GSem nD τ sig → ℕ) (I : In F)

/-- The state up to the barrier's wait: the signals still to make, with what each hands over. -/
def StB (c : D8) (tos : List D8) (rest : List PayK) (R : sProp 𝕄) : sProp 𝕄 :=
  iprop(Ctx κ I ∗ bigSepL tos (fun n => iprop(dutyTok ER (cell n .bar) 0 c ∗ reached ER (cell n .bar) 0 ∗ barPay (F := F) c n))
    ∗ Ow (F := F) c (tos.map (fun n => (n, CK.bar)) ++ rest) ∗ R)

variable {κ I}
variable {c : D8} {tos : List D8} {rest : List PayK} {α : Type} {k : PUnit → Prog (TpuEff nD τ sig (Elt F) Λ₀ .tc) α}

theorem wp_sig {R : sProp 𝕄} {Q : α → sProp 𝕄} {sem : Sem sig} {dst : Thread nD τ} {N : ℕ} (n : D8) (hn : n ∈ others c) (hdst : dst = (n : Thread nD τ))
    (hsem : SemLoc.reg sem = osem .bar) (hN : 1 = N)
    (h : StB κ I c tos rest R ⊢ WP c (k ⟨⟩) Q) :
    StB κ I c (n :: tos) rest R ⊢ WP c (.op (.semSignal dst sem N) k) Q := by
  subst hdst
  unfold StB Ow
  rw [bigSepL_cons']
  iintro ⟨#Hctx, ⟨⟨Htk, #Hre, Hp⟩, Htos⟩, ⟨%W, HO⟩, HR⟩
  iapply (Rounds.wp_signal 𝒱₀ ER (Rd I) (c : Thread nD τ) none (dst := (n : Thread nD τ)) (κ := κ (cell n .bar)) (d := c) (r := 0)
      (by rw [hsem, duties_at]; exact pays_bar c n hn) (by rw [hsem, amount_at]; exact hN) (lvl .bar) (tallyL (payT (tos.map (fun n => (n, CK.bar)) ++ rest)))
      (O₀ := tallyL (payT ((n :: tos).map (fun n => (n, CK.bar)) ++ rest))) (by rw [hsem, ← hN]; exact add_comm _ _) (W := W)) $$ [Htk Hp HO]
  · rw [hsem]
    isplitr; · iapply (Ctx_inv κ I n .bar); iexact Hctx
    isplitl [HO]; · iexact HO
    isplitl [Htk]; · iexact Htk
    isplitl [Hp]; · rw [payload_at]; iapply (Entails.of_eq (show barPay (F := F) c n = payP I c n .bar from (if_pos rfl).symm)); iexact Hp
    iexact Hre
  iintro HO
  iapply h
  unfold StB Ow
  isplitr; · iexact Hctx
  isplitl [Htos]; · iexact Htos
  isplitl [HO]; · iexists W; iexact HO
  iexact HR

theorem wp_bar {R : sProp 𝕄} {Q : α → sProp 𝕄} {sem : Sem sig} {N : ℕ} (hsem : SemLoc.reg sem = osem .bar) (hN : N = 7) (hl : ∀ x ∈ rest, 1 < lvl x.2)
    (h : iprop(Ctx κ I ∗ Ow c rest ∗ atPos ER (cell c .bar) 1 ∅ 0 ∗ (bigSepL (others c) fun p => barPay (F := F) p c) ∗ R) ⊢ WP c (k ⟨⟩) Q) :
    StB κ I c [] rest iprop(atPos ER (cell c .bar) 0 ∅ 0 ∗ cred (tallyAt (cell c .bar) 1 7) ∗ R) ⊢ WP c (.op (.semWait sem N) k) Q := by
  subst hN
  unfold StB Ow
  iintro ⟨#Hctx, -, ⟨%W, HO⟩, Hat, Hcr, HR⟩
  iapply (Rounds.wp_wait_rest_token 𝒱₀ ER (Rd I) (c : Thread nD τ) none (κ := κ (cell c .bar)) (sm := osem .bar)
    (fun K => (wpE_semWait_eq 𝒱₀ (c : Thread nD τ) none Set.univ K).trans (by rw [hsem])) (Set.mem_univ _) 1 (O := tallyL (payT rest)) (W := W)
    (R := 0) (m := 0) (T := ∅) (by rw [Nat.zero_add]; exact (expect_bar I c).symm)) $$ [Hat Hcr HO]
  · isplitr; · iapply (Ctx_inv κ I c .bar); iexact Hctx
    isplitl [Hcr]; · iexact Hcr
    isplitl [HO]; · iexact HO
    isplitr; · iapply (mayWait_of (κ := κ) (I := I) (c := c) .bar hl); iexact Hctx
    iexact Hat
  iintro ⟨HO, Hat, -, Hpay⟩
  ihave Hp := (Entails.of_eq (rest_bar I c)) $$ Hpay
  iapply h
  unfold Ow
  isplitr; · iexact Hctx
  isplitl [HO]; · iexists _; iexact HO
  isplitl [Hat]; · iexact Hat
  isplitl [Hp]; · iexact Hp
  iexact HR

end Barrier

/-- A part's end. -/
theorem wp_done {c : D8} {α : Type} {a : α} {P : sProp 𝕄} {Q : α → sProp 𝕄} (h : P ⊢ Q a) : P ⊢ WP c (.ret a) Q := by
  show P ⊢ wp frame (wpE (defs₀ (F := F)) 𝒱₀ (c : Thread nD τ) none) Set.univ (Prog.ret a) Q
  rw [wp_ret]
  iintro H
  imodintro
  iapply h
  iexact H

/-- A part before the rest of the body. -/
theorem wp_then {c : D8} {α β : Type} {p : Prog (TpuEff nD τ sig (Elt F) Λ₀ .tc) α} {k : α → Prog (TpuEff nD τ sig (Elt F) Λ₀ .tc) β} {P : sProp 𝕄} {Q : β → sProp 𝕄}
    (h : P ⊢ WP c p fun a => WP c (k a) Q) : P ⊢ WP c (p >>= k) Q := by
  refine h.trans ?_
  exact Entails.of_eq (Idealize.SL.Sem.wp_bind frame (wpE (defs₀ (F := F)) 𝒱₀ (c : Thread nD τ) none) Set.univ p k Q).symm

/-! ## The kernel's parts on its own buffers -/

/-- A part of the kernel, run on the kernel's own buffers and semaphores. -/
abbrev app.{u} {β : Sort u} (f : (arg0 : Memref sig .tc .vmem S2x128x512 .f32) → arg0.IsWhole → (arg1 : Memref sig .tc .vmem S512x256 .f32) → arg1.IsWhole
    → (arg2 : Memref sig .tc .vmem S256x2048 .bf16) → arg2.IsWhole → (arg3 : Memref sig .tc .vmem S256x2048 .bf16) → arg3.IsWhole
    → (arg4 : Memref sig .tc .vmem S256x512 .f32) → arg4.IsWhole → (arg5 : Memref sig .tc .vmem S2x128x512 .f32) → arg5.IsWhole
    → (arg6 : Memref sig .tc .vmem S2x2x256x256 .bf16) → arg6.IsWhole → (arg7 : Memref sig .tc .vmem S2x2x256x256 .bf16) → arg7.IsWhole
    → (arg8 : Memref sig .tc .vmem S2x128x512 .bf16) → arg8.IsWhole → (arg9 : Memref sig .tc .vmem S8x2x16x512 .bf16) → arg9.IsWhole
    → (arg10 : Memref sig .tc .vmem S2x16x512 .bf16) → arg10.IsWhole → (arg11 : Memref sig .tc .vmem S8x2x16x512 .bf16) → arg11.IsWhole
    → DmaSems sig S2x8 → DmaSems sig S2x2 → DmaSems sig S2x2 → DmaSems sig S2x2 → DmaSems sig S7 → DmaSems sig S8 → DmaSems sig S7 → DmaSems sig S8 → β) : β :=
  f xM (Memref.isWhole_whole _) wqM (Memref.isWhole_whole _) kM (Memref.isWhole_whole _) vM (Memref.isWhole_whole _) woM (Memref.isWhole_whole _)
    outM (Memref.isWhole_whole _) kvM (Memref.isWhole_whole _) rlM (Memref.isWhole_whole _) ptM (Memref.isWhole_whole _) rsM (Memref.isWhole_whole _)
    redM (Memref.isWhole_whole _) agM (Memref.isWhole_whole _) cc0_scratch6 cc0_scratch7 cc0_scratch8 cc0_scratch9 cc0_scratch10 cc0_scratch11 cc0_scratch12 cc0_scratch13

end Cert.KernelIdeal.Run
end
-- ==== Proof.KI.Local.lean ====
/-
  STAGES WITHIN A DEVICE.

  The state's lists in another order, and the two roots' own tiles, which they copy without a message.
-/
module

public import proofs.«01_k».proof.Proof.KI.Copies

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

section

variable {κ : GSem nD τ sig → ℕ} {I : In F} {c : D8} {its its' : List (CK × PayK)} {sw sw' wts zs ps ps' : List CK} {rest : List PayK}

omit [FloatOps F] [Named F] in
theorem bigSepL_permL {α : Type} {l l' : List α} (h : l.Perm l') (Φ : α → sProp 𝕄) : bigSepL l Φ = bigSepL l' Φ := by
  induction h with
  | nil => rfl
  | cons x _ ih => rw [bigSepL_cons', bigSepL_cons', ih]
  | swap x y l =>
    rw [bigSepL_cons', bigSepL_cons', bigSepL_cons', bigSepL_cons']
    refine sEq ?_ ?_ <;>
    · iintro ⟨H1, H2, H3⟩
      isplitl [H2]; · iexact H2
      isplitl [H1]; · iexact H1
      iexact H3
  | trans _ _ h1 h2 => exact h1.trans h2

/-- The sent cells and the payloads in hand, in another order. -/
theorem St_perm {R : sProp 𝕄} (hs : sw.Perm sw') (hp : ps.Perm ps') : St κ I c its sw wts zs ps rest R = St κ I c its sw' wts zs ps' rest R := by
  unfold St
  rw [bigSepL_permL hs, bigSepL_permL hp]

omit [FloatOps F] [Named F] in
theorem set_sq (j t : Fin 2) : (kvSl j t).view.set = (kvM.slice (slotR j t) (fun _ => rfl)).view.set :=
  View.set_reshape (v := (kvM.slice (slotR j t) (fun _ => rfl)).view) _

omit [FloatOps F] [Named F] in
/-- A slot and the tile it is squeezed to are the same elements. -/
theorem pts_kv (j t : Fin 2) (q : PosShare TreeShare) (f : Buf (Elt F) ((kvSl j t).view.loc (c : Thread nD τ))) :
    (pts c (kvM.slice (slotR j t) (fun _ => rfl)) q f : sProp 𝕄) = pts c (kvSl j t) q f := by
  exact congrArg (fun S => ((kvM.slice (slotR j t) (fun _ => rfl)).view.loc (c : Thread nD τ) ↦[S]{q} f : sProp 𝕄)) (set_sq j t).symm

omit [FloatOps F] [Named F] in
/-- What the tile reads as, seen with its two unit axes. -/
theorem kv_slice_read (T : Fin 2 → Fin 2 → Vec F S256x256 .bf16) (j t : Fin 2) (w : Vec F S1x1x256x256 .bf16)
    (h : w = shapeCast S1x1x256x256 (T j t) shapeCasts_S256x256_S1x1x256x256) :
    (kvM.slice (slotR j t) (fun _ => rfl)).view.read (Elt F) (whole22 T) = w := by
  rw [h]
  funext x
  have h1 := congrFun (kvSl_read T j t) (Shape.reshapeEquiv shapeCasts_S256x256_S1x1x256x256 x)
  refine Eq.trans ?_ h1
  show _ = (kvM.slice (slotR j t) (fun _ => rfl)).view.read (Elt F) (whole22 T) (Shape.reshapeEquiv squeezes_S1x1x256x256_S256x256.numel_eq (Shape.reshapeEquiv shapeCasts_S256x256_S1x1x256x256 x))
  rw [Shape.reshapeEquiv_reshapeEquiv, Shape.reshapeEquiv_self]

variable {α : Type}

/-- A root copies its own key tile (t = 0) or value tile (t = 1) into its own slot. -/
theorem own_fill {Q : α → sProp 𝕄} {P : sProp 𝕄} (j t : Fin 2) (hc : c = rootD j) {N : Memref sig .tc .vmem S256x2048 .bf16} {g : Buf (Elt F) (N.view.loc (c : Thread nD τ))}
    {o : Fin 2 → ℕ} {ho : ∀ a, o a + S256x256.size a ≤ S256x2048.size a} {o' : Fin 4 → ℕ} {ho' : ∀ a, o' a + S1x1x256x256.size a ≤ S2x2x256x256.size a}
    (hr : o = ![0, 256 * (rootD j).val]) (hs : o' = ![j.val, t.val, 0, 0])
    {hl : N.view.LoadsAt (Rect.unit (s := S256x2048) o S256x256.size ho).toLoadRect}
    {hl' : kvM.view.LoadsAt (Rect.unit (s := S2x2x256x256) o' S1x1x256x256.size ho').toLoadRect}
    {hx : (kvM.access (Rect.unit (s := S2x2x256x256) o' S1x1x256x256.size ho')).Stores Finset.univ} {hm}
    {pay : Vec F S256x256 .bf16 → FVec F S1x1x256x256 .bf16} (hp : pay = fun w => shapeCast S1x1x256x256 w shapeCasts_S256x256_S1x1x256x256)
    (hg : (N.slice (colR (rootD j)) (fun _ => rfl)).view.read (Elt F) g = tile I j t c)
    {k : PUnit → Prog (TpuEff nD τ sig (Elt F) Λ₀ .tc) α}
    (h : iprop(pts c (N.slice (colR (rootD j)) (fun _ => rfl)) fullShare g ∗ pts c (kvSl j t) fullShare (kvW I c) ∗ P) ⊢ WP c (k ⟨⟩) Q) :
    iprop(pts c (N.slice (colR (rootD j)) (fun _ => rfl)) fullShare g ∗ (∃ f, pts c (kvSl j t) fullShare f) ∗ P)
      ⊢ WP c (.op (.load N (Rect.unit (s := S256x2048) o S256x256.size ho).toLoadRect hl) fun w =>
          .op (.load kvM (Rect.unit (s := S2x2x256x256) o' S1x1x256x256.size ho').toLoadRect hl') fun _ =>
          .op (.store kvM (Rect.unit (s := S2x2x256x256) o' S1x1x256x256.size ho') (pay w) Finset.univ hx hm) k) Q := by
  subst hr hs hp
  iintro ⟨HN, ⟨%f, Hkv⟩, HP⟩
  ihave Hkv := (BIBase.Entails.of_eq (pts_kv (F := F) (c := c) j t fullShare f).symm) $$ Hkv
  iapply wp_load_rect (m := N) (r := colR (rootD j)) 𝒱₀ (c : Thread nD τ) none Set.univ (Finset.Subset.refl _) $$ HN
  iintro HN
  iapply wp_load_rect (m := kvM) (r := slotR j t) 𝒱₀ (c : Thread nD τ) none Set.univ (Finset.Subset.refl _) $$ Hkv
  iintro Hkv
  iapply wp_store (m := kvM) (r := slotR j t) (Mk := Finset.univ) (S := (kvM.access (slotR j t)).set) 𝒱₀ (c : Thread nD τ) none Set.univ (Finset.Subset.refl _) $$ Hkv
  iintro Hkv
  iapply h
  isplitl [HN]; · iexact HN
  isplitl [Hkv]
  · iapply (BIBase.Entails.of_eq (pts_kv (F := F) (c := c) j t fullShare (kvW I c)))
    iapply (BIBase.Entails.of_eq (pts_write (F := F) (c := c) (kvM.slice (slotR j t) (fun _ => rfl)) fullShare f (kvW I c) _ (kv_slice_read _ j t _ (by rw [← hg]))))
    iexact Hkv
  iexact HP

end

end Cert.KernelIdeal.Run
end
-- ==== Proof.KI.Scatter.lean ====
/-
  THE SCATTER.

  Devices 0 and 1 copy their own key and value tiles into their own slots and start the copies of the other devices' tiles; the relays pass on what passes through them; every device waits for its four tiles.
-/
module

public import proofs.«01_k».proof.Proof.KI.Local

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

/-! ## Each block's share of the lists -/

/-- The scatter of root j: its source cells, its landings, and both side by side; nothing on the other devices. -/
def srcS (j : Fin 2) (c : D8) : List CK := if c = rootD j then scatS c else []
@[inherit_doc srcS] def dstS (j : Fin 2) (c : D8) : List PayK := if c = rootD j then scat c else []
@[inherit_doc srcS] def itS (j : Fin 2) (c : D8) : List (CK × PayK) := (srcS j c).zip (dstS j c)
/-- The tiles root j puts into its own slots. -/
def ownP (j : Fin 2) (c : D8) : List CK := if c = rootD j then [.recv 0 j, .recv 1 j] else []
/-- A relay block's copies. -/
def itR (b : Rel) (c : D8) : List (CK × PayK) := (relS b c).zip (relP b c)

theorem relay_facts (b : Rel) (hb : b ∈ [rel0, rel1, rel2, rel3, rel4, rel5, rel6, rel7]) (t : Fin 2) :
    CK.rrecv b.s t ∈ recvK b.r ∧ relJ b.r b.s = b.j ∧ relD b.r b.s = b.d ∧ CK.fwd b.s t ∈ sendK b.r ∧ (b.d, CK.recv t b.j) ∈ lands b.r := by
  simp only [List.mem_cons, List.not_mem_nil, or_false] at hb
  rcases hb with rfl | rfl | rfl | rfl | rfl | rfl | rfl | rfl <;> revert t <;> decide +kernel

section

variable {κ : GSem nD τ sig → ℕ} {I : In F} {c : D8} {its : List (CK × PayK)} {sw wts zs ps : List CK} {rest : List PayK}

/-- Root j's own columns of the keys and values, and its own slots. -/
def ownR (I : In F) (j : Fin 2) (c : D8) : sProp 𝕄 :=
  if c = rootD j then
    iprop((pts c (kSl (rootD j)) fullShare (I.k c) ∗ (∃ f, pts c (kvSl j 0) fullShare f)) ∗ (pts c (vSl (rootD j)) fullShare (I.v c) ∗ (∃ f, pts c (kvSl j 1) fullShare f)))
  else iprop(emp)
/-- Root j's own columns of the keys and values, once copied. -/
def ownQ (I : In F) (j : Fin 2) (c : D8) : sProp 𝕄 :=
  if c = rootD j then iprop(pts c (kSl (rootD j)) fullShare (I.k c) ∗ pts c (vSl (rootD j)) fullShare (I.v c)) else iprop(emp)

theorem St_swap {A B R : sProp 𝕄} : St κ I c its sw wts zs ps rest iprop(A ∗ B ∗ R) ⊢ St κ I c its sw wts zs ps rest iprop(B ∗ A ∗ R) := by
  refine St_mono ?_
  iintro ⟨HA, HB, HR⟩
  isplitl [HB]; · iexact HB
  isplitl [HA]; · iexact HA
  iexact HR

variable {α : Type}

/-- Both of a root's tiles, inside the state. -/
theorem St_fill {Q : α → sProp 𝕄} {R : sProp 𝕄} (j t : Fin 2) (hc : c = rootD j) {N : Memref sig .tc .vmem S256x2048 .bf16} {g : Buf (Elt F) (N.view.loc (c : Thread nD τ))}
    {o : Fin 2 → ℕ} {ho : ∀ a, o a + S256x256.size a ≤ S256x2048.size a} {o' : Fin 4 → ℕ} {ho' : ∀ a, o' a + S1x1x256x256.size a ≤ S2x2x256x256.size a}
    (hr : o = ![0, 256 * (rootD j).val]) (hs : o' = ![j.val, t.val, 0, 0])
    {hl : N.view.LoadsAt (Rect.unit (s := S256x2048) o S256x256.size ho).toLoadRect}
    {hl' : kvM.view.LoadsAt (Rect.unit (s := S2x2x256x256) o' S1x1x256x256.size ho').toLoadRect}
    {hx : (kvM.access (Rect.unit (s := S2x2x256x256) o' S1x1x256x256.size ho')).Stores Finset.univ} {hm}
    {pay : Vec F S256x256 .bf16 → FVec F S1x1x256x256 .bf16} (hp : pay = fun w => shapeCast S1x1x256x256 w shapeCasts_S256x256_S1x1x256x256)
    (hg : (N.slice (colR (rootD j)) (fun _ => rfl)).view.read (Elt F) g = tile I j t c)
    {k : PUnit → Prog (TpuEff nD τ sig (Elt F) Λ₀ .tc) α}
    (h : St κ I c its sw wts zs ps rest iprop((pts c (N.slice (colR (rootD j)) (fun _ => rfl)) fullShare g ∗ pts c (kvSl j t) fullShare (kvW I c)) ∗ R) ⊢ WP c (k ⟨⟩) Q) :
    St κ I c its sw wts zs ps rest iprop((pts c (N.slice (colR (rootD j)) (fun _ => rfl)) fullShare g ∗ (∃ f, pts c (kvSl j t) fullShare f)) ∗ R)
      ⊢ WP c (.op (.load N (Rect.unit (s := S256x2048) o S256x256.size ho).toLoadRect hl) fun w =>
          .op (.load kvM (Rect.unit (s := S2x2x256x256) o' S1x1x256x256.size ho').toLoadRect hl') fun _ =>
          .op (.store kvM (Rect.unit (s := S2x2x256x256) o' S1x1x256x256.size ho') (pay w) Finset.univ hx hm) k) Q := by
  refine (St_out _).1.trans ?_
  have h2 := own_fill (Q := Q) (P := St κ I c its sw wts zs ps rest R) (I := I) (hl := hl) (hl' := hl') (hx := hx) (hm := hm) (k := k) j t hc hr hs hp hg (by
    refine BIBase.Entails.trans ?_ ((St_out _).2.trans h)
    iintro ⟨H1, H2, H3⟩
    isplitl [H1 H2]; · isplitl [H1]; · iexact H1
                       iexact H2
    iexact H3)
  refine BIBase.Entails.trans ?_ h2
  iintro ⟨⟨H1, H2⟩, H3⟩
  isplitl [H1]; · iexact H1
  isplitl [H2]; · iexact H2
  iexact H3

theorem pay_recv (t j : Fin 2) : pay I c (.recv t j) = pts c (kvSl j t) fullShare (kvW I c) := rfl

/-- The end of a root's block: the two tiles join the payloads in hand. -/
theorem own_end {R : sProp 𝕄} (j : Fin 2) (hc : c = rootD j) :
    St κ I c its sw wts zs ps rest iprop((pts c (vSl (rootD j)) fullShare (I.v c) ∗ pts c (kvSl j 1) fullShare (kvW I c)) ∗ (pts c (kSl (rootD j)) fullShare (I.k c) ∗ pts c (kvSl j 0) fullShare (kvW I c)) ∗ R)
      ⊢ St κ I c its sw wts zs (ownP j c ++ ps) rest iprop(ownQ I j c ∗ R) := by
  rw [St_pays]
  refine St_mono ?_
  unfold ownP ownQ
  rw [if_pos hc, if_pos hc, bigSepL_cons', bigSepL_cons', bigSepL_nil, pay_recv, pay_recv]
  iintro ⟨⟨H1, H2⟩, ⟨H3, H4⟩, HR⟩
  isplitl [H2 H4]
  · isplitl [H4]; · iexact H4
    isplitl [H2]; · iexact H2
    iempintro
  isplitl [H1 H3]
  · isplitl [H3]; · iexact H3
    iexact H1
  iexact HR

/-- The other devices have no part in root j's block. -/
theorem own_skip {R X : sProp 𝕄} (j : Fin 2) (hc : c ≠ rootD j)
    (h : St κ I c its ((srcS j c).reverse ++ sw) wts zs (ownP j c ++ ps) rest iprop(ownQ I j c ∗ R) ⊢ X) :
    St κ I c (itS j c ++ its) sw wts zs (srcS j c ++ ps) (dstS j c ++ rest) iprop(ownR I j c ∗ R) ⊢ X := by
  simpa only [srcS, itS, dstS, ownP, ownR, ownQ, if_neg hc, List.reverse_nil, List.nil_append, List.zip_nil_left] using h

/-- A relay block's state, its lists written out; -/
theorem relay_at {R X : sProp 𝕄} (b : Rel) (hc : c = b.r)
    (h : St κ I c ((.fwd b.s 0, (b.d, .recv 0 b.j)) :: (.fwd b.s 1, (b.d, .recv 1 b.j)) :: its) sw (.rrecv b.s 0 :: .rrecv b.s 1 :: wts) zs ps
      ((b.d, .recv 0 b.j) :: (b.d, .recv 1 b.j) :: rest) R ⊢ X) :
    St κ I c (itR b c ++ its) sw (relR b c ++ wts) zs ps (relP b c ++ rest) R ⊢ X := by
  simp only [itR, relS, relR, relP, if_pos hc]
  exact h
/-- and afterwards; -/
theorem relay_end {R X : sProp 𝕄} (b : Rel) (hc : c = b.r)
    (h : St κ I c its ((relS b c).reverse ++ sw) wts ((relR b c).reverse ++ zs) ps rest R ⊢ X) :
    St κ I c its (.fwd b.s 1 :: .fwd b.s 0 :: sw) wts (.rrecv b.s 1 :: .rrecv b.s 0 :: zs) ps rest R ⊢ X := by
  simp only [relS, relR, if_pos hc] at h
  exact h
/-- the other devices have no part in it. -/
theorem relay_skip {R X : sProp 𝕄} (b : Rel) (hc : c ≠ b.r)
    (h : St κ I c its ((relS b c).reverse ++ sw) wts ((relR b c).reverse ++ zs) ps rest R ⊢ X) :
    St κ I c (itR b c ++ its) sw (relR b c ++ wts) zs ps (relP b c ++ rest) R ⊢ X := by
  simpa only [itR, relS, relR, relP, if_neg hc, List.reverse_nil, List.nil_append, List.zip_nil_left] using h

theorem relay_lvl {a : PayK} {t' : Fin 2} {s : Fin 2} (ha : 2 < lvl a.2) (hl : ∀ x ∈ rest, 2 < lvl x.2) : ∀ x ∈ a :: rest, lvl (.rrecv s t') < lvl x.2 :=
  List.forall_mem_cons.2 ⟨ha, hl⟩

/-- The waits for root j's tiles, on every device but the root. -/
theorem recv_at {R X : sProp 𝕄} (j : Fin 2) (hc : ¬ c.val = j.val) (h : St κ I c its sw (.recv 0 j :: .recv 1 j :: wts) zs ps rest R ⊢ X) :
    St κ I c its sw (recvR j c ++ wts) zs ps rest R ⊢ X := by
  simp only [recvR, if_neg hc]
  exact h
@[inherit_doc recv_at] theorem recv_end {R X : sProp 𝕄} (j : Fin 2) (hc : ¬ c.val = j.val) (h : St κ I c its sw wts ((recvR j c).reverse ++ zs) ((recvR j c).reverse ++ ps) rest R ⊢ X) :
    St κ I c its sw wts (.recv 1 j :: .recv 0 j :: zs) (.recv 1 j :: .recv 0 j :: ps) rest R ⊢ X := by
  simp only [recvR, if_neg hc] at h
  exact h
@[inherit_doc recv_at] theorem recv_skip {R X : sProp 𝕄} (j : Fin 2) (hc : c.val = j.val) (h : St κ I c its sw wts ((recvR j c).reverse ++ zs) ((recvR j c).reverse ++ ps) rest R ⊢ X) :
    St κ I c its sw (recvR j c ++ wts) zs ps rest R ⊢ X := by
  simp only [recvR, if_pos hc] at h ⊢
  exact h

/-- A relay waits for one tile and passes it on. -/
theorem relay_tile {R : sProp 𝕄} {Q : α → sProp 𝕄} (b : Rel) (t : Fin 2) (hc : c = b.r) (hb : b ∈ [rel0, rel1, rel2, rel3, rel4, rel5, rel6, rel7])
    {semW : DmaSem sig} {srcW dstW srcM dstM : Memref sig .tc .vmem S256x256 .bf16} {hsw : srcW.view.WordExact} {hdw : dstW.view.WordExact} {c' : D8} {sS sR : SemLoc sig}
    {hsc : dstM.view.ref.isScScratch = false} {hsrc : srcM.view.WordExact} {hdst : dstM.view.WordExact}
    {hsem : DmaTarget.Typed .vmem sR (.remote (Dev.tc c' : Thread nD τ) dstM sS hsc)} {k : PUnit → Prog (TpuEff nD τ sig (Elt F) Λ₀ .tc) α}
    (hw : SemLoc.dma semW = osem (.rrecv b.s t)) (hN : dstW.view.dmaCredit = amt (.rrecv b.s t)) (hM : srcM = rlSl b.s t) (hD : dstM = kvSl b.j t) (hc' : c' = b.d)
    (hsS : sS = osem (.fwd b.s t)) (hsR : sR = osem (.recv t b.j)) (hl : ∀ x ∈ rest, 2 < lvl x.2)
    (h : St κ I c its (.fwd b.s t :: sw) wts (.rrecv b.s t :: zs) ps rest R ⊢ WP c (k ⟨⟩) Q) :
    St κ I c ((.fwd b.s t, (b.d, .recv t b.j)) :: its) sw (.rrecv b.s t :: wts) zs ps ((b.d, .recv t b.j) :: rest) R
      ⊢ WP c (.op (.waitDma2 semW srcW dstW hsw hdw) fun _ => .op (.enqueueDma srcM (.remote (Dev.tc c' : Thread nD τ) dstM sS hsc) sR hsrc hdst hsem) k) Q := by
  subst hc
  obtain ⟨h1, h2, h3, h4, h5⟩ := relay_facts b hb t
  refine wp_arrive (.rrecv b.s t) hw (payers_recv _ _ h1) (by simp) hN (relay_lvl (show 2 < 3 by decide) hl) ?_
  exact copy_fwd b.s t b.d b.j hM hD hc' hsS hsR h2 h3 h4 h5 h

/-- A load of a buffer in hand. -/
theorem St_load {R : sProp 𝕄} {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {q : PosShare TreeShare} {f : Buf (Elt F) (m.view.loc (c : Thread nD τ))}
    (h : St κ I c its sw wts zs ps rest iprop(pts c m q f ∗ R) ⊢ WP c (k (m.view.readAt (Elt F) r f)) Q) :
    St κ I c its sw wts zs ps rest iprop(pts c m q f ∗ R) ⊢ WP c (.op (.load m r hl) k) Q := by
  refine (St_out _).1.trans ?_
  iintro ⟨H, HS⟩
  iapply wp_load (m := m) (r := r) (S := m.view.set) 𝒱₀ (c : Thread nD τ) none Set.univ (View.setOn_subset_set _ _) $$ H
  iintro H
  iapply ((St_out _).2.trans h)
  isplitl [H]; · iexact H
  iexact HS

end

end Cert.KernelIdeal.Run
end
-- ==== Proof.KI.Splits.lean ====
/-
  BUFFERS IN PARTS.

  A buffer cut along an axis is its parts: the keys and values in eight groups of columns, the landing buffers in slots, the rows in eight groups.
-/
module

public import proofs.«01_k».proof.Proof.KI.Scatter

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

omit [FloatOps F] [Named F] in
/-- A view cut into disjoint rectangles that cover it. -/
theorem pts_rects {s : Shape} {e : EltTy} {ι : Type} [Fintype ι] [DecidableEq ι] (l : List ι) (hl : (Finset.univ : Finset ι) = l.toFinset) (hn : l.Nodup) (M : Memref sig .tc .vmem s e)
    (R : ι → Rect s) (hs : ∀ i a, (R i).stride a = 1) (hd : ∀ i i', i ≠ i' → Disjoint (R i).set (R i').set) (hc : ∀ y : s.Idx, ∃ i, y ∈ (R i).set)
    (c : D8) (q : PosShare TreeShare) (f : Buf (Elt F) (M.view.loc (c : Thread nD τ))) :
    (pts c M q f : sProp 𝕄) = bigSepL l fun i => pts c (M.slice (R i) (hs i)) q f := by
  have hset : M.view.set = Finset.univ.biUnion fun i => (M.slice (R i) (hs i)).view.set := by
    ext y
    rw [Finset.mem_biUnion]
    refine ⟨fun hy => ?_, fun ⟨i, _, hi⟩ => View.set_slice_subset (v := M.view) (R i) hi⟩
    obtain ⟨x, -, rfl⟩ := Finset.mem_map.mp hy
    obtain ⟨i, hi⟩ := hc x
    exact ⟨i, Finset.mem_univ i, (View.set_slice (v := M.view) (R i)).symm ▸ Finset.mem_map_of_mem _ hi⟩
  rw [← bigSep_univ_eq_bigSepL l hl hn]
  have hdj : ∀ i ∈ (Finset.univ : Finset ι), ∀ i' ∈ (Finset.univ : Finset ι), i ≠ i' → Disjoint (M.slice (R i) (hs i)).view.set (M.slice (R i') (hs i')).view.set :=
    fun i _ i' _ hi => by
      rw [show (M.slice (R i) (hs i)).view.set = _ from View.set_slice (v := M.view) (R i), show (M.slice (R i') (hs i')).view.set = _ from View.set_slice (v := M.view) (R i')]
      exact (Finset.disjoint_map M.view.emb).mpr (hd i i' hi)
  have h2 := pointsTo_biUnion (ℓ := M.view.loc (c : Thread nD τ)) (q := q) (f := f) (Ix := ℕ) (Name := ℕ) (U := UU) (Lvl := ℕ) (T := ι) (Finset.univ : Finset ι) (fun i => (M.slice (R i) (hs i)).view.set) hdj
  rw [← hset] at h2
  exact h2

/-- All the groups, -/
def eight : List (Fin 8) := [0, 1, 2, 3, 4, 5, 6, 7]
/-- and all the slots. -/
def four : List (Fin 2 × Fin 2) := [(0, 0), (0, 1), (1, 0), (1, 1)]

theorem colR_disj (i i' : Fin 8) (h : i ≠ i') : Disjoint (colR i).set (colR i').set := by
  refine Rect.disjoint_of_separated _ _ 1 ?_
  show (256 = 0 ∨ 256 * i.val + 1 * (256 - 1) < 256 * i'.val) ∨ (256 = 0 ∨ 256 * i'.val + 1 * (256 - 1) < 256 * i.val)
  have := Fin.val_ne_of_ne h
  omega
theorem colR_cover (y : S256x2048.Idx) : ∃ i, y ∈ (colR i).set := by
  have h0 : (y 0).val < 256 := (y 0).isLt
  have h1 : (y 1).val < 2048 := (y 1).isLt
  refine ⟨⟨(y 1).val / 256, by omega⟩, (LoadRect.mem_set _).mpr fun a => ?_⟩
  fin_cases a
  · exact ⟨(y 0).val, h0, by show (y 0).val = 0 + 1 * (y 0).val; omega⟩
  · exact ⟨(y 1).val % 256, Nat.mod_lt _ (by decide), by show (y 1).val = 256 * ((y 1).val / 256) + 1 * ((y 1).val % 256); omega⟩

theorem rowR_disj (i i' : Fin 8) (h : i ≠ i') : Disjoint (rowR i).set (rowR i').set := by
  refine Rect.disjoint_of_separated _ _ 1 ?_
  show (16 = 0 ∨ 16 * i.val + 1 * (16 - 1) < 16 * i'.val) ∨ (16 = 0 ∨ 16 * i'.val + 1 * (16 - 1) < 16 * i.val)
  have := Fin.val_ne_of_ne h
  omega
theorem rowR_cover (y : S2x128x512.Idx) : ∃ i, y ∈ (rowR i).set := by
  have h0 : (y 0).val < 2 := (y 0).isLt
  have h1 : (y 1).val < 128 := (y 1).isLt
  have h2 : (y 2).val < 512 := (y 2).isLt
  refine ⟨⟨(y 1).val / 16, by omega⟩, (LoadRect.mem_set _).mpr fun a => ?_⟩
  fin_cases a
  · exact ⟨(y 0).val, h0, by show (y 0).val = 0 + 1 * (y 0).val; omega⟩
  · exact ⟨(y 1).val % 16, Nat.mod_lt _ (by decide), by show (y 1).val = 16 * ((y 1).val / 16) + 1 * ((y 1).val % 16); omega⟩
  · exact ⟨(y 2).val, h2, by show (y 2).val = 0 + 1 * (y 2).val; omega⟩

theorem blkR_disj (i i' : Fin 8) (h : i ≠ i') : Disjoint (blkR i).set (blkR i').set := by
  refine Rect.disjoint_of_separated _ _ 0 ?_
  show (1 = 0 ∨ i.val + 1 * (1 - 1) < i'.val) ∨ (1 = 0 ∨ i'.val + 1 * (1 - 1) < i.val)
  have := Fin.val_ne_of_ne h
  omega
theorem blkR_cover (y : S8x2x16x512.Idx) : ∃ i, y ∈ (blkR i).set := by
  refine ⟨y 0, (LoadRect.mem_set _).mpr fun a => ?_⟩
  fin_cases a
  · exact ⟨0, Nat.one_pos, by show (y 0).val = (y 0).val + 1 * 0; omega⟩
  · exact ⟨(y 1).val, (y 1).isLt, by show (y 1).val = 0 + 1 * (y 1).val; omega⟩
  · exact ⟨(y 2).val, (y 2).isLt, by show (y 2).val = 0 + 1 * (y 2).val; omega⟩
  · exact ⟨(y 3).val, (y 3).isLt, by show (y 3).val = 0 + 1 * (y 3).val; omega⟩

theorem slotR_disj (i i' : Fin 2 × Fin 2) (h : i ≠ i') : Disjoint (slotR i.1 i.2).set (slotR i'.1 i'.2).set := by
  by_cases h1 : i.1 = i'.1
  · refine Rect.disjoint_of_separated _ _ 1 ?_
    have := Fin.val_ne_of_ne fun h2 => h (Prod.ext h1 h2)
    show (1 = 0 ∨ i.2.val + 1 * (1 - 1) < i'.2.val) ∨ (1 = 0 ∨ i'.2.val + 1 * (1 - 1) < i.2.val)
    omega
  · refine Rect.disjoint_of_separated _ _ 0 ?_
    have := Fin.val_ne_of_ne h1
    show (1 = 0 ∨ i.1.val + 1 * (1 - 1) < i'.1.val) ∨ (1 = 0 ∨ i'.1.val + 1 * (1 - 1) < i.1.val)
    omega
theorem slotR_cover (y : S2x2x256x256.Idx) : ∃ i : Fin 2 × Fin 2, y ∈ (slotR i.1 i.2).set := by
  refine ⟨(y 0, y 1), (LoadRect.mem_set _).mpr fun a => ?_⟩
  fin_cases a
  · exact ⟨0, Nat.one_pos, by show (y 0).val = (y 0).val + 1 * 0; omega⟩
  · exact ⟨0, Nat.one_pos, by show (y 1).val = (y 1).val + 1 * 0; omega⟩
  · exact ⟨(y 2).val, (y 2).isLt, by show (y 2).val = 0 + 1 * (y 2).val; omega⟩
  · exact ⟨(y 3).val, (y 3).isLt, by show (y 3).val = 0 + 1 * (y 3).val; omega⟩

section

variable (c : D8) (q : PosShare TreeShare)

omit [FloatOps F] [Named F] in
/-- The keys by columns; -/
theorem kM_cols (f : Buf (Elt F) (kM.view.loc (c : Thread nD τ))) : (pts c kM q f : sProp 𝕄) = bigSepL eight fun d => pts c (kSl d) q f :=
  pts_rects eight (by decide) (by decide) kM colR (fun _ _ => rfl) colR_disj colR_cover c q f
omit [FloatOps F] [Named F] in
/-- the values by columns; -/
theorem vM_cols (f : Buf (Elt F) (vM.view.loc (c : Thread nD τ))) : (pts c vM q f : sProp 𝕄) = bigSepL eight fun d => pts c (vSl d) q f :=
  pts_rects eight (by decide) (by decide) vM colR (fun _ _ => rfl) colR_disj colR_cover c q f
omit [FloatOps F] [Named F] in
/-- the tiles by slots; -/
theorem kvM_slots (f : Buf (Elt F) (kvM.view.loc (c : Thread nD τ))) : (pts c kvM q f : sProp 𝕄) = bigSepL four fun i => pts c (kvSl i.1 i.2) q f :=
  (pts_rects four (by decide) (by decide) kvM (fun i => slotR i.1 i.2) (fun _ _ => rfl) slotR_disj slotR_cover c q f).trans
    (congrArg (bigSepL four) (funext fun i => pts_kv i.1 i.2 q f))
omit [FloatOps F] [Named F] in
/-- the relayed tiles by slots; -/
theorem rlM_slots (f : Buf (Elt F) (rlM.view.loc (c : Thread nD τ))) : (pts c rlM q f : sProp 𝕄) = bigSepL four fun i => pts c (rlSl i.1 i.2) q f :=
  (pts_rects four (by decide) (by decide) rlM (fun i => slotR i.1 i.2) (fun _ _ => rfl) slotR_disj slotR_cover c q f).trans
    (congrArg (bigSepL four) (funext fun i => congrArg (fun S => (rlM.view.loc (c : Thread nD τ) ↦[S]{q} f : sProp 𝕄))
      (View.set_reshape (v := (rlM.slice (slotR i.1 i.2) (fun _ => rfl)).view) _).symm))
omit [FloatOps F] [Named F] in
/-- the partial products by rows; -/
theorem ptM_rows (f : Buf (Elt F) (ptM.view.loc (c : Thread nD τ))) : (pts c ptM q f : sProp 𝕄) = bigSepL eight fun s => pts c (ptSl s) q f :=
  pts_rects eight (by decide) (by decide) ptM rowR (fun _ _ => rfl) rowR_disj rowR_cover c q f
omit [FloatOps F] [Named F] in
/-- the result by rows; -/
theorem outM_rows (f : Buf (Elt F) (outM.view.loc (c : Thread nD τ))) : (pts c outM q f : sProp 𝕄) = bigSepL eight fun s => pts c (outSl s) q f :=
  pts_rects eight (by decide) (by decide) outM rowR (fun _ _ => rfl) rowR_disj rowR_cover c q f
omit [FloatOps F] [Named F] in
/-- the gathered partial products by blocks; -/
theorem rsM_blks (f : Buf (Elt F) (rsM.view.loc (c : Thread nD τ))) : (pts c rsM q f : sProp 𝕄) = bigSepL eight fun s => pts c (rsSl s) q f :=
  (pts_rects eight (by decide) (by decide) rsM blkR (fun _ _ => rfl) blkR_disj blkR_cover c q f).trans
    (congrArg (bigSepL eight) (funext fun s => congrArg (fun S => (rsM.view.loc (c : Thread nD τ) ↦[S]{q} f : sProp 𝕄))
      (View.set_reshape (v := (rsM.slice (blkR s) (fun _ => rfl)).view) _).symm))
omit [FloatOps F] [Named F] in
/-- the gathered reduced rows by blocks. -/
theorem agM_blks (f : Buf (Elt F) (agM.view.loc (c : Thread nD τ))) : (pts c agM q f : sProp 𝕄) = bigSepL eight fun s => pts c (agSl s) q f :=
  (pts_rects eight (by decide) (by decide) agM blkR (fun _ _ => rfl) blkR_disj blkR_cover c q f).trans
    (congrArg (bigSepL eight) (funext fun s => congrArg (fun S => (agM.view.loc (c : Thread nD τ) ↦[S]{q} f : sProp 𝕄))
      (View.set_reshape (v := (agM.slice (blkR s) (fun _ => rfl)).view) _).symm))

variable {κ : GSem nD τ sig → ℕ} {I : In F} {its : List (CK × PayK)} {sw wts zs ps : List CK} {rest : List PayK}

theorem four_perm : ∀ c : D8, ((recvR 1 c).reverse ++ ((recvR 0 c).reverse ++ (ownP 1 c ++ (ownP 0 c ++ [])))).Perm (four.map fun i : Fin 2 × Fin 2 => CK.recv i.2 i.1) := by decide

variable {c}

/-- With all four tiles in hand, the tile buffer is whole. -/
theorem kv_whole {R : sProp 𝕄} :
    St κ I c its sw wts zs ((recvR 1 c).reverse ++ ((recvR 0 c).reverse ++ (ownP 1 c ++ (ownP 0 c ++ ps)))) rest R
      ⊢ St κ I c its sw wts zs ps rest iprop(pts c kvM fullShare (kvW I c) ∗ R) := by
  have h : (recvR 1 c).reverse ++ ((recvR 0 c).reverse ++ (ownP 1 c ++ (ownP 0 c ++ ps))) = ((recvR 1 c).reverse ++ ((recvR 0 c).reverse ++ (ownP 1 c ++ (ownP 0 c ++ [])))) ++ ps := by
    simp only [List.append_assoc, List.nil_append]
  rw [h, St_perm (List.Perm.refl sw) ((four_perm c).append (List.Perm.refl ps)), St_pays]
  refine St_mono ?_
  rw [kvM_slots, bigSepL_map]
  exact BIBase.Entails.rfl

end

end Cert.KernelIdeal.Run
end
-- ==== Proof.KI.BodyA.lean ====
/-
  THE BARRIER.

  Every device signals the seven others, handing each the room its copies will need, and waits for their seven signals.
-/
module

public import proofs.«01_k».proof.Proof.KI.Copies

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

theorem dev1_at : ∀ c : D8, (⟨k0_dev1 c, k0_dev1_lt c⟩ : D8) = c + 1 := by decide +kernel
theorem dev2_at : ∀ c : D8, (⟨k0_dev2 c, k0_dev2_lt c⟩ : D8) = c + 2 := by decide +kernel
theorem dev3_at : ∀ c : D8, (⟨k0_dev3 c, k0_dev3_lt c⟩ : D8) = c + 3 := by decide +kernel
theorem dev4_at : ∀ c : D8, (⟨k0_dev4 c, k0_dev4_lt c⟩ : D8) = c + 4 := by decide +kernel
theorem dev5_at : ∀ c : D8, (⟨k0_dev5 c, k0_dev5_lt c⟩ : D8) = c + 5 := by decide +kernel
theorem dev6_at : ∀ c : D8, (⟨k0_dev6 c, k0_dev6_lt c⟩ : D8) = c + 6 := by decide +kernel
theorem dev7_at : ∀ c : D8, (⟨k0_dev7 c, k0_dev7_lt c⟩ : D8) = c + 7 := by decide +kernel

/-- The device's place as the kernel computes it. -/
abbrev place (c : D8) : BitVec 32 := Scalar.remsi (Scalar.divsi (Dev.word c) 1#32) 8#32
/-- The barrier semaphore. -/
abbrev barSem : Sems sig S_ := SemArray.scalar (sig.barrier 0 rfl)

section

variable {κ : GSem nD τ sig → ℕ} {I : In F} {c : D8} {rest : List PayK}

theorem mem_others (c : D8) : c + 1 ∈ others c ∧ c + 2 ∈ others c ∧ c + 3 ∈ others c ∧ c + 4 ∈ others c ∧ c + 5 ∈ others c ∧ c + 6 ∈ others c ∧ c + 7 ∈ others c := by
  simp [others]

theorem part27 {R : sProp 𝕄} {Q : _ → sProp 𝕄}
    (h : ∀ a b e, StB κ I c [c + 3, c + 4, c + 5, c + 6, c + 7] rest R ⊢ Q ⟨c, place c, barSem, a, b, e⟩) :
    StB κ I c (others c) rest R ⊢ WP c (app (k0_part27 (F := F))) Q := by
  rw [app, k0_part27_eq_skeleton]; unfold k0_part27_skel
  simp only [semSignalWord, Prog.lift, Prog.bind_op, Prog.bind_ret, Prog.pure_eq_ret, wp_deviceId]
  have hm := mem_others c
  refine wp_sig (c + 1) hm.1 (congrArg Dev.tc (dev1_at c)) rfl rfl ?_
  refine wp_sig (c + 2) hm.2.1 (congrArg Dev.tc (dev2_at c)) rfl rfl ?_
  exact wp_done (h _ _ _)

theorem part28 {R : sProp 𝕄} {Q : _ → sProp 𝕄} (v2 v30 c8 : BitVec 32) (v31 : BitVec 1)
    (h : ∀ a, StB κ I c [c + 5, c + 6, c + 7] rest R ⊢ Q a) :
    StB κ I c [c + 3, c + 4, c + 5, c + 6, c + 7] rest R ⊢ WP c (app (k0_part28 (F := F)) c v2 barSem v30 c8 v31) Q := by
  rw [app, k0_part28_eq_skeleton]; unfold k0_part28_skel
  simp only [semSignalWord, Prog.lift, Prog.bind_op, Prog.bind_ret, Prog.pure_eq_ret]
  have hm := mem_others c
  refine wp_sig (c + 3) hm.2.2.1 (congrArg Dev.tc (dev3_at c)) rfl rfl ?_
  refine wp_sig (c + 4) hm.2.2.2.1 (congrArg Dev.tc (dev4_at c)) rfl rfl ?_
  exact wp_done (h _)

theorem part29 {R : sProp 𝕄} {Q : _ → sProp 𝕄} (v2 v59 : BitVec 32) (v64 : BitVec 1) (v65 : BitVec 32) (hl : ∀ x ∈ rest, 1 < lvl x.2)
    (h : iprop(Ctx κ I ∗ Ow c rest ∗ atPos ER (cell c .bar) 1 ∅ 0 ∗ (bigSepL (others c) fun p => barPay (F := F) p c) ∗ R) ⊢ Q (Scalar.cmpi .eq v2 0#32)) :
    StB κ I c [c + 5, c + 6, c + 7] rest iprop(atPos ER (cell c .bar) 0 ∅ 0 ∗ cred (tallyAt (cell c .bar) 1 7) ∗ R)
      ⊢ WP c (app (k0_part29 (F := F)) c v2 barSem v59 v64 v65) Q := by
  rw [app, k0_part29_eq_skeleton]; unfold k0_part29_skel
  simp only [semSignalWord, semWaitWord, Prog.lift, Prog.bind_op, Prog.bind_ret, Prog.pure_eq_ret]
  have hm := mem_others c
  refine wp_sig (c + 5) hm.2.2.2.2.1 (congrArg Dev.tc (dev5_at c)) rfl rfl ?_
  refine wp_sig (c + 6) hm.2.2.2.2.2.1 (congrArg Dev.tc (dev6_at c)) rfl rfl ?_
  refine wp_sig (c + 7) hm.2.2.2.2.2.2 (congrArg Dev.tc (dev7_at c)) rfl rfl ?_
  refine wp_bar rfl rfl hl ?_
  exact wp_done h

end

end Cert.KernelIdeal.Run
end
-- ==== Proof.KI.BodyB.lean ====
/-
  THE SCATTER'S PROGRAM.

  Part 30 of the kernel: the two roots' copies, the queries, the first four relay blocks.
-/
module

public import proofs.«01_k».proof.Proof.KI.Splits
public import proofs.«01_k».proof.Proof.KI.BodyA

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

theorem cond1_at : ∀ c : D8, k0_cond1 c = 1#1 ↔ c = rootD 0 := by decide +kernel
theorem cond2_at : ∀ c : D8, k0_cond2 c = 1#1 ↔ c = rootD 1 := by decide +kernel
theorem cond3_at : ∀ c : D8, k0_cond3 c = 1#1 ↔ c = rel0.r := by decide +kernel
theorem cond4_at : ∀ c : D8, k0_cond4 c = 1#1 ↔ c = rel1.r := by decide +kernel
theorem cond5_at : ∀ c : D8, k0_cond5 c = 1#1 ↔ c = rel2.r := by decide +kernel
theorem cond6_at : ∀ c : D8, k0_cond6 c = 1#1 ↔ c = rel3.r := by decide +kernel
theorem cond7_at : ∀ c : D8, k0_cond7 c = 1#1 ↔ c = rel4.r := by decide +kernel
theorem cond8_at : ∀ c : D8, k0_cond8 c = 1#1 ↔ c = rel5.r := by decide +kernel
theorem cond9_at : ∀ c : D8, k0_cond9 c = 1#1 ↔ c = rel6.r := by decide +kernel
theorem cond10_at : ∀ c : D8, k0_cond10 c = 1#1 ↔ c = rel7.r := by decide +kernel

theorem srcS0 : srcS 0 (rootD 0) = [.send 0 2, .send 1 2, .send 0 5, .send 1 5, .send 0 7, .send 1 7, .send 0 6, .send 1 6, .send 0 1, .send 1 1, .send 0 3, .send 1 3, .send 0 4, .send 1 4] := by decide +kernel
theorem dstS0 : dstS 0 (rootD 0) = [(1, .rrecv 0 0), (1, .rrecv 0 1), (1, .rrecv 1 0), (1, .rrecv 1 1), (3, .rrecv 0 0), (3, .rrecv 0 1), (4, .rrecv 0 0), (4, .rrecv 0 1), (1, .recv 0 0), (1, .recv 1 0), (3, .recv 0 0), (3, .recv 1 0), (4, .recv 0 0), (4, .recv 1 0)] := by decide +kernel
theorem itS0 : itS 0 (rootD 0) = [(.send 0 2, (1, .rrecv 0 0)), (.send 1 2, (1, .rrecv 0 1)), (.send 0 5, (1, .rrecv 1 0)), (.send 1 5, (1, .rrecv 1 1)), (.send 0 7, (3, .rrecv 0 0)), (.send 1 7, (3, .rrecv 0 1)), (.send 0 6, (4, .rrecv 0 0)), (.send 1 6, (4, .rrecv 0 1)), (.send 0 1, (1, .recv 0 0)), (.send 1 1, (1, .recv 1 0)), (.send 0 3, (3, .recv 0 0)), (.send 1 3, (3, .recv 1 0)), (.send 0 4, (4, .recv 0 0)), (.send 1 4, (4, .recv 1 0))] := by decide +kernel
theorem srcS1 : srcS 1 (rootD 1) = [.send 0 3, .send 1 3, .send 0 4, .send 1 4, .send 0 6, .send 1 6, .send 0 7, .send 1 7, .send 0 0, .send 1 0, .send 0 2, .send 1 2, .send 0 5, .send 1 5] := by decide +kernel
theorem dstS1 : dstS 1 (rootD 1) = [(0, .rrecv 0 0), (0, .rrecv 0 1), (0, .rrecv 1 0), (0, .rrecv 1 1), (2, .rrecv 0 0), (2, .rrecv 0 1), (5, .rrecv 0 0), (5, .rrecv 0 1), (0, .recv 0 1), (0, .recv 1 1), (2, .recv 0 1), (2, .recv 1 1), (5, .recv 0 1), (5, .recv 1 1)] := by decide +kernel
theorem itS1 : itS 1 (rootD 1) = [(.send 0 3, (0, .rrecv 0 0)), (.send 1 3, (0, .rrecv 0 1)), (.send 0 4, (0, .rrecv 1 0)), (.send 1 4, (0, .rrecv 1 1)), (.send 0 6, (2, .rrecv 0 0)), (.send 1 6, (2, .rrecv 0 1)), (.send 0 7, (5, .rrecv 0 0)), (.send 1 7, (5, .rrecv 0 1)), (.send 0 0, (0, .recv 0 1)), (.send 1 0, (0, .recv 1 1)), (.send 0 2, (2, .recv 0 1)), (.send 1 2, (2, .recv 1 1)), (.send 0 5, (5, .recv 0 1)), (.send 1 5, (5, .recv 1 1))] := by decide +kernel

theorem place_ne0 : ∀ c : D8, (c.val = (0 : Fin 2).val → ¬ Scalar.cmpi .ne (Scalar.extui (Scalar.cmpi .ne (place c) 0#32) : BitVec 32) 0#32 = 1#1)
    ∧ (¬ c.val = (0 : Fin 2).val → Scalar.cmpi .ne (Scalar.extui (Scalar.cmpi .ne (place c) 0#32) : BitVec 32) 0#32 = 1#1) := by decide +kernel
theorem place_ne1 : ∀ c : D8, (c.val = (1 : Fin 2).val → ¬ Scalar.cmpi .ne (Scalar.extui (Scalar.cmpi .ne (place c) 1#32) : BitVec 32) 0#32 = 1#1)
    ∧ (¬ c.val = (1 : Fin 2).val → Scalar.cmpi .ne (Scalar.extui (Scalar.cmpi .ne (place c) 1#32) : BitVec 32) 0#32 = 1#1) := by decide +kernel

theorem recv_one : ∀ (c : D8) (t j : Fin 2), ¬ c.val = j.val → ∃ p, payers c (.recv t j) = {p} := by decide +kernel

section

variable {κ : GSem nD τ sig → ℕ} {I : In F} {c : D8} {its : List (CK × PayK)} {sw wts zs ps : List CK} {rest : List PayK}

omit [FloatOps F] [Named F] in
theorem cast_self {α : Type} {s : Shape} (x : s.Idx → α) (h : s.ShapeCasts s) : shapeCast s x h = x := by
  funext j
  exact congrArg x (by rw [Shape.reshapeEquiv_self])

/-- Root 0's own tiles and first copy; -/
theorem part1 {R : sProp 𝕄} {Q : _ → sProp 𝕄} (h1 : k0_cond1 (rootD 0) = 1#1)
    (h : St κ I (rootD 0) its (.send 0 2 :: sw) wts zs ps rest
      iprop((pts (rootD 0) (vSl (rootD 0)) fullShare (I.v (rootD 0)) ∗ pts (rootD 0) (kvSl 0 1) fullShare (kvW I (rootD 0)))
        ∗ (pts (rootD 0) (kSl (rootD 0)) fullShare (I.k (rootD 0)) ∗ pts (rootD 0) (kvSl 0 0) fullShare (kvW I (rootD 0))) ∗ R) ⊢ Q ⟨⟩) :
    St κ I (rootD 0) ((.send 0 2, (1, .rrecv 0 0)) :: its) sw wts zs (.send 0 2 :: ps) ((1, .rrecv 0 0) :: rest) iprop(ownR I 0 (rootD 0) ∗ R)
      ⊢ WP (rootD 0) (app (k0_part1 (F := F)) (rootD 0) h1) Q := by
  rw [app, k0_part1_eq_skeleton]; unfold k0_part1_skel
  simp only [Prog.lift, Prog.bind_op, Prog.bind_ret, Prog.pure_eq_ret]
  unfold ownR; rw [if_pos rfl]
  refine (St_mono (R' := iprop((pts (rootD 0) (kM.slice (colR (rootD 0)) (fun _ => rfl)) fullShare (I.k (rootD 0)) ∗ (∃ f, pts (rootD 0) (kvSl 0 0) fullShare f)) ∗ (pts (rootD 0) (vSl (rootD 0)) fullShare (I.v (rootD 0)) ∗ (∃ f, pts (rootD 0) (kvSl 0 1) fullShare f)) ∗ R)) ?_).trans ?_
  · iintro ⟨⟨H1, H2⟩, HR⟩
    isplitl [H1]; · iexact H1
    isplitl [H2]; · iexact H2
    iexact HR
  refine St_fill (N := kM) (g := I.k (rootD 0)) 0 0 rfl rfl rfl ?_ rfl ?_
  · funext w; exact congrArg (fun z => shapeCast S1x1x256x256 z shapeCasts_S256x256_S1x1x256x256) (cast_self _ _)
  refine St_swap.trans ?_
  refine St_fill (N := vM) (g := I.v (rootD 0)) 0 1 rfl rfl rfl ?_ rfl ?_
  · funext w; exact congrArg (fun z => shapeCast S1x1x256x256 z shapeCasts_S256x256_S1x1x256x256) (cast_self _ _)
  refine copy_relay 0 2 1 0 0 rfl rfl (Fin.ext k0_dev8_eq) rfl rfl rfl rfl rfl (by decide) (by decide) ?_
  exact wp_done h

/-- root 1's. -/
theorem part6 {R : sProp 𝕄} {Q : _ → sProp 𝕄} (h1 : k0_cond2 (rootD 1) = 1#1)
    (h : St κ I (rootD 1) its (.send 0 3 :: sw) wts zs ps rest
      iprop((pts (rootD 1) (vSl (rootD 1)) fullShare (I.v (rootD 1)) ∗ pts (rootD 1) (kvSl 1 1) fullShare (kvW I (rootD 1)))
        ∗ (pts (rootD 1) (kSl (rootD 1)) fullShare (I.k (rootD 1)) ∗ pts (rootD 1) (kvSl 1 0) fullShare (kvW I (rootD 1))) ∗ R) ⊢ Q ⟨⟩) :
    St κ I (rootD 1) ((.send 0 3, (0, .rrecv 0 0)) :: its) sw wts zs (.send 0 3 :: ps) ((0, .rrecv 0 0) :: rest) iprop(ownR I 1 (rootD 1) ∗ R)
      ⊢ WP (rootD 1) (app (k0_part6 (F := F)) (rootD 1) h1) Q := by
  rw [app, k0_part6_eq_skeleton]; unfold k0_part6_skel
  simp only [Prog.lift, Prog.bind_op, Prog.bind_ret, Prog.pure_eq_ret]
  unfold ownR; rw [if_pos rfl]
  refine (St_mono (R' := iprop((pts (rootD 1) (kM.slice (colR (rootD 1)) (fun _ => rfl)) fullShare (I.k (rootD 1)) ∗ (∃ f, pts (rootD 1) (kvSl 1 0) fullShare f)) ∗ (pts (rootD 1) (vSl (rootD 1)) fullShare (I.v (rootD 1)) ∗ (∃ f, pts (rootD 1) (kvSl 1 1) fullShare f)) ∗ R)) ?_).trans ?_
  · iintro ⟨⟨H1, H2⟩, HR⟩
    isplitl [H1]; · iexact H1
    isplitl [H2]; · iexact H2
    iexact HR
  refine St_fill (N := kM) (g := I.k (rootD 1)) 1 0 rfl rfl rfl ?_ rfl ?_
  · funext w; exact congrArg (fun z => shapeCast S1x1x256x256 z shapeCasts_S256x256_S1x1x256x256) (cast_self _ _)
  refine St_swap.trans ?_
  refine St_fill (N := vM) (g := I.v (rootD 1)) 1 1 rfl rfl rfl ?_ rfl ?_
  · funext w; exact congrArg (fun z => shapeCast S1x1x256x256 z shapeCasts_S256x256_S1x1x256x256) (cast_self _ _)
  refine copy_relay 0 3 0 0 1 rfl rfl (Fin.ext k0_dev22_eq) rfl rfl rfl rfl rfl (by decide) (by decide) ?_
  exact wp_done h

set_option maxHeartbeats 2000000 in
/-- The two roots' copies, the queries, the first four relay blocks. -/
theorem part30 {R : sProp 𝕄} {Q : _ → sProp 𝕄} (v2 : BitVec 32) (v : BitVec 1) (hl : ∀ x ∈ relP rel0 c ++ (relP rel1 c ++ (relP rel2 c ++ (relP rel3 c ++ rest))), 2 < lvl x.2)
    (h : ∀ w, St κ I c (its) ((relS rel3 c).reverse ++ ((relS rel2 c).reverse ++ ((relS rel1 c).reverse ++ ((relS rel0 c).reverse ++ (((srcS 1 c).reverse ++ ((srcS 0 c).reverse ++ sw))))))) (wts) ((relR rel3 c).reverse ++ ((relR rel2 c).reverse ++ ((relR rel1 c).reverse ++ ((relR rel0 c).reverse ++ zs)))) (ownP 1 c ++ (ownP 0 c ++ ps)) (rest) iprop(pts c wqM fullShare (I.wq c) ∗ pts c xM fullShare (I.x c) ∗ ownQ I 1 c ∗ ownQ I 0 c ∗ R)
      ⊢ Q ⟨q0 I c, q1 I c, w⟩) :
    St κ I c (itS 0 c ++ (itS 1 c ++ (itR rel0 c ++ (itR rel1 c ++ (itR rel2 c ++ (itR rel3 c ++ its)))))) sw (relR rel0 c ++ (relR rel1 c ++ (relR rel2 c ++ (relR rel3 c ++ wts)))) zs (srcS 0 c ++ (srcS 1 c ++ ps))
        (dstS 0 c ++ (dstS 1 c ++ (relP rel0 c ++ (relP rel1 c ++ (relP rel2 c ++ (relP rel3 c ++ rest)))))) iprop(ownR I 0 c ∗ ownR I 1 c ∗ pts c xM fullShare (I.x c) ∗ pts c wqM fullShare (I.wq c) ∗ R)
      ⊢ WP c (app (k0_part30 (F := F)) c v2 v) Q := by
  have hl0 := (List.forall_mem_append.1 hl).2
  have hl1 := (List.forall_mem_append.1 hl0).2
  have hl2 := (List.forall_mem_append.1 hl1).2
  have hl3 := (List.forall_mem_append.1 hl2).2
  rw [app, k0_part30_eq_skeleton]; unfold k0_part30_skel
  extract_lets -underBinder jp0
  suffices hmid : St κ I c (itS 1 c ++ (itR rel0 c ++ (itR rel1 c ++ (itR rel2 c ++ (itR rel3 c ++ its))))) ((srcS 0 c).reverse ++ sw) (relR rel0 c ++ (relR rel1 c ++ (relR rel2 c ++ (relR rel3 c ++ wts)))) zs (ownP 0 c ++ (srcS 1 c ++ ps)) (dstS 1 c ++ (relP rel0 c ++ (relP rel1 c ++ (relP rel2 c ++ (relP rel3 c ++ rest))))) iprop(ownQ I 0 c ∗ ownR I 1 c ∗ pts c xM fullShare (I.x c) ∗ pts c wqM fullShare (I.wq c) ∗ R) ⊢ WP c (jp0 ⟨⟩) Q by
    clear_value jp0
    by_cases hc : c = rootD 0
    · subst hc
      rw [dif_pos ((cond1_at _).2 rfl), itS0, srcS0, dstS0]
      simp only [List.cons_append, List.nil_append]
      refine wp_then ?_
      refine part1 ((cond1_at _).2 rfl) ?_
      refine wp_then ?_
      rw [k0_part2_eq_skeleton]; unfold k0_part2_skel
      simp only [Prog.lift, Prog.bind_op, Prog.bind_ret, Prog.pure_eq_ret]
      refine copy_relay 1 2 1 0 0 rfl rfl (Fin.ext k0_dev9_eq) rfl rfl rfl rfl rfl (by decide) (by decide) ?_
      refine copy_relay 0 5 1 1 0 rfl rfl (Fin.ext k0_dev10_eq) rfl rfl rfl rfl rfl (by decide) (by decide) ?_
      refine copy_relay 1 5 1 1 0 rfl rfl (Fin.ext k0_dev11_eq) rfl rfl rfl rfl rfl (by decide) (by decide) ?_
      refine wp_done ?_
      refine wp_then ?_
      rw [k0_part3_eq_skeleton]; unfold k0_part3_skel
      simp only [Prog.lift, Prog.bind_op, Prog.bind_ret, Prog.pure_eq_ret]
      refine copy_relay 0 7 3 0 0 rfl rfl (Fin.ext k0_dev12_eq) rfl rfl rfl rfl rfl (by decide) (by decide) ?_
      refine copy_relay 1 7 3 0 0 rfl rfl (Fin.ext k0_dev13_eq) rfl rfl rfl rfl rfl (by decide) (by decide) ?_
      refine wp_done ?_
      refine wp_then ?_
      rw [k0_part4_eq_skeleton]; unfold k0_part4_skel
      simp only [Prog.lift, Prog.bind_op, Prog.bind_ret, Prog.pure_eq_ret]
      refine copy_relay 0 6 4 0 0 rfl rfl (Fin.ext k0_dev14_eq) rfl rfl rfl rfl rfl (by decide) (by decide) ?_
      refine copy_relay 1 6 4 0 0 rfl rfl (Fin.ext k0_dev15_eq) rfl rfl rfl rfl rfl (by decide) (by decide) ?_
      refine copy_direct 0 1 0 rfl rfl (Fin.ext k0_dev16_eq) rfl rfl rfl (by decide) (by decide) ?_
      refine wp_done ?_
      refine wp_then ?_
      rw [k0_part5_eq_skeleton]; unfold k0_part5_skel
      simp only [Prog.lift, Prog.bind_op, Prog.bind_ret, Prog.pure_eq_ret]
      refine copy_direct 1 1 0 rfl rfl (Fin.ext k0_dev17_eq) rfl rfl rfl (by decide) (by decide) ?_
      refine copy_direct 0 3 0 rfl rfl (Fin.ext k0_dev18_eq) rfl rfl rfl (by decide) (by decide) ?_
      refine copy_direct 1 3 0 rfl rfl (Fin.ext k0_dev19_eq) rfl rfl rfl (by decide) (by decide) ?_
      refine wp_done ?_
      refine copy_direct 0 4 0 rfl rfl (Fin.ext k0_dev20_eq) rfl rfl rfl (by decide) (by decide) ?_
      refine copy_direct 1 4 0 rfl rfl (Fin.ext k0_dev21_eq) rfl rfl rfl (by decide) (by decide) ?_
      refine BIBase.Entails.trans ?_ hmid
      refine (own_end 0 rfl).trans (BIBase.Entails.of_eq ?_)
      rw [srcS0]; rfl
    · rw [dif_neg fun h => hc ((cond1_at c).1 h)]
      exact own_skip 0 hc hmid
  unfold jp0
  rw [St_perm (List.Perm.refl _) (List.perm_append_comm_assoc _ _ _)]
  refine St_swap.trans ?_
  extract_lets -underBinder jp1
  suffices hmid : St κ I c (itR rel0 c ++ (itR rel1 c ++ (itR rel2 c ++ (itR rel3 c ++ its)))) ((srcS 1 c).reverse ++ ((srcS 0 c).reverse ++ sw)) (relR rel0 c ++ (relR rel1 c ++ (relR rel2 c ++ (relR rel3 c ++ wts)))) zs (ownP 1 c ++ (ownP 0 c ++ ps)) (relP rel0 c ++ (relP rel1 c ++ (relP rel2 c ++ (relP rel3 c ++ rest)))) iprop(ownQ I 1 c ∗ ownQ I 0 c ∗ pts c xM fullShare (I.x c) ∗ pts c wqM fullShare (I.wq c) ∗ R) ⊢ WP c (jp1 ⟨⟩) Q by
    clear_value jp1
    by_cases hc : c = rootD 1
    · subst hc
      rw [dif_pos ((cond2_at _).2 rfl), itS1, srcS1, dstS1]
      simp only [List.cons_append, List.nil_append]
      refine wp_then ?_
      refine part6 ((cond2_at _).2 rfl) ?_
      refine wp_then ?_
      rw [k0_part7_eq_skeleton]; unfold k0_part7_skel
      simp only [Prog.lift, Prog.bind_op, Prog.bind_ret, Prog.pure_eq_ret]
      refine copy_relay 1 3 0 0 1 rfl rfl (Fin.ext k0_dev23_eq) rfl rfl rfl rfl rfl (by decide) (by decide) ?_
      refine copy_relay 0 4 0 1 1 rfl rfl (Fin.ext k0_dev24_eq) rfl rfl rfl rfl rfl (by decide) (by decide) ?_
      refine copy_relay 1 4 0 1 1 rfl rfl (Fin.ext k0_dev25_eq) rfl rfl rfl rfl rfl (by decide) (by decide) ?_
      refine wp_done ?_
      refine wp_then ?_
      rw [k0_part8_eq_skeleton]; unfold k0_part8_skel
      simp only [Prog.lift, Prog.bind_op, Prog.bind_ret, Prog.pure_eq_ret]
      refine copy_relay 0 6 2 0 1 rfl rfl (Fin.ext k0_dev26_eq) rfl rfl rfl rfl rfl (by decide) (by decide) ?_
      refine copy_relay 1 6 2 0 1 rfl rfl (Fin.ext k0_dev27_eq) rfl rfl rfl rfl rfl (by decide) (by decide) ?_
      refine wp_done ?_
      refine wp_then ?_
      rw [k0_part9_eq_skeleton]; unfold k0_part9_skel
      simp only [Prog.lift, Prog.bind_op, Prog.bind_ret, Prog.pure_eq_ret]
      refine copy_relay 0 7 5 0 1 rfl rfl (Fin.ext k0_dev28_eq) rfl rfl rfl rfl rfl (by decide) (by decide) ?_
      refine copy_relay 1 7 5 0 1 rfl rfl (Fin.ext k0_dev29_eq) rfl rfl rfl rfl rfl (by decide) (by decide) ?_
      refine copy_direct 0 0 1 rfl rfl (Fin.ext k0_dev30_eq) rfl rfl rfl (by decide) (by decide) ?_
      refine wp_done ?_
      refine wp_then ?_
      rw [k0_part10_eq_skeleton]; unfold k0_part10_skel
      simp only [Prog.lift, Prog.bind_op, Prog.bind_ret, Prog.pure_eq_ret]
      refine copy_direct 1 0 1 rfl rfl (Fin.ext k0_dev31_eq) rfl rfl rfl (by decide) (by decide) ?_
      refine copy_direct 0 2 1 rfl rfl (Fin.ext k0_dev32_eq) rfl rfl rfl (by decide) (by decide) ?_
      refine copy_direct 1 2 1 rfl rfl (Fin.ext k0_dev33_eq) rfl rfl rfl (by decide) (by decide) ?_
      refine wp_done ?_
      refine copy_direct 0 5 1 rfl rfl (Fin.ext k0_dev34_eq) rfl rfl rfl (by decide) (by decide) ?_
      refine copy_direct 1 5 1 rfl rfl (Fin.ext k0_dev35_eq) rfl rfl rfl (by decide) (by decide) ?_
      refine BIBase.Entails.trans ?_ hmid
      refine (own_end 1 rfl).trans (BIBase.Entails.of_eq ?_)
      rw [srcS1]; rfl
    · rw [dif_neg fun h => hc ((cond2_at c).1 h)]
      exact own_skip 1 hc hmid
  unfold jp1
  simp -zeta only [Prog.lift, Prog.bind_op, Prog.bind_ret]
  refine (St_mono (R' := iprop(pts c xM fullShare (I.x c) ∗ pts c wqM fullShare (I.wq c) ∗ ownQ I 1 c ∗ ownQ I 0 c ∗ R)) ?_).trans ?_
  · iintro ⟨H1, H2, H3, H4, HR⟩
    isplitl [H3]; · iexact H3
    isplitl [H4]; · iexact H4
    isplitl [H1]; · iexact H1
    isplitl [H2]; · iexact H2
    iexact HR
  refine St_load ?_
  refine St_swap.trans ?_
  refine St_load ?_
  refine St_swap.trans ?_
  refine St_load ?_
  refine St_swap.trans ?_
  refine St_load ?_
  extract_lets -underBinder jr0
  suffices hmid : St κ I c (itR rel1 c ++ (itR rel2 c ++ (itR rel3 c ++ its))) ((relS rel0 c).reverse ++ (((srcS 1 c).reverse ++ ((srcS 0 c).reverse ++ sw)))) (relR rel1 c ++ (relR rel2 c ++ (relR rel3 c ++ wts))) ((relR rel0 c).reverse ++ zs) (ownP 1 c ++ (ownP 0 c ++ ps)) (relP rel1 c ++ (relP rel2 c ++ (relP rel3 c ++ rest))) iprop(pts c wqM fullShare (I.wq c) ∗ pts c xM fullShare (I.x c) ∗ ownQ I 1 c ∗ ownQ I 0 c ∗ R) ⊢ WP c (jr0 ⟨⟩) Q by
    clear_value jr0
    by_cases hc : c = rel0.r
    · rw [dif_pos ((cond3_at c).2 hc)]
      refine relay_at rel0 hc ?_
      refine wp_then ?_
      rw [k0_part11_eq_skeleton]; unfold k0_part11_skel
      simp only [Prog.lift, Prog.bind_op, Prog.bind_ret, Prog.pure_eq_ret]
      refine relay_tile rel0 0 hc (by simp) rfl rfl rfl rfl (Fin.ext k0_dev36_eq) rfl rfl (List.forall_mem_cons.2 ⟨show 2 < 3 by decide, hl0⟩) ?_
      refine wp_done ?_
      refine relay_tile rel0 1 hc (by simp) rfl rfl rfl rfl (Fin.ext k0_dev37_eq) rfl rfl hl0 ?_
      exact relay_end rel0 hc hmid
    · rw [dif_neg fun h => hc ((cond3_at c).1 h)]
      exact relay_skip rel0 hc hmid
  unfold jr0
  extract_lets -underBinder jr1
  suffices hmid : St κ I c (itR rel2 c ++ (itR rel3 c ++ its)) ((relS rel1 c).reverse ++ ((relS rel0 c).reverse ++ (((srcS 1 c).reverse ++ ((srcS 0 c).reverse ++ sw))))) (relR rel2 c ++ (relR rel3 c ++ wts)) ((relR rel1 c).reverse ++ ((relR rel0 c).reverse ++ zs)) (ownP 1 c ++ (ownP 0 c ++ ps)) (relP rel2 c ++ (relP rel3 c ++ rest)) iprop(pts c wqM fullShare (I.wq c) ∗ pts c xM fullShare (I.x c) ∗ ownQ I 1 c ∗ ownQ I 0 c ∗ R) ⊢ WP c (jr1 ⟨⟩) Q by
    clear_value jr1
    by_cases hc : c = rel1.r
    · rw [dif_pos ((cond4_at c).2 hc)]
      refine relay_at rel1 hc ?_
      refine wp_then ?_
      rw [k0_part12_eq_skeleton]; unfold k0_part12_skel
      simp only [Prog.lift, Prog.bind_op, Prog.bind_ret, Prog.pure_eq_ret]
      refine relay_tile rel1 0 hc (by simp) rfl rfl rfl rfl (Fin.ext k0_dev38_eq) rfl rfl (List.forall_mem_cons.2 ⟨show 2 < 3 by decide, hl1⟩) ?_
      refine wp_done ?_
      refine relay_tile rel1 1 hc (by simp) rfl rfl rfl rfl (Fin.ext k0_dev39_eq) rfl rfl hl1 ?_
      exact relay_end rel1 hc hmid
    · rw [dif_neg fun h => hc ((cond4_at c).1 h)]
      exact relay_skip rel1 hc hmid
  unfold jr1
  extract_lets -underBinder jr2
  suffices hmid : St κ I c (itR rel3 c ++ its) ((relS rel2 c).reverse ++ ((relS rel1 c).reverse ++ ((relS rel0 c).reverse ++ (((srcS 1 c).reverse ++ ((srcS 0 c).reverse ++ sw)))))) (relR rel3 c ++ wts) ((relR rel2 c).reverse ++ ((relR rel1 c).reverse ++ ((relR rel0 c).reverse ++ zs))) (ownP 1 c ++ (ownP 0 c ++ ps)) (relP rel3 c ++ rest) iprop(pts c wqM fullShare (I.wq c) ∗ pts c xM fullShare (I.x c) ∗ ownQ I 1 c ∗ ownQ I 0 c ∗ R) ⊢ WP c (jr2 ⟨⟩) Q by
    clear_value jr2
    by_cases hc : c = rel2.r
    · rw [dif_pos ((cond5_at c).2 hc)]
      refine relay_at rel2 hc ?_
      refine wp_then ?_
      rw [k0_part13_eq_skeleton]; unfold k0_part13_skel
      simp only [Prog.lift, Prog.bind_op, Prog.bind_ret, Prog.pure_eq_ret]
      refine relay_tile rel2 0 hc (by simp) rfl rfl rfl rfl (Fin.ext k0_dev40_eq) rfl rfl (List.forall_mem_cons.2 ⟨show 2 < 3 by decide, hl2⟩) ?_
      refine wp_done ?_
      refine relay_tile rel2 1 hc (by simp) rfl rfl rfl rfl (Fin.ext k0_dev41_eq) rfl rfl hl2 ?_
      exact relay_end rel2 hc hmid
    · rw [dif_neg fun h => hc ((cond5_at c).1 h)]
      exact relay_skip rel2 hc hmid
  unfold jr2
  extract_lets -underBinder jr3
  suffices hmid : St κ I c (its) ((relS rel3 c).reverse ++ ((relS rel2 c).reverse ++ ((relS rel1 c).reverse ++ ((relS rel0 c).reverse ++ (((srcS 1 c).reverse ++ ((srcS 0 c).reverse ++ sw))))))) (wts) ((relR rel3 c).reverse ++ ((relR rel2 c).reverse ++ ((relR rel1 c).reverse ++ ((relR rel0 c).reverse ++ zs)))) (ownP 1 c ++ (ownP 0 c ++ ps)) (rest) iprop(pts c wqM fullShare (I.wq c) ∗ pts c xM fullShare (I.x c) ∗ ownQ I 1 c ∗ ownQ I 0 c ∗ R) ⊢ WP c (jr3 ⟨⟩) Q by
    clear_value jr3
    by_cases hc : c = rel3.r
    · rw [dif_pos ((cond6_at c).2 hc)]
      refine relay_at rel3 hc ?_
      refine wp_then ?_
      rw [k0_part14_eq_skeleton]; unfold k0_part14_skel
      simp only [Prog.lift, Prog.bind_op, Prog.bind_ret, Prog.pure_eq_ret]
      refine relay_tile rel3 0 hc (by simp) rfl rfl rfl rfl (Fin.ext k0_dev42_eq) rfl rfl (List.forall_mem_cons.2 ⟨show 2 < 3 by decide, hl3⟩) ?_
      refine wp_done ?_
      refine relay_tile rel3 1 hc (by simp) rfl rfl rfl rfl (Fin.ext k0_dev43_eq) rfl rfl hl3 ?_
      exact relay_end rel3 hc hmid
    · rw [dif_neg fun h => hc ((cond6_at c).1 h)]
      exact relay_skip rel3 hc hmid
  unfold jr3
  exact wp_done (h _)

set_option maxHeartbeats 2000000 in
/-- The other four relay blocks and the waits for the device's own tiles. -/
theorem part31 {R : sProp 𝕄} {Q : _ → sProp 𝕄} (v106 : FVec F S128x256 .bf16) (v125 : BitVec 1) (hl : ∀ x ∈ relP rel4 c ++ (relP rel5 c ++ (relP rel6 c ++ (relP rel7 c ++ rest))), 2 < lvl x.2) (hr : ∀ x ∈ rest, 3 < lvl x.2)
    (h : St κ I c its ((relS rel7 c).reverse ++ ((relS rel6 c).reverse ++ ((relS rel5 c).reverse ++ ((relS rel4 c).reverse ++ sw)))) wts
        ((recvR 1 c).reverse ++ ((recvR 0 c).reverse ++ ((relR rel7 c).reverse ++ ((relR rel6 c).reverse ++ ((relR rel5 c).reverse ++ ((relR rel4 c).reverse ++ zs)))))) ps rest
        iprop(pts c kvM fullShare (kvW I c) ∗ R)
      ⊢ Q ⟨k0_pay7, k0_pay8 v106, k0_pay9 (ld I c ![0, 0, 0, 0] inb_S2x2x256x256_S1x1x128x64_0_0_0_0) (ld I c ![1, 0, 0, 0] inb_S2x2x256x256_S1x1x128x64_1_0_0_0), ld I c ![0, 1, 0, 0] inb_S2x2x256x256_S1x1x128x64_0_1_0_0⟩) :
    St κ I c (itR rel4 c ++ (itR rel5 c ++ (itR rel6 c ++ (itR rel7 c ++ its)))) sw (relR rel4 c ++ (relR rel5 c ++ (relR rel6 c ++ (relR rel7 c ++ (recvR 0 c ++ (recvR 1 c ++ wts)))))) zs (ownP 1 c ++ (ownP 0 c ++ ps)) (relP rel4 c ++ (relP rel5 c ++ (relP rel6 c ++ (relP rel7 c ++ rest)))) R
      ⊢ WP c (app (k0_part31 (F := F)) c (place c) v106 v125) Q := by
  rw [app, k0_part31_eq_skeleton]; unfold k0_part31_skel
  have hl4 := (List.forall_mem_append.1 hl).2
  have hl5 := (List.forall_mem_append.1 hl4).2
  have hl6 := (List.forall_mem_append.1 hl5).2
  have hl7 := (List.forall_mem_append.1 hl6).2
  extract_lets -underBinder jr4
  suffices hmid : St κ I c (itR rel5 c ++ (itR rel6 c ++ (itR rel7 c ++ its))) ((relS rel4 c).reverse ++ sw) (relR rel5 c ++ (relR rel6 c ++ (relR rel7 c ++ (recvR 0 c ++ (recvR 1 c ++ wts))))) ((relR rel4 c).reverse ++ zs) (ownP 1 c ++ (ownP 0 c ++ ps)) (relP rel5 c ++ (relP rel6 c ++ (relP rel7 c ++ rest))) R ⊢ WP c (jr4 ⟨⟩) Q by
    clear_value jr4
    by_cases hc : c = rel4.r
    · rw [dif_pos ((cond7_at c).2 hc)]
      refine relay_at rel4 hc ?_
      refine wp_then ?_
      rw [k0_part15_eq_skeleton]; unfold k0_part15_skel
      simp only [Prog.lift, Prog.bind_op, Prog.bind_ret, Prog.pure_eq_ret]
      refine relay_tile rel4 0 hc (by simp) rfl rfl rfl rfl (Fin.ext k0_dev44_eq) rfl rfl (List.forall_mem_cons.2 ⟨show 2 < 3 by decide, hl4⟩) ?_
      refine wp_done ?_
      refine relay_tile rel4 1 hc (by simp) rfl rfl rfl rfl (Fin.ext k0_dev45_eq) rfl rfl hl4 ?_
      exact relay_end rel4 hc hmid
    · rw [dif_neg fun h => hc ((cond7_at c).1 h)]
      exact relay_skip rel4 hc hmid
  unfold jr4
  extract_lets -underBinder jr5
  suffices hmid : St κ I c (itR rel6 c ++ (itR rel7 c ++ its)) ((relS rel5 c).reverse ++ ((relS rel4 c).reverse ++ sw)) (relR rel6 c ++ (relR rel7 c ++ (recvR 0 c ++ (recvR 1 c ++ wts)))) ((relR rel5 c).reverse ++ ((relR rel4 c).reverse ++ zs)) (ownP 1 c ++ (ownP 0 c ++ ps)) (relP rel6 c ++ (relP rel7 c ++ rest)) R ⊢ WP c (jr5 ⟨⟩) Q by
    clear_value jr5
    by_cases hc : c = rel5.r
    · rw [dif_pos ((cond8_at c).2 hc)]
      refine relay_at rel5 hc ?_
      refine wp_then ?_
      rw [k0_part16_eq_skeleton]; unfold k0_part16_skel
      simp only [Prog.lift, Prog.bind_op, Prog.bind_ret, Prog.pure_eq_ret]
      refine relay_tile rel5 0 hc (by simp) rfl rfl rfl rfl (Fin.ext k0_dev46_eq) rfl rfl (List.forall_mem_cons.2 ⟨show 2 < 3 by decide, hl5⟩) ?_
      refine wp_done ?_
      refine relay_tile rel5 1 hc (by simp) rfl rfl rfl rfl (Fin.ext k0_dev47_eq) rfl rfl hl5 ?_
      exact relay_end rel5 hc hmid
    · rw [dif_neg fun h => hc ((cond8_at c).1 h)]
      exact relay_skip rel5 hc hmid
  unfold jr5
  extract_lets -underBinder jr6
  suffices hmid : St κ I c (itR rel7 c ++ its) ((relS rel6 c).reverse ++ ((relS rel5 c).reverse ++ ((relS rel4 c).reverse ++ sw))) (relR rel7 c ++ (recvR 0 c ++ (recvR 1 c ++ wts))) ((relR rel6 c).reverse ++ ((relR rel5 c).reverse ++ ((relR rel4 c).reverse ++ zs))) (ownP 1 c ++ (ownP 0 c ++ ps)) (relP rel7 c ++ rest) R ⊢ WP c (jr6 ⟨⟩) Q by
    clear_value jr6
    by_cases hc : c = rel6.r
    · rw [dif_pos ((cond9_at c).2 hc)]
      refine relay_at rel6 hc ?_
      refine wp_then ?_
      rw [k0_part17_eq_skeleton]; unfold k0_part17_skel
      simp only [Prog.lift, Prog.bind_op, Prog.bind_ret, Prog.pure_eq_ret]
      refine relay_tile rel6 0 hc (by simp) rfl rfl rfl rfl (Fin.ext k0_dev48_eq) rfl rfl (List.forall_mem_cons.2 ⟨show 2 < 3 by decide, hl6⟩) ?_
      refine wp_done ?_
      refine relay_tile rel6 1 hc (by simp) rfl rfl rfl rfl (Fin.ext k0_dev49_eq) rfl rfl hl6 ?_
      exact relay_end rel6 hc hmid
    · rw [dif_neg fun h => hc ((cond9_at c).1 h)]
      exact relay_skip rel6 hc hmid
  unfold jr6
  extract_lets -underBinder jr7
  suffices hmid : St κ I c (its) ((relS rel7 c).reverse ++ ((relS rel6 c).reverse ++ ((relS rel5 c).reverse ++ ((relS rel4 c).reverse ++ sw)))) (recvR 0 c ++ (recvR 1 c ++ wts)) ((relR rel7 c).reverse ++ ((relR rel6 c).reverse ++ ((relR rel5 c).reverse ++ ((relR rel4 c).reverse ++ zs)))) (ownP 1 c ++ (ownP 0 c ++ ps)) (rest) R ⊢ WP c (jr7 ⟨⟩) Q by
    clear_value jr7
    by_cases hc : c = rel7.r
    · rw [dif_pos ((cond10_at c).2 hc)]
      refine relay_at rel7 hc ?_
      refine wp_then ?_
      rw [k0_part18_eq_skeleton]; unfold k0_part18_skel
      simp only [Prog.lift, Prog.bind_op, Prog.bind_ret, Prog.pure_eq_ret]
      refine relay_tile rel7 0 hc (by simp) rfl rfl rfl rfl (Fin.ext k0_dev50_eq) rfl rfl (List.forall_mem_cons.2 ⟨show 2 < 3 by decide, hl7⟩) ?_
      refine wp_done ?_
      refine relay_tile rel7 1 hc (by simp) rfl rfl rfl rfl (Fin.ext k0_dev51_eq) rfl rfl hl7 ?_
      exact relay_end rel7 hc hmid
    · rw [dif_neg fun h => hc ((cond10_at c).1 h)]
      exact relay_skip rel7 hc hmid
  unfold jr7
  extract_lets -underBinder u0 u0' w0 jw0
  suffices hmid : St κ I c its ((relS rel7 c).reverse ++ ((relS rel6 c).reverse ++ ((relS rel5 c).reverse ++ ((relS rel4 c).reverse ++ sw)))) (recvR 1 c ++ wts) ((recvR 0 c).reverse ++ ((relR rel7 c).reverse ++ ((relR rel6 c).reverse ++ ((relR rel5 c).reverse ++ ((relR rel4 c).reverse ++ zs))))) ((recvR 0 c).reverse ++ (ownP 1 c ++ (ownP 0 c ++ ps))) rest R ⊢ WP c (jw0 ⟨⟩) Q by
    clear_value jw0
    by_cases hc : c.val = (0 : Fin 2).val
    · rw [dif_neg (show ¬ w0 = 1#1 from (place_ne0 c).1 hc)]
      exact recv_skip 0 hc hmid
    · rw [dif_pos (show w0 = 1#1 from (place_ne0 c).2 hc)]
      simp only [Prog.lift, Prog.bind_op, Prog.bind_ret, Prog.pure_eq_ret]
      refine recv_at 0 hc ?_
      refine wp_arrive (.recv 0 0) rfl (recv_one c _ _ hc) (by simp) rfl hr ?_
      refine wp_arrive (.recv 1 0) rfl (recv_one c _ _ hc) (by simp) rfl hr ?_
      exact recv_end 0 hc hmid
  unfold jw0
  extract_lets -underBinder u1 u1' w1 jw1
  suffices hmid : St κ I c its ((relS rel7 c).reverse ++ ((relS rel6 c).reverse ++ ((relS rel5 c).reverse ++ ((relS rel4 c).reverse ++ sw)))) wts ((recvR 1 c).reverse ++ ((recvR 0 c).reverse ++ ((relR rel7 c).reverse ++ ((relR rel6 c).reverse ++ ((relR rel5 c).reverse ++ ((relR rel4 c).reverse ++ zs)))))) ((recvR 1 c).reverse ++ ((recvR 0 c).reverse ++ (ownP 1 c ++ (ownP 0 c ++ ps)))) rest R ⊢ WP c (jw1 ⟨⟩) Q by
    clear_value jw1
    by_cases hc : c.val = (1 : Fin 2).val
    · rw [dif_neg (show ¬ w1 = 1#1 from (place_ne1 c).1 hc)]
      exact recv_skip 1 hc hmid
    · rw [dif_pos (show w1 = 1#1 from (place_ne1 c).2 hc)]
      simp only [Prog.lift, Prog.bind_op, Prog.bind_ret, Prog.pure_eq_ret]
      refine recv_at 1 hc ?_
      refine wp_arrive (.recv 0 1) rfl (recv_one c _ _ hc) (by simp) rfl hr ?_
      refine wp_arrive (.recv 1 1) rfl (recv_one c _ _ hc) (by simp) rfl hr ?_
      exact recv_end 1 hc hmid
  unfold jw1
  refine kv_whole.trans ?_
  simp only [Prog.lift, Prog.bind_op, Prog.bind_ret, Prog.pure_eq_ret]
  refine St_load ?_
  refine St_load ?_
  refine St_load ?_
  exact wp_done h

end

end Cert.KernelIdeal.Run
end
-- ==== Proof.KI.BodyC.lean ====
/-
  THE ATTENTION.

  Parts 32 to 38 of the body: the heads' contexts, the products with the output weights, and the roots' waits for the tiles they sent.
-/
module

public import proofs.«01_k».proof.Proof.KI.BodyB

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

section

variable {κ : GSem nD τ sig → ℕ} {I : In F} {c : D8} {its : List (CK × PayK)} {sw wts zs ps : List CK} {rest : List PayK}
variable {α : Type}

/-! ## The attention -/

/-- A store to a buffer in hand. -/
theorem St_store {R : sProp 𝕄} {Q : α → sProp 𝕄} {cs : CoreSpace} {s : Shape} {e : EltTy} {m : Memref sig .tc cs s e} {r : Rect s} {w : r.shape.Idx → Elt F e}
    {hx : (m.access r).Stores Finset.univ} {hm} {k : PUnit → Prog (TpuEff nD τ sig (Elt F) Λ₀ .tc) α} {f : Buf (Elt F) (m.view.loc (c : Thread nD τ))}
    (h : St κ I c its sw wts zs ps rest iprop(pts c m fullShare ((m.access r).write (Elt F) f w Finset.univ) ∗ R) ⊢ WP c (k ⟨⟩) Q) :
    St κ I c its sw wts zs ps rest iprop(pts c m fullShare f ∗ R) ⊢ WP c (.op (.store m r w Finset.univ hx hm) k) Q := by
  refine (St_out _).1.trans ?_
  iintro ⟨H, HS⟩
  iapply wp_store (m := m) (r := r) (Mk := Finset.univ) (S := m.view.set) 𝒱₀ (c : Thread nD τ) none Set.univ
    (show (m.access r).setOn Finset.univ ⊆ m.view.set from (View.setOn_subset_set (v := m.access r) Finset.univ).trans (View.set_slice_subset (v := m.view) r)) $$ H
  iintro H
  iapply ((St_out _).2.trans h)
  isplitl [H]; · iexact H
  iexact HS

/-- The second and the third assertion in hand brought to the front. -/
theorem St_third {A B C R : sProp 𝕄} : St κ I c its sw wts zs ps rest iprop(A ∗ B ∗ C ∗ R) ⊢ St κ I c its sw wts zs ps rest iprop(C ∗ A ∗ B ∗ R) := by
  refine St_mono ?_
  iintro ⟨HA, HB, HC, HR⟩
  isplitl [HC]; · iexact HC
  isplitl [HA]; · iexact HA
  isplitl [HB]; · iexact HB
  iexact HR
@[inherit_doc St_third] theorem St_back {A B C R : sProp 𝕄} : St κ I c its sw wts zs ps rest iprop(C ∗ A ∗ B ∗ R) ⊢ St κ I c its sw wts zs ps rest iprop(A ∗ B ∗ C ∗ R) := by
  refine St_mono ?_
  iintro ⟨HC, HA, HB, HR⟩
  isplitl [HA]; · iexact HA
  isplitl [HB]; · iexact HB
  isplitl [HC]; · iexact HC
  iexact HR

/-- The rows of one batch of the partial products. -/
abbrev ptR0 : Rect S2x128x512 := Rect.unit (s := S2x128x512) ![0, 0, 0] S1x128x512.size inb_S2x128x512_S1x128x512_0_0_0
@[inherit_doc ptR0] abbrev ptR1 : Rect S2x128x512 := Rect.unit (s := S2x128x512) ![1, 0, 0] S1x128x512.size inb_S2x128x512_S1x128x512_1_0_0

/-- The partial products once batch 0 is stored, -/
def ptB0 (I : In F) (c : D8) (f : Buf (Elt F) (ptM.view.loc (c : Thread nD τ))) : Buf (Elt F) (ptM.view.loc (c : Thread nD τ)) :=
  (ptM.access ptR0).write (Elt F) f (pt0 I c) Finset.univ

/-- and once both are. -/
theorem pt_both (f : Buf (Elt F) (ptM.view.loc (c : Thread nD τ))) : (ptM.access ptR1).write (Elt F) (ptB0 I c f) (pt1 I c) Finset.univ = ptW I c := by
  funext i
  have h0 : (i 0).val < 2 := (i 0).isLt
  rcases Nat.lt_or_ge (i 0).val 1 with h | h
  · have hz : (i 0).val = 0 := by omega
    have hn : i ∉ (ptM.access ptR1).setOn Finset.univ := fun hi => by
      obtain ⟨x, -, e⟩ := Finset.mem_map.mp hi
      have e0 : 1 + 1 * (x 0).val = (i 0).val := congrArg (fun y : S2x128x512.Idx => (y 0).val) e
      omega
    refine (View.write_of_not_mem (v := ptM.access ptR1) (Val := Elt F) _ _ Finset.univ hn).trans ?_
    have hi : i = (ptM.access ptR0).emb (fun | 0 => ⟨0, by decide⟩ | 1 => i 1 | 2 => i 2 : S1x128x512.Idx) := by
      funext a
      match a with
      | 0 => exact Fin.ext (show (i 0).val = 0 + 1 * 0 by omega)
      | 1 => exact Fin.ext (show (i 1).val = 0 + 1 * (i 1).val by omega)
      | 2 => exact Fin.ext (show (i 2).val = 0 + 1 * (i 2).val by omega)
    have hr := congrFun (View.read_write_univ (v := ptM.access ptR0) (Val := Elt F) f (pt0 I c)) (fun | 0 => ⟨0, by decide⟩ | 1 => i 1 | 2 => i 2 : S1x128x512.Idx)
    refine Eq.trans ?_ (hr.trans (if_pos hz).symm)
    exact (congrArg (ptB0 I c f) hi)
  · have hz : (i 0).val = 1 := by omega
    have hi : i = (ptM.access ptR1).emb (fun | 0 => ⟨0, by decide⟩ | 1 => i 1 | 2 => i 2 : S1x128x512.Idx) := by
      funext a
      match a with
      | 0 => exact Fin.ext (show (i 0).val = 1 + 1 * 0 by omega)
      | 1 => exact Fin.ext (show (i 1).val = 0 + 1 * (i 1).val by omega)
      | 2 => exact Fin.ext (show (i 2).val = 0 + 1 * (i 2).val by omega)
    have hr := congrFun (View.read_write_univ (v := ptM.access ptR1) (Val := Elt F) (ptB0 I c f) (pt1 I c)) (fun | 0 => ⟨0, by decide⟩ | 1 => i 1 | 2 => i 2 : S1x128x512.Idx)
    refine Eq.trans ?_ (hr.trans (if_neg (show ¬ (i 0).val = 0 by omega)).symm)
    exact congrArg ((ptM.access ptR1).write (Elt F) (ptB0 I c f) (pt1 I c) Finset.univ) hi

/-- Batch 0, head 0. -/
theorem part32 {R : sProp 𝕄} {Q : _ → sProp 𝕄}
    (h : St κ I c its sw wts zs ps rest iprop(pts c kvM fullShare (kvW I c) ∗ R) ⊢ Q ⟨c00 I c, (k0_pay11 (ld I c ![0, 1, 0, 64] inb_S2x2x256x256_S1x1x128x64_0_1_0_64) (ld I c ![1, 1, 0, 64] inb_S2x2x256x256_S1x1x128x64_1_1_0_64)), (k0_pay12 (q0 I c) (ld I c ![0, 0, 0, 64] inb_S2x2x256x256_S1x1x128x64_0_0_0_64) (ld I c ![1, 0, 0, 64] inb_S2x2x256x256_S1x1x128x64_1_0_0_64)), (Scalar.ofBits .f32 0x3E000000#32)⟩) :
    St κ I c its sw wts zs ps rest iprop(pts c kvM fullShare (kvW I c) ∗ R) ⊢ WP c (app (k0_part32 (F := F)) (q0 I c) k0_pay7 (k0_pay8 (q0 I c)) (k0_pay9 (ld I c ![0, 0, 0, 0] inb_S2x2x256x256_S1x1x128x64_0_0_0_0) (ld I c ![1, 0, 0, 0] inb_S2x2x256x256_S1x1x128x64_1_0_0_0)) (ld I c ![0, 1, 0, 0] inb_S2x2x256x256_S1x1x128x64_0_1_0_0)) Q := by
  rw [app, k0_part32_eq_skeleton]; unfold k0_part32_skel
  simp only [Prog.lift, Prog.bind_op, Prog.bind_ret, Prog.pure_eq_ret]
  refine St_load ?_
  refine St_load ?_
  refine St_load ?_
  refine St_load ?_
  refine St_load ?_
  exact wp_done h

/-- Batch 0, head 1. -/
theorem part33 {R : sProp 𝕄} {Q : _ → sProp 𝕄}
    (h : St κ I c its sw wts zs ps rest iprop(pts c kvM fullShare (kvW I c) ∗ R) ⊢ Q ⟨c01 I c, (k0_pay14 (ld I c ![0, 1, 0, 128] inb_S2x2x256x256_S1x1x128x64_0_1_0_128) (ld I c ![1, 1, 0, 128] inb_S2x2x256x256_S1x1x128x64_1_1_0_128)), (k0_pay15 (q0 I c) k0_pay7 (ld I c ![0, 0, 0, 128] inb_S2x2x256x256_S1x1x128x64_0_0_0_128) (ld I c ![1, 0, 0, 128] inb_S2x2x256x256_S1x1x128x64_1_0_0_128))⟩) :
    St κ I c its sw wts zs ps rest iprop(pts c kvM fullShare (kvW I c) ∗ R) ⊢ WP c (app (k0_part33 (F := F)) (q0 I c) k0_pay7 (k0_pay11 (ld I c ![0, 1, 0, 64] inb_S2x2x256x256_S1x1x128x64_0_1_0_64) (ld I c ![1, 1, 0, 64] inb_S2x2x256x256_S1x1x128x64_1_1_0_64)) (k0_pay12 (q0 I c) (ld I c ![0, 0, 0, 64] inb_S2x2x256x256_S1x1x128x64_0_0_0_64) (ld I c ![1, 0, 0, 64] inb_S2x2x256x256_S1x1x128x64_1_0_0_64)) (Scalar.ofBits .f32 0x3E000000#32)) Q := by
  rw [app, k0_part33_eq_skeleton]; unfold k0_part33_skel
  simp only [Prog.lift, Prog.bind_op, Prog.bind_ret, Prog.pure_eq_ret]
  refine St_load ?_
  refine St_load ?_
  refine St_load ?_
  refine St_load ?_
  exact wp_done h

/-- Batch 0, heads 2 and 3. -/
theorem part34 {R : sProp 𝕄} {Q : _ → sProp 𝕄}
    (h : St κ I c its sw wts zs ps rest iprop(pts c kvM fullShare (kvW I c) ∗ R) ⊢ Q (cx0 I c)) :
    St κ I c its sw wts zs ps rest iprop(pts c kvM fullShare (kvW I c) ∗ R) ⊢ WP c (app (k0_part34 (F := F)) (q0 I c) k0_pay7 (c00 I c) (c01 I c) (k0_pay14 (ld I c ![0, 1, 0, 128] inb_S2x2x256x256_S1x1x128x64_0_1_0_128) (ld I c ![1, 1, 0, 128] inb_S2x2x256x256_S1x1x128x64_1_1_0_128)) (k0_pay15 (q0 I c) k0_pay7 (ld I c ![0, 0, 0, 128] inb_S2x2x256x256_S1x1x128x64_0_0_0_128) (ld I c ![1, 0, 0, 128] inb_S2x2x256x256_S1x1x128x64_1_0_0_128))) Q := by
  rw [app, k0_part34_eq_skeleton]; unfold k0_part34_skel
  simp only [Prog.lift, Prog.bind_op, Prog.bind_ret, Prog.pure_eq_ret]
  refine St_load ?_
  refine St_load ?_
  refine St_load ?_
  refine St_load ?_
  exact wp_done h

/-- Batch 0's product with the output weights is stored; batch 1 begins. -/
theorem part35 {R : sProp 𝕄} {Q : _ → sProp 𝕄} (f : Buf (Elt F) (ptM.view.loc (c : Thread nD τ)))
    (h : St κ I c its sw wts zs ps rest iprop(pts c kvM fullShare (kvW I c) ∗ pts c ptM fullShare (ptB0 I c f) ∗ pts c woM fullShare (I.wo c) ∗ R)
      ⊢ Q ⟨(k0_pay18 (ld I c ![0, 1, 128, 0] inb_S2x2x256x256_S1x1x128x64_0_1_128_0) (ld I c ![1, 1, 128, 0] inb_S2x2x256x256_S1x1x128x64_1_1_128_0)), (k0_pay19 (q1 I c) k0_pay7 (ld I c ![0, 0, 128, 0] inb_S2x2x256x256_S1x1x128x64_0_0_128_0) (ld I c ![1, 0, 128, 0] inb_S2x2x256x256_S1x1x128x64_1_0_128_0))⟩) :
    St κ I c its sw wts zs ps rest iprop(pts c kvM fullShare (kvW I c) ∗ pts c ptM fullShare f ∗ pts c woM fullShare (I.wo c) ∗ R)
      ⊢ WP c (app (k0_part35 (F := F)) (q1 I c) k0_pay7 (cx0 I c)) Q := by
  rw [app, k0_part35_eq_skeleton]; unfold k0_part35_skel
  simp only [Prog.lift, Prog.bind_op, Prog.bind_ret, Prog.pure_eq_ret]
  refine St_third.trans ?_
  refine St_load ?_
  refine St_third.trans ?_
  refine St_load ?_
  refine St_store ?_
  refine St_third.trans ?_
  refine St_load ?_
  refine St_load ?_
  refine St_load ?_
  refine St_load ?_
  refine wp_done ?_
  refine BIBase.Entails.trans (St_mono ?_) h
  iintro ⟨H1, H2, H3, H4⟩
  isplitl [H1]; · iexact H1
  isplitl [H2]; · iexact H2
  isplitl [H3]; · iexact H3
  iexact H4

/-- Batch 1, heads 0 and 1. -/
theorem part36 {R : sProp 𝕄} {Q : _ → sProp 𝕄}
    (h : St κ I c its sw wts zs ps rest iprop(pts c kvM fullShare (kvW I c) ∗ R) ⊢ Q ⟨c10 I c, c11 I c, k0_pay22 (q1 I c), (k0_pay23 (ld I c ![0, 0, 128, 128] inb_S2x2x256x256_S1x1x128x64_0_0_128_128))⟩) :
    St κ I c its sw wts zs ps rest iprop(pts c kvM fullShare (kvW I c) ∗ R) ⊢ WP c (app (k0_part36 (F := F)) (q1 I c) k0_pay7 (k0_pay18 (ld I c ![0, 1, 128, 0] inb_S2x2x256x256_S1x1x128x64_0_1_128_0) (ld I c ![1, 1, 128, 0] inb_S2x2x256x256_S1x1x128x64_1_1_128_0)) (k0_pay19 (q1 I c) k0_pay7 (ld I c ![0, 0, 128, 0] inb_S2x2x256x256_S1x1x128x64_0_0_128_0) (ld I c ![1, 0, 128, 0] inb_S2x2x256x256_S1x1x128x64_1_0_128_0))) Q := by
  rw [app, k0_part36_eq_skeleton]; unfold k0_part36_skel
  simp only [Prog.lift, Prog.bind_op, Prog.bind_ret, Prog.pure_eq_ret]
  refine St_load ?_
  refine St_load ?_
  refine St_load ?_
  refine St_load ?_
  refine St_load ?_
  exact wp_done h

/-- Batch 1, head 2. -/
theorem part37 {R : sProp 𝕄} {Q : _ → sProp 𝕄}
    (h : St κ I c its sw wts zs ps rest iprop(pts c kvM fullShare (kvW I c) ∗ R) ⊢ Q ⟨c12 I c, k0_pay25 (q1 I c), (k0_pay26 (ld I c ![0, 0, 128, 192] inb_S2x2x256x256_S1x1x128x64_0_0_128_192) (ld I c ![1, 0, 128, 192] inb_S2x2x256x256_S1x1x128x64_1_0_128_192)), (ld I c ![0, 1, 128, 192] inb_S2x2x256x256_S1x1x128x64_0_1_128_192)⟩) :
    St κ I c its sw wts zs ps rest iprop(pts c kvM fullShare (kvW I c) ∗ R) ⊢ WP c (app (k0_part37 (F := F)) (q1 I c) k0_pay7 (k0_pay22 (q1 I c)) (k0_pay23 (ld I c ![0, 0, 128, 128] inb_S2x2x256x256_S1x1x128x64_0_0_128_128))) Q := by
  rw [app, k0_part37_eq_skeleton]; unfold k0_part37_skel
  simp only [Prog.lift, Prog.bind_op, Prog.bind_ret, Prog.pure_eq_ret]
  refine St_load ?_
  refine St_load ?_
  refine St_load ?_
  refine St_load ?_
  refine St_load ?_
  refine St_load ?_
  exact wp_done h

/-! ## The sent tiles -/

theorem sent_fact (j t : Fin 2) (d : Fin 8) (h : CK.send t d ∈ srcS j (rootD j)) : ∃ p, payers (rootD j) (CK.send t d) = {p} :=
  ⟨_, payers_send _ _ (by
    refine List.mem_append_left _ ?_
    simpa only [srcS, if_true] using h)⟩

/-- A root waits for one of its tiles to have left. -/
theorem sent_tile {R : sProp 𝕄} {Q : α → sProp 𝕄} (j t : Fin 2) (d : Fin 8) {sem : DmaSem sig} {srcM dstM : Memref sig .tc .vmem S256x256 .bf16} {hsrc : srcM.view.WordExact} {hdst : dstM.view.WordExact}
    {k : PUnit → Prog (TpuEff nD τ sig (Elt F) Λ₀ .tc) α} (hc : c = rootD j) (hm : CK.send t d ∈ srcS j (rootD j)) (hsem : SemLoc.dma sem = osem (.send t d)) (hN : dstM.view.dmaCredit = amt (.send t d))
    (hr : ∀ x ∈ rest, 0 < lvl x.2) (h : St κ I c its sw wts (.send t d :: zs) (.send t d :: ps) rest R ⊢ WP c (k ⟨⟩) Q) :
    St κ I c its (.send t d :: sw) wts zs ps rest R ⊢ WP c (.op (.waitDma2 sem srcM dstM hsrc hdst) k) Q := by
  subst hc
  exact wp_sent (.send t d) hsem (sent_fact j t d hm) (by simp) hN hr h

/-- Waits of root 0, 1 to 3 of 14. -/
theorem part19 {R : sProp 𝕄} {Q : _ → sProp 𝕄} (hc : c = rootD 0) (hr : ∀ x ∈ rest, 0 < lvl x.2)
    (h : St κ I c its sw wts (.send 0 5 :: .send 1 2 :: .send 0 2 :: zs) (.send 0 5 :: .send 1 2 :: .send 0 2 :: ps) rest R ⊢ Q ⟨⟩) :
    St κ I c its (.send 0 2 :: .send 1 2 :: .send 0 5 :: sw) wts zs ps rest R ⊢ WP c (app (k0_part19 (F := F))) Q := by
  rw [app, k0_part19_eq_skeleton]; unfold k0_part19_skel
  simp only [Prog.lift, Prog.bind_op, Prog.bind_ret, Prog.pure_eq_ret]
  refine sent_tile 0 0 2 hc (by decide +kernel) rfl rfl hr ?_
  refine sent_tile 0 1 2 hc (by decide +kernel) rfl rfl hr ?_
  refine sent_tile 0 0 5 hc (by decide +kernel) rfl rfl hr ?_
  exact wp_done h

/-- Waits of root 0, 4 to 6 of 14. -/
theorem part20 {R : sProp 𝕄} {Q : _ → sProp 𝕄} (hc : c = rootD 0) (hr : ∀ x ∈ rest, 0 < lvl x.2)
    (h : St κ I c its sw wts (.send 1 7 :: .send 0 7 :: .send 1 5 :: zs) (.send 1 7 :: .send 0 7 :: .send 1 5 :: ps) rest R ⊢ Q ⟨⟩) :
    St κ I c its (.send 1 5 :: .send 0 7 :: .send 1 7 :: sw) wts zs ps rest R ⊢ WP c (app (k0_part20 (F := F))) Q := by
  rw [app, k0_part20_eq_skeleton]; unfold k0_part20_skel
  simp only [Prog.lift, Prog.bind_op, Prog.bind_ret, Prog.pure_eq_ret]
  refine sent_tile 0 1 5 hc (by decide +kernel) rfl rfl hr ?_
  refine sent_tile 0 0 7 hc (by decide +kernel) rfl rfl hr ?_
  refine sent_tile 0 1 7 hc (by decide +kernel) rfl rfl hr ?_
  exact wp_done h

/-- Waits of root 0, 7 to 10 of 14. -/
theorem part21 {R : sProp 𝕄} {Q : _ → sProp 𝕄} (hc : c = rootD 0) (hr : ∀ x ∈ rest, 0 < lvl x.2)
    (h : St κ I c its sw wts (.send 1 1 :: .send 0 1 :: .send 1 6 :: .send 0 6 :: zs) (.send 1 1 :: .send 0 1 :: .send 1 6 :: .send 0 6 :: ps) rest R ⊢ Q ⟨⟩) :
    St κ I c its (.send 0 6 :: .send 1 6 :: .send 0 1 :: .send 1 1 :: sw) wts zs ps rest R ⊢ WP c (app (k0_part21 (F := F))) Q := by
  rw [app, k0_part21_eq_skeleton]; unfold k0_part21_skel
  simp only [Prog.lift, Prog.bind_op, Prog.bind_ret, Prog.pure_eq_ret]
  refine sent_tile 0 0 6 hc (by decide +kernel) rfl rfl hr ?_
  refine sent_tile 0 1 6 hc (by decide +kernel) rfl rfl hr ?_
  refine sent_tile 0 0 1 hc (by decide +kernel) rfl rfl hr ?_
  refine sent_tile 0 1 1 hc (by decide +kernel) rfl rfl hr ?_
  exact wp_done h

/-- Waits of root 0, 11 to 13 of 14. -/
theorem part22 {R : sProp 𝕄} {Q : _ → sProp 𝕄} (hc : c = rootD 0) (hr : ∀ x ∈ rest, 0 < lvl x.2)
    (h : St κ I c its sw wts (.send 0 4 :: .send 1 3 :: .send 0 3 :: zs) (.send 0 4 :: .send 1 3 :: .send 0 3 :: ps) rest R ⊢ Q ⟨⟩) :
    St κ I c its (.send 0 3 :: .send 1 3 :: .send 0 4 :: sw) wts zs ps rest R ⊢ WP c (app (k0_part22 (F := F))) Q := by
  rw [app, k0_part22_eq_skeleton]; unfold k0_part22_skel
  simp only [Prog.lift, Prog.bind_op, Prog.bind_ret, Prog.pure_eq_ret]
  refine sent_tile 0 0 3 hc (by decide +kernel) rfl rfl hr ?_
  refine sent_tile 0 1 3 hc (by decide +kernel) rfl rfl hr ?_
  refine sent_tile 0 0 4 hc (by decide +kernel) rfl rfl hr ?_
  exact wp_done h

/-- Waits of root 1, 1 to 3 of 14. -/
theorem part23 {R : sProp 𝕄} {Q : _ → sProp 𝕄} (hc : c = rootD 1) (hr : ∀ x ∈ rest, 0 < lvl x.2)
    (h : St κ I c its sw wts (.send 0 4 :: .send 1 3 :: .send 0 3 :: zs) (.send 0 4 :: .send 1 3 :: .send 0 3 :: ps) rest R ⊢ Q ⟨⟩) :
    St κ I c its (.send 0 3 :: .send 1 3 :: .send 0 4 :: sw) wts zs ps rest R ⊢ WP c (app (k0_part23 (F := F))) Q := by
  rw [app, k0_part23_eq_skeleton]; unfold k0_part23_skel
  simp only [Prog.lift, Prog.bind_op, Prog.bind_ret, Prog.pure_eq_ret]
  refine sent_tile 1 0 3 hc (by decide +kernel) rfl rfl hr ?_
  refine sent_tile 1 1 3 hc (by decide +kernel) rfl rfl hr ?_
  refine sent_tile 1 0 4 hc (by decide +kernel) rfl rfl hr ?_
  exact wp_done h

/-- Waits of root 1, 4 to 6 of 14. -/
theorem part24 {R : sProp 𝕄} {Q : _ → sProp 𝕄} (hc : c = rootD 1) (hr : ∀ x ∈ rest, 0 < lvl x.2)
    (h : St κ I c its sw wts (.send 1 6 :: .send 0 6 :: .send 1 4 :: zs) (.send 1 6 :: .send 0 6 :: .send 1 4 :: ps) rest R ⊢ Q ⟨⟩) :
    St κ I c its (.send 1 4 :: .send 0 6 :: .send 1 6 :: sw) wts zs ps rest R ⊢ WP c (app (k0_part24 (F := F))) Q := by
  rw [app, k0_part24_eq_skeleton]; unfold k0_part24_skel
  simp only [Prog.lift, Prog.bind_op, Prog.bind_ret, Prog.pure_eq_ret]
  refine sent_tile 1 1 4 hc (by decide +kernel) rfl rfl hr ?_
  refine sent_tile 1 0 6 hc (by decide +kernel) rfl rfl hr ?_
  refine sent_tile 1 1 6 hc (by decide +kernel) rfl rfl hr ?_
  exact wp_done h

/-- Waits of root 1, 7 to 10 of 14. -/
theorem part25 {R : sProp 𝕄} {Q : _ → sProp 𝕄} (hc : c = rootD 1) (hr : ∀ x ∈ rest, 0 < lvl x.2)
    (h : St κ I c its sw wts (.send 1 0 :: .send 0 0 :: .send 1 7 :: .send 0 7 :: zs) (.send 1 0 :: .send 0 0 :: .send 1 7 :: .send 0 7 :: ps) rest R ⊢ Q ⟨⟩) :
    St κ I c its (.send 0 7 :: .send 1 7 :: .send 0 0 :: .send 1 0 :: sw) wts zs ps rest R ⊢ WP c (app (k0_part25 (F := F))) Q := by
  rw [app, k0_part25_eq_skeleton]; unfold k0_part25_skel
  simp only [Prog.lift, Prog.bind_op, Prog.bind_ret, Prog.pure_eq_ret]
  refine sent_tile 1 0 7 hc (by decide +kernel) rfl rfl hr ?_
  refine sent_tile 1 1 7 hc (by decide +kernel) rfl rfl hr ?_
  refine sent_tile 1 0 0 hc (by decide +kernel) rfl rfl hr ?_
  refine sent_tile 1 1 0 hc (by decide +kernel) rfl rfl hr ?_
  exact wp_done h

/-- Waits of root 1, 11 to 13 of 14. -/
theorem part26 {R : sProp 𝕄} {Q : _ → sProp 𝕄} (hc : c = rootD 1) (hr : ∀ x ∈ rest, 0 < lvl x.2)
    (h : St κ I c its sw wts (.send 0 5 :: .send 1 2 :: .send 0 2 :: zs) (.send 0 5 :: .send 1 2 :: .send 0 2 :: ps) rest R ⊢ Q ⟨⟩) :
    St κ I c its (.send 0 2 :: .send 1 2 :: .send 0 5 :: sw) wts zs ps rest R ⊢ WP c (app (k0_part26 (F := F))) Q := by
  rw [app, k0_part26_eq_skeleton]; unfold k0_part26_skel
  simp only [Prog.lift, Prog.bind_op, Prog.bind_ret, Prog.pure_eq_ret]
  refine sent_tile 1 0 2 hc (by decide +kernel) rfl rfl hr ?_
  refine sent_tile 1 1 2 hc (by decide +kernel) rfl rfl hr ?_
  refine sent_tile 1 0 5 hc (by decide +kernel) rfl rfl hr ?_
  exact wp_done h

theorem sent_at0 {R X : sProp 𝕄} (hc : c = rootD 0)
    (h : St κ I c its (.send 0 2 :: .send 1 2 :: .send 0 5 :: .send 1 5 :: .send 0 7 :: .send 1 7 :: .send 0 6 :: .send 1 6 :: .send 0 1 :: .send 1 1 :: .send 0 3 :: .send 1 3 :: .send 0 4 :: .send 1 4 :: sw) wts zs ps rest R ⊢ X) :
    St κ I c its (srcS 0 c ++ sw) wts zs ps rest R ⊢ X := by
  subst hc; rw [srcS0]; exact h
theorem sent_end0 {R X : sProp 𝕄} (hc : c = rootD 0)
    (h : St κ I c its sw wts ((srcS 0 c).reverse ++ zs) ((srcS 0 c).reverse ++ ps) rest R ⊢ X) :
    St κ I c its sw wts (.send 1 4 :: .send 0 4 :: .send 1 3 :: .send 0 3 :: .send 1 1 :: .send 0 1 :: .send 1 6 :: .send 0 6 :: .send 1 7 :: .send 0 7 :: .send 1 5 :: .send 0 5 :: .send 1 2 :: .send 0 2 :: zs) (.send 1 4 :: .send 0 4 :: .send 1 3 :: .send 0 3 :: .send 1 1 :: .send 0 1 :: .send 1 6 :: .send 0 6 :: .send 1 7 :: .send 0 7 :: .send 1 5 :: .send 0 5 :: .send 1 2 :: .send 0 2 :: ps) rest R ⊢ X := by
  subst hc; rw [srcS0] at h; exact h

theorem sent_at1 {R X : sProp 𝕄} (hc : c = rootD 1)
    (h : St κ I c its (.send 0 3 :: .send 1 3 :: .send 0 4 :: .send 1 4 :: .send 0 6 :: .send 1 6 :: .send 0 7 :: .send 1 7 :: .send 0 0 :: .send 1 0 :: .send 0 2 :: .send 1 2 :: .send 0 5 :: .send 1 5 :: sw) wts zs ps rest R ⊢ X) :
    St κ I c its (srcS 1 c ++ sw) wts zs ps rest R ⊢ X := by
  subst hc; rw [srcS1]; exact h
theorem sent_end1 {R X : sProp 𝕄} (hc : c = rootD 1)
    (h : St κ I c its sw wts ((srcS 1 c).reverse ++ zs) ((srcS 1 c).reverse ++ ps) rest R ⊢ X) :
    St κ I c its sw wts (.send 1 5 :: .send 0 5 :: .send 1 2 :: .send 0 2 :: .send 1 0 :: .send 0 0 :: .send 1 7 :: .send 0 7 :: .send 1 6 :: .send 0 6 :: .send 1 4 :: .send 0 4 :: .send 1 3 :: .send 0 3 :: zs) (.send 1 5 :: .send 0 5 :: .send 1 2 :: .send 0 2 :: .send 1 0 :: .send 0 0 :: .send 1 7 :: .send 0 7 :: .send 1 6 :: .send 0 6 :: .send 1 4 :: .send 0 4 :: .send 1 3 :: .send 0 3 :: ps) rest R ⊢ X := by
  subst hc; rw [srcS1] at h; exact h

/-- The other devices sent nothing of root j's. -/
theorem sent_skip {R X : sProp 𝕄} (j : Fin 2) (hc : c ≠ rootD j)
    (h : St κ I c its sw wts ((srcS j c).reverse ++ zs) ((srcS j c).reverse ++ ps) rest R ⊢ X) :
    St κ I c its (srcS j c ++ sw) wts zs ps rest R ⊢ X := by
  simpa only [srcS, if_neg hc, List.reverse_nil, List.nil_append] using h

theorem place_eq (n : ℕ) (hn : n < 8) (c : D8) : Scalar.cmpi .ne (Scalar.extui (Scalar.cmpi .eq (place c) (BitVec.ofNat 32 n)) : BitVec 32) 0#32 = 1#1 ↔ c.val = n := by
  revert c hn; revert n; decide +kernel

set_option maxHeartbeats 1000000 in
/-- Batch 1's product with the output weights is stored; the roots wait for their tiles to have left. -/
theorem part38 {R : sProp 𝕄} {Q : _ → sProp 𝕄} (f : Buf (Elt F) (ptM.view.loc (c : Thread nD τ))) (hr : ∀ x ∈ rest, 0 < lvl x.2)
    (h : ∀ w, w = 1#32 → St κ I c its sw wts ((srcS 1 c).reverse ++ ((srcS 0 c).reverse ++ zs)) ((srcS 1 c).reverse ++ ((srcS 0 c).reverse ++ ps)) rest
        iprop(pts c ptM fullShare (ptW I c) ∗ pts c woM fullShare (I.wo c) ∗ pts c kvM fullShare (kvW I c) ∗ R) ⊢ Q w) :
    St κ I c its (srcS 0 c ++ (srcS 1 c ++ sw)) wts zs ps rest iprop(pts c kvM fullShare (kvW I c) ∗ pts c ptM fullShare (ptB0 I c f) ∗ pts c woM fullShare (I.wo c) ∗ R)
      ⊢ WP c (app (k0_part38 (F := F)) (place c) k0_pay7 (c10 I c) (c11 I c) (c12 I c) (k0_pay25 (q1 I c)) (k0_pay26 (ld I c ![0, 0, 128, 192] inb_S2x2x256x256_S1x1x128x64_0_0_128_192) (ld I c ![1, 0, 128, 192] inb_S2x2x256x256_S1x1x128x64_1_0_128_192)) (ld I c ![0, 1, 128, 192] inb_S2x2x256x256_S1x1x128x64_0_1_128_192)) Q := by
  rw [app, k0_part38_eq_skeleton]; unfold k0_part38_skel
  simp -zeta only [Prog.lift, Prog.bind_op, Prog.bind_ret]
  refine St_load ?_
  refine St_third.trans ?_
  refine St_load ?_
  refine St_third.trans ?_
  refine St_load ?_
  refine St_store ?_
  refine (St_mono (R' := iprop(pts c ptM fullShare (ptW I c) ∗ pts c woM fullShare (I.wo c) ∗ pts c kvM fullShare (kvW I c) ∗ R)) (BIBase.Entails.of_eq (congrArg (fun g => iprop(pts c ptM fullShare g ∗ pts c woM fullShare (I.wo c) ∗ pts c kvM fullShare (kvW I c) ∗ R)) (pt_both f)))).trans ?_
  extract_lets -underBinder u0 u0' w0 j0

  suffices hmid : St κ I c its (srcS 1 c ++ sw) wts ((srcS 0 c).reverse ++ zs) ((srcS 0 c).reverse ++ ps) rest
      iprop(pts c ptM fullShare (ptW I c) ∗ pts c woM fullShare (I.wo c) ∗ pts c kvM fullShare (kvW I c) ∗ R) ⊢ WP c (j0 ⟨⟩) Q by
    clear_value j0
    by_cases hc : c = rootD 0
    · rw [dif_pos (show w0 = 1#1 from (place_eq 0 (by decide) c).2 (congrArg Fin.val hc))]
      refine sent_at0 hc ?_
      refine wp_then (part19 hc hr ?_)
      refine wp_then (part20 hc hr ?_)
      refine wp_then (part21 hc hr ?_)
      refine wp_then (part22 hc hr ?_)
      simp only [Prog.lift, Prog.bind_op, Prog.bind_ret, Prog.pure_eq_ret]
      refine sent_tile 0 1 4 hc (by decide +kernel) rfl rfl hr ?_
      exact sent_end0 hc hmid
    · rw [dif_neg fun h => hc (Fin.ext ((place_eq 0 (by decide) c).1 h))]
      exact sent_skip 0 hc hmid
  unfold j0
  extract_lets -underBinder u1 u1' w1 j1
  suffices hmid : St κ I c its sw wts ((srcS 1 c).reverse ++ ((srcS 0 c).reverse ++ zs)) ((srcS 1 c).reverse ++ ((srcS 0 c).reverse ++ ps)) rest
      iprop(pts c ptM fullShare (ptW I c) ∗ pts c woM fullShare (I.wo c) ∗ pts c kvM fullShare (kvW I c) ∗ R) ⊢ WP c (j1 ⟨⟩) Q by
    clear_value j1
    by_cases hc : c = rootD 1
    · rw [dif_pos (show w1 = 1#1 from (place_eq 1 (by decide) c).2 (congrArg Fin.val hc))]
      refine sent_at1 hc ?_
      refine wp_then (part23 hc hr ?_)
      refine wp_then (part24 hc hr ?_)
      refine wp_then (part25 hc hr ?_)
      refine wp_then (part26 hc hr ?_)
      simp only [Prog.lift, Prog.bind_op, Prog.bind_ret, Prog.pure_eq_ret]
      refine sent_tile 1 1 5 hc (by decide +kernel) rfl rfl hr ?_
      exact sent_end1 hc hmid
    · rw [dif_neg fun h => hc (Fin.ext ((place_eq 1 (by decide) c).1 h))]
      exact sent_skip 1 hc hmid
  unfold j1
  exact wp_done (h _ rfl)

end

end Cert.KernelIdeal.Run
end
-- ==== Proof.KI.BodyD.lean ====
/-
  THE RELAYED TILES HAVE LEFT.

  Part 39 of the body: each relay waits until the tiles it passed on have been read.
-/
module

public import proofs.«01_k».proof.Proof.KI.BodyC

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

section

variable {κ : GSem nD τ sig → ℕ} {I : In F} {c : D8} {its : List (CK × PayK)} {sw wts zs ps : List CK} {rest : List PayK}
variable {α : Type}

/-! ## The relayed tiles have left -/

/-- A relay waits for its two tiles to have left; -/
theorem fwd_at {R X : sProp 𝕄} (b : Rel) (hc : c = b.r) (h : St κ I c its (.fwd b.s 0 :: .fwd b.s 1 :: sw) wts zs ps rest R ⊢ X) :
    St κ I c its (relS b c ++ sw) wts zs ps rest R ⊢ X := by
  simp only [relS, if_pos hc]
  exact h
@[inherit_doc fwd_at] theorem fwd_end {R X : sProp 𝕄} (b : Rel) (hc : c = b.r) (h : St κ I c its sw wts ((relS b c).reverse ++ zs) ((relS b c).reverse ++ ps) rest R ⊢ X) :
    St κ I c its sw wts (.fwd b.s 1 :: .fwd b.s 0 :: zs) (.fwd b.s 1 :: .fwd b.s 0 :: ps) rest R ⊢ X := by
  simp only [relS, if_pos hc] at h
  exact h
@[inherit_doc fwd_at] theorem fwd_skip {R X : sProp 𝕄} (b : Rel) (hc : c ≠ b.r) (h : St κ I c its sw wts ((relS b c).reverse ++ zs) ((relS b c).reverse ++ ps) rest R ⊢ X) :
    St κ I c its (relS b c ++ sw) wts zs ps rest R ⊢ X := by
  simpa only [relS, if_neg hc, List.reverse_nil, List.nil_append] using h

theorem fwd_tile {R : sProp 𝕄} {Q : α → sProp 𝕄} (b : Rel) (t : Fin 2) (hc : c = b.r) (hb : b ∈ [rel0, rel1, rel2, rel3, rel4, rel5, rel6, rel7])
    {sem : DmaSem sig} {srcM dstM : Memref sig .tc .vmem S256x256 .bf16} {hsrc : srcM.view.WordExact} {hdst : dstM.view.WordExact}
    {k : PUnit → Prog (TpuEff nD τ sig (Elt F) Λ₀ .tc) α} (hsem : SemLoc.dma sem = osem (.fwd b.s t)) (hN : dstM.view.dmaCredit = amt (.fwd b.s t))
    (hr : ∀ x ∈ rest, 0 < lvl x.2) (h : St κ I c its sw wts (.fwd b.s t :: zs) (.fwd b.s t :: ps) rest R ⊢ WP c (k ⟨⟩) Q) :
    St κ I c its (.fwd b.s t :: sw) wts zs ps rest R ⊢ WP c (.op (.waitDma2 sem srcM dstM hsrc hdst) k) Q := by
  subst hc
  exact wp_sent (.fwd b.s t) hsem ⟨_, payers_send _ _ (relay_facts b hb t).2.2.2.1⟩ (by simp) hN hr h

set_option maxHeartbeats 1000000 in
/-- The relays wait for the tiles they passed on to have left. -/
theorem part39 {R : sProp 𝕄} {Q : _ → sProp 𝕄} (hr : ∀ x ∈ rest, 0 < lvl x.2)
    (h : ∀ w, St κ I c its sw wts ((relS rel7 c).reverse ++ ((relS rel6 c).reverse ++ ((relS rel5 c).reverse ++ ((relS rel4 c).reverse ++ ((relS rel3 c).reverse ++ ((relS rel2 c).reverse ++ ((relS rel1 c).reverse ++ ((relS rel0 c).reverse ++ zs)))))))) ((relS rel7 c).reverse ++ ((relS rel6 c).reverse ++ ((relS rel5 c).reverse ++ ((relS rel4 c).reverse ++ ((relS rel3 c).reverse ++ ((relS rel2 c).reverse ++ ((relS rel1 c).reverse ++ ((relS rel0 c).reverse ++ ps)))))))) rest R ⊢ Q w) :
    St κ I c its (relS rel0 c ++ (relS rel1 c ++ (relS rel2 c ++ (relS rel3 c ++ (relS rel4 c ++ (relS rel5 c ++ (relS rel6 c ++ (relS rel7 c ++ sw)))))))) wts zs ps rest R ⊢ WP c (app (k0_part39 (F := F)) (place c) 1#32) Q := by
  rw [app, k0_part39_eq_skeleton]; unfold k0_part39_skel

  simp -zeta only [Prog.lift, Prog.bind_op, Prog.bind_ret]
  extract_lets -underBinder -merge u0 u0' w0 j0
  suffices hmid : St κ I c its (relS rel1 c ++ (relS rel2 c ++ (relS rel3 c ++ (relS rel4 c ++ (relS rel5 c ++ (relS rel6 c ++ (relS rel7 c ++ sw))))))) wts ((relS rel0 c).reverse ++ zs) ((relS rel0 c).reverse ++ ps) rest R ⊢ WP c (j0 ⟨⟩) Q by
    clear_value j0
    by_cases hc : c = rel0.r
    · rw [dif_pos (show w0 = 1#1 from (place_eq 1 (by decide) c).2 (congrArg Fin.val hc))]
      simp only [Prog.lift, Prog.bind_op, Prog.bind_ret, Prog.pure_eq_ret]
      refine fwd_at rel0 hc ?_
      refine fwd_tile rel0 0 hc (by simp) rfl rfl hr ?_
      refine fwd_tile rel0 1 hc (by simp) rfl rfl hr ?_
      exact fwd_end rel0 hc hmid
    · rw [dif_neg fun h => hc (Fin.ext ((place_eq 1 (by decide) c).1 h))]
      exact fwd_skip rel0 hc hmid
  unfold j0
  extract_lets -underBinder -merge u1 u1' w1 j1
  suffices hmid : St κ I c its (relS rel2 c ++ (relS rel3 c ++ (relS rel4 c ++ (relS rel5 c ++ (relS rel6 c ++ (relS rel7 c ++ sw)))))) wts ((relS rel1 c).reverse ++ ((relS rel0 c).reverse ++ zs)) ((relS rel1 c).reverse ++ ((relS rel0 c).reverse ++ ps)) rest R ⊢ WP c (j1 ⟨⟩) Q by
    clear_value j1
    by_cases hc : c = rel1.r
    · rw [dif_pos (show w1 = 1#1 from (place_eq 1 (by decide) c).2 (congrArg Fin.val hc))]
      simp only [Prog.lift, Prog.bind_op, Prog.bind_ret, Prog.pure_eq_ret]
      refine fwd_at rel1 hc ?_
      refine fwd_tile rel1 0 hc (by simp) rfl rfl hr ?_
      refine fwd_tile rel1 1 hc (by simp) rfl rfl hr ?_
      exact fwd_end rel1 hc hmid
    · rw [dif_neg fun h => hc (Fin.ext ((place_eq 1 (by decide) c).1 h))]
      exact fwd_skip rel1 hc hmid
  unfold j1
  extract_lets -underBinder -merge u2 u2' w2 j2
  suffices hmid : St κ I c its (relS rel3 c ++ (relS rel4 c ++ (relS rel5 c ++ (relS rel6 c ++ (relS rel7 c ++ sw))))) wts ((relS rel2 c).reverse ++ ((relS rel1 c).reverse ++ ((relS rel0 c).reverse ++ zs))) ((relS rel2 c).reverse ++ ((relS rel1 c).reverse ++ ((relS rel0 c).reverse ++ ps))) rest R ⊢ WP c (j2 ⟨⟩) Q by
    clear_value j2
    by_cases hc : c = rel2.r
    · rw [dif_pos (show w2 = 1#1 from (place_eq 3 (by decide) c).2 (congrArg Fin.val hc))]
      simp only [Prog.lift, Prog.bind_op, Prog.bind_ret, Prog.pure_eq_ret]
      refine fwd_at rel2 hc ?_
      refine fwd_tile rel2 0 hc (by simp) rfl rfl hr ?_
      refine fwd_tile rel2 1 hc (by simp) rfl rfl hr ?_
      exact fwd_end rel2 hc hmid
    · rw [dif_neg fun h => hc (Fin.ext ((place_eq 3 (by decide) c).1 h))]
      exact fwd_skip rel2 hc hmid
  unfold j2
  extract_lets -underBinder -merge u3 u3' w3 j3
  suffices hmid : St κ I c its (relS rel4 c ++ (relS rel5 c ++ (relS rel6 c ++ (relS rel7 c ++ sw)))) wts ((relS rel3 c).reverse ++ ((relS rel2 c).reverse ++ ((relS rel1 c).reverse ++ ((relS rel0 c).reverse ++ zs)))) ((relS rel3 c).reverse ++ ((relS rel2 c).reverse ++ ((relS rel1 c).reverse ++ ((relS rel0 c).reverse ++ ps)))) rest R ⊢ WP c (j3 ⟨⟩) Q by
    clear_value j3
    by_cases hc : c = rel3.r
    · rw [dif_pos (show w3 = 1#1 from (place_eq 4 (by decide) c).2 (congrArg Fin.val hc))]
      simp only [Prog.lift, Prog.bind_op, Prog.bind_ret, Prog.pure_eq_ret]
      refine fwd_at rel3 hc ?_
      refine fwd_tile rel3 0 hc (by simp) rfl rfl hr ?_
      refine fwd_tile rel3 1 hc (by simp) rfl rfl hr ?_
      exact fwd_end rel3 hc hmid
    · rw [dif_neg fun h => hc (Fin.ext ((place_eq 4 (by decide) c).1 h))]
      exact fwd_skip rel3 hc hmid
  unfold j3
  extract_lets -underBinder -merge u4 u4' w4 j4
  suffices hmid : St κ I c its (relS rel5 c ++ (relS rel6 c ++ (relS rel7 c ++ sw))) wts ((relS rel4 c).reverse ++ ((relS rel3 c).reverse ++ ((relS rel2 c).reverse ++ ((relS rel1 c).reverse ++ ((relS rel0 c).reverse ++ zs))))) ((relS rel4 c).reverse ++ ((relS rel3 c).reverse ++ ((relS rel2 c).reverse ++ ((relS rel1 c).reverse ++ ((relS rel0 c).reverse ++ ps))))) rest R ⊢ WP c (j4 ⟨⟩) Q by
    clear_value j4
    by_cases hc : c = rel4.r
    · rw [dif_pos (show w4 = 1#1 from (place_eq 0 (by decide) c).2 (congrArg Fin.val hc))]
      simp only [Prog.lift, Prog.bind_op, Prog.bind_ret, Prog.pure_eq_ret]
      refine fwd_at rel4 hc ?_
      refine fwd_tile rel4 0 hc (by simp) rfl rfl hr ?_
      refine fwd_tile rel4 1 hc (by simp) rfl rfl hr ?_
      exact fwd_end rel4 hc hmid
    · rw [dif_neg fun h => hc (Fin.ext ((place_eq 0 (by decide) c).1 h))]
      exact fwd_skip rel4 hc hmid
  unfold j4
  extract_lets -underBinder -merge u5 u5' w5 j5
  suffices hmid : St κ I c its (relS rel6 c ++ (relS rel7 c ++ sw)) wts ((relS rel5 c).reverse ++ ((relS rel4 c).reverse ++ ((relS rel3 c).reverse ++ ((relS rel2 c).reverse ++ ((relS rel1 c).reverse ++ ((relS rel0 c).reverse ++ zs)))))) ((relS rel5 c).reverse ++ ((relS rel4 c).reverse ++ ((relS rel3 c).reverse ++ ((relS rel2 c).reverse ++ ((relS rel1 c).reverse ++ ((relS rel0 c).reverse ++ ps)))))) rest R ⊢ WP c (j5 ⟨⟩) Q by
    clear_value j5
    by_cases hc : c = rel5.r
    · rw [dif_pos (show w5 = 1#1 from (place_eq 0 (by decide) c).2 (congrArg Fin.val hc))]
      simp only [Prog.lift, Prog.bind_op, Prog.bind_ret, Prog.pure_eq_ret]
      refine fwd_at rel5 hc ?_
      refine fwd_tile rel5 0 hc (by simp) rfl rfl hr ?_
      refine fwd_tile rel5 1 hc (by simp) rfl rfl hr ?_
      exact fwd_end rel5 hc hmid
    · rw [dif_neg fun h => hc (Fin.ext ((place_eq 0 (by decide) c).1 h))]
      exact fwd_skip rel5 hc hmid
  unfold j5
  extract_lets -underBinder -merge u6 u6' w6 j6
  suffices hmid : St κ I c its (relS rel7 c ++ sw) wts ((relS rel6 c).reverse ++ ((relS rel5 c).reverse ++ ((relS rel4 c).reverse ++ ((relS rel3 c).reverse ++ ((relS rel2 c).reverse ++ ((relS rel1 c).reverse ++ ((relS rel0 c).reverse ++ zs))))))) ((relS rel6 c).reverse ++ ((relS rel5 c).reverse ++ ((relS rel4 c).reverse ++ ((relS rel3 c).reverse ++ ((relS rel2 c).reverse ++ ((relS rel1 c).reverse ++ ((relS rel0 c).reverse ++ ps))))))) rest R ⊢ WP c (j6 ⟨⟩) Q by
    clear_value j6
    by_cases hc : c = rel6.r
    · rw [dif_pos (show w6 = 1#1 from (place_eq 2 (by decide) c).2 (congrArg Fin.val hc))]
      simp only [Prog.lift, Prog.bind_op, Prog.bind_ret, Prog.pure_eq_ret]
      refine fwd_at rel6 hc ?_
      refine fwd_tile rel6 0 hc (by simp) rfl rfl hr ?_
      refine fwd_tile rel6 1 hc (by simp) rfl rfl hr ?_
      exact fwd_end rel6 hc hmid
    · rw [dif_neg fun h => hc (Fin.ext ((place_eq 2 (by decide) c).1 h))]
      exact fwd_skip rel6 hc hmid
  unfold j6
  extract_lets -underBinder -merge u7 u7' w7 j7
  suffices hmid : St κ I c its sw wts ((relS rel7 c).reverse ++ ((relS rel6 c).reverse ++ ((relS rel5 c).reverse ++ ((relS rel4 c).reverse ++ ((relS rel3 c).reverse ++ ((relS rel2 c).reverse ++ ((relS rel1 c).reverse ++ ((relS rel0 c).reverse ++ zs)))))))) ((relS rel7 c).reverse ++ ((relS rel6 c).reverse ++ ((relS rel5 c).reverse ++ ((relS rel4 c).reverse ++ ((relS rel3 c).reverse ++ ((relS rel2 c).reverse ++ ((relS rel1 c).reverse ++ ((relS rel0 c).reverse ++ ps)))))))) rest R ⊢ WP c (j7 ⟨⟩) Q by
    clear_value j7
    by_cases hc : c = rel7.r
    · rw [dif_pos (show w7 = 1#1 from (place_eq 5 (by decide) c).2 (congrArg Fin.val hc))]
      simp only [Prog.lift, Prog.bind_op, Prog.bind_ret, Prog.pure_eq_ret]
      refine fwd_at rel7 hc ?_
      refine fwd_tile rel7 0 hc (by simp) rfl rfl hr ?_
      refine fwd_tile rel7 1 hc (by simp) rfl rfl hr ?_
      exact fwd_end rel7 hc hmid
    · rw [dif_neg fun h => hc (Fin.ext ((place_eq 5 (by decide) c).1 h))]
      exact fwd_skip rel7 hc hmid
  unfold j7
  exact wp_done (h _)

end

end Cert.KernelIdeal.Run
end
-- ==== Proof.KI.BodyE.lean ====
/-
  THE PARTIAL ROWS.

  Parts 40 to 49 of the body: every device sends each other device its rows of the partial products, adds up its own rows, and stores the sum.
-/
module

public import proofs.«01_k».proof.Proof.KI.BodyD

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

/-! ## Where the printed offsets point -/

theorem off3_at : ∀ (c : Dev nD) (r : Fin 7), k0_off3 c (BitVec.ofNat 32 (1 + r.val)) = ![0, 16 * (nxt c r).val, 0] := by decide +kernel
theorem off5_at : ∀ (c : Dev nD) (r : Fin 7), k0_off5 c (BitVec.ofNat 32 (1 + r.val)) = ![(nxt c r).val] := by decide +kernel
theorem off7_at : ∀ (c : Dev nD) (r : Fin 7), k0_off7 c (BitVec.ofNat 32 (1 + r.val)) = ![(nxt c r).val, 0, 0, 0] := by decide +kernel
theorem off8_at : ∀ (c : Dev nD) (r : Fin 7), k0_off8 c (BitVec.ofNat 32 (1 + r.val)) = ![0, 16 * (nxt c r).val, 0] := by decide +kernel

theorem dev52_at : ∀ c : Dev nD, k0_dev52 c = (nxt c 0).val := by decide +kernel
theorem dev53_at : ∀ c : Dev nD, k0_dev53 c = (nxt c 1).val := by decide +kernel
theorem dev54_at : ∀ c : Dev nD, k0_dev54 c = (nxt c 2).val := by decide +kernel
theorem dev55_at : ∀ c : Dev nD, k0_dev55 c = (nxt c 3).val := by decide +kernel
theorem dev56_at : ∀ c : Dev nD, k0_dev56 c = (nxt c 4).val := by decide +kernel
theorem dev57_at : ∀ c : Dev nD, k0_dev57 c = (nxt c 5).val := by decide +kernel
theorem dev58_at : ∀ c : Dev nD, k0_dev58 c = (nxt c 6).val := by decide +kernel
theorem dev59_at : ∀ c : Dev nD, k0_dev59 c = (nxt c 0).val := by decide +kernel
theorem dev60_at : ∀ c : Dev nD, k0_dev60 c = (nxt c 1).val := by decide +kernel
theorem dev61_at : ∀ c : Dev nD, k0_dev61 c = (nxt c 2).val := by decide +kernel
theorem dev62_at : ∀ c : Dev nD, k0_dev62 c = (nxt c 3).val := by decide +kernel
theorem dev63_at : ∀ c : Dev nD, k0_dev63 c = (nxt c 4).val := by decide +kernel
theorem dev64_at : ∀ c : Dev nD, k0_dev64 c = (nxt c 5).val := by decide +kernel
theorem dev65_at : ∀ c : Dev nD, k0_dev65 c = (nxt c 6).val := by decide +kernel

theorem pt_at {s : Fin 8} {o : Fin 3 → ℕ} {ho hs} (e : o = ![0, 16 * s.val, 0]) : ptM.slice (Rect.unit (s := S2x128x512) o S2x16x512.size ho) hs = ptSl s := by
  subst e; rfl
theorem rs_at {s : Fin 8} {o : Fin 4 → ℕ} {ho hs} (e : o = ![s.val, 0, 0, 0]) :
    (rsM.slice (Rect.unit (s := S8x2x16x512) o S1x2x16x512.size ho) hs).squeeze S2x16x512 squeezes_S1x2x16x512_S2x16x512 = rsSl s := by
  subst e; rfl
theorem ag_at {s : Fin 8} {o : Fin 4 → ℕ} {ho hs} (e : o = ![s.val, 0, 0, 0]) :
    (agM.slice (Rect.unit (s := S8x2x16x512) o S1x2x16x512.size ho) hs).squeeze S2x16x512 squeezes_S1x2x16x512_S2x16x512 = agSl s := by
  subst e; rfl
theorem rs_sem {s : Fin 8} {o : Fin 1 → ℕ} {ho} (e : o = ![s.val]) :
    SemLoc.dma ((cc0_scratch11.slice (Rect.unit (s := S8) o S1.size ho)).squeeze S_ squeezes_S1_S_).sem = osem (.rsR s) := by
  subst e; revert ho; revert s; decide +kernel
theorem ag_sem {s : Fin 8} {o : Fin 1 → ℕ} {ho} (e : o = ![s.val]) :
    SemLoc.dma ((cc0_scratch13.slice (Rect.unit (s := S8) o S1.size ho)).squeeze S_ squeezes_S1_S_).sem = osem (.agR s) := by
  subst e; revert ho; revert s; decide +kernel

theorem rs_one : ∀ (c : D8) (i : Fin 7), (∃ p, payers c (.rsR (nxt c i)) = {p}) ∧ ∃ p, payers c (.agR (nxt c i)) = {p} := fun c i =>
  ⟨payers_recv c _ (by revert c i; decide +kernel), payers_recv c _ (by revert c i; decide +kernel)⟩

section

variable {κ : GSem nD τ sig → ℕ} {I : In F} {c : D8} {its : List (CK × PayK)} {sw wts zs ps : List CK} {rest : List PayK}
variable {α : Type}

/-! ## Reading a landed block, storing rows -/

/-- A load of a buffer's elements that the last wait brought. -/
theorem ps_load {R : sProp 𝕄} {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} (ck : CK) {q : PosShare TreeShare} {f : Buf (Elt F) (m.view.loc (c : Thread nD τ))}
    {S : Finset (Idx (m.view.loc (c : Thread nD τ)))} (hp : pay I c ck = (m.view.loc (c : Thread nD τ) ↦[S]{q} f)) (hS : m.view.setOn r.set ⊆ S)
    (h : St κ I c its sw wts zs (ck :: ps) rest R ⊢ WP c (k (m.view.readAt (Elt F) r f)) Q) :
    St κ I c its sw wts zs (ck :: ps) rest R ⊢ WP c (.op (.load m r hl) k) Q := by
  have hx : St κ I c its sw wts zs (ck :: ps) rest R = St κ I c its sw wts zs ps rest iprop((m.view.loc (c : Thread nD τ) ↦[S]{q} f) ∗ R) := by
    have h0 := St_pays (κ := κ) (I := I) (c := c) (its := its) (sw := sw) (wts := wts) (zs := zs) (ps := ps) (rest := rest) (R := R) [ck]
    refine h0.trans ?_
    rw [bigSepL_cons', bigSepL_nil, hp]
    refine sEq (St_mono ?_) (St_mono ?_)
    · iintro ⟨⟨H1, _⟩, H2⟩
      isplitl [H1]; · iexact H1
      iexact H2
    · iintro ⟨H1, H2⟩
      isplitl [H1]
      · isplitl [H1]; · iexact H1
        iempintro
      iexact H2
  rw [hx] at h ⊢
  refine (St_out _).1.trans ?_
  iintro ⟨H, HS⟩
  iapply wp_load (m := m) (r := r) (S := S) 𝒱₀ (c : Thread nD τ) none Set.univ hS $$ H
  iintro H
  iapply ((St_out _).2.trans h)
  isplitl [H]; · iexact H
  iexact HS

/-- A landed block of partial rows as loaded. -/
theorem rs_load {R : sProp 𝕄} {Q : α → sProp 𝕄} (s : Fin 8) {o : Fin 4 → ℕ} {ho : ∀ a, o a + S1x2x16x512.size a ≤ S8x2x16x512.size a} (e : o = ![s.val, 0, 0, 0])
    {hl : rsM.view.LoadsAt (Rect.unit (s := S8x2x16x512) o S1x2x16x512.size ho).toLoadRect} {k : Vec F S1x2x16x512 .bf16 → Prog (TpuEff nD τ sig (Elt F) Λ₀ .tc) α}
    (h : St κ I c its sw wts zs (.rsR s :: ps) rest R ⊢ WP c (k (rsL I c s)) Q) :
    St κ I c its sw wts zs (.rsR s :: ps) rest R ⊢ WP c (.op (.load rsM (Rect.unit (s := S8x2x16x512) o S1x2x16x512.size ho).toLoadRect hl) k) Q := by
  subst e
  refine ps_load (m := rsM) (.rsR s) (q := fullShare) (f := rsW I c) (S := (rsSl s).view.set) rfl ?_ h
  rw [show (rsSl s).view.set = (rsM.slice (blkR s) (fun _ => rfl)).view.set from View.set_reshape (v := (rsM.slice (blkR s) (fun _ => rfl)).view) _,
    show (rsM.slice (blkR s) (fun _ => rfl)).view.set = _ from View.set_slice (v := rsM.view) (blkR s)]
  exact Finset.Subset.refl _

/-- A landed block of reduced rows as loaded. -/
theorem ag_load {R : sProp 𝕄} {Q : α → sProp 𝕄} (s : Fin 8) {o : Fin 4 → ℕ} {ho : ∀ a, o a + S1x2x16x512.size a ≤ S8x2x16x512.size a} (e : o = ![s.val, 0, 0, 0])
    {hl : agM.view.LoadsAt (Rect.unit (s := S8x2x16x512) o S1x2x16x512.size ho).toLoadRect} {k : Vec F S1x2x16x512 .bf16 → Prog (TpuEff nD τ sig (Elt F) Λ₀ .tc) α}
    (h : St κ I c its sw wts zs (.agR s :: ps) rest R ⊢ WP c (k (agL I s)) Q) :
    St κ I c its sw wts zs (.agR s :: ps) rest R ⊢ WP c (.op (.load agM (Rect.unit (s := S8x2x16x512) o S1x2x16x512.size ho).toLoadRect hl) k) Q := by
  subst e
  refine ps_load (m := agM) (.agR s) (q := fullShare) (f := agW I) (S := (agSl s).view.set) rfl ?_ h
  rw [show (agSl s).view.set = (agM.slice (blkR s) (fun _ => rfl)).view.set from View.set_reshape (v := (agM.slice (blkR s) (fun _ => rfl)).view) _,
    show (agM.slice (blkR s) (fun _ => rfl)).view.set = _ from View.set_slice (v := agM.view) (blkR s)]
  exact Finset.Subset.refl _

/-- Groups of result rows still to be written, -/
def todo (l : List D8) (c : D8) : sProp 𝕄 := bigSepL l fun s => iprop(∃ f, pts c (outSl s) fullShare f)
/-- and those written. -/
def done (I : In F) (l : List D8) (c : D8) : sProp 𝕄 := bigSepL l fun s => pts c (outSl s) fullShare (outW I c)

/-- A group of result rows is loaded (for nothing) and written. -/
theorem out_store {R : sProp 𝕄} {Q : α → sProp 𝕄} (s : D8) {l l' : List D8} {o o' : Fin 3 → ℕ} {ho : ∀ a, o a + S2x16x512.size a ≤ S2x128x512.size a} {ho' : ∀ a, o' a + S2x16x512.size a ≤ S2x128x512.size a}
    (e : o = ![0, 16 * s.val, 0]) (e' : o' = ![0, 16 * s.val, 0])
    {hl : outM.view.LoadsAt (Rect.unit (s := S2x128x512) o S2x16x512.size ho).toLoadRect}
    {hx : (outM.access (Rect.unit (s := S2x128x512) o' S2x16x512.size ho')).Stores Finset.univ} {hm} {w : Vec F S2x16x512 .f32} (hw : w = outT I c s)
    {k : PUnit → Prog (TpuEff nD τ sig (Elt F) Λ₀ .tc) α}
    (h : St κ I c its sw wts zs ps rest iprop(todo l c ∗ done I (s :: l') c ∗ R) ⊢ WP c (k ⟨⟩) Q) :
    St κ I c its sw wts zs ps rest iprop(todo (s :: l) c ∗ done I l' c ∗ R)
      ⊢ WP c (.op (.load outM (Rect.unit (s := S2x128x512) o S2x16x512.size ho).toLoadRect hl) fun _ =>
          .op (.store outM (Rect.unit (s := S2x128x512) o' S2x16x512.size ho') w Finset.univ hx hm) k) Q := by
  subst e e' hw
  unfold todo done at h ⊢
  rw [bigSepL_cons']
  refine BIBase.Entails.trans (St_mono (R' := iprop((∃ f, pts c (outSl s) fullShare f) ∗ bigSepL l (fun s => iprop(∃ f, pts c (outSl s) fullShare f)) ∗ bigSepL l' (fun s => pts c (outSl s) fullShare (outW I c)) ∗ R)) ?_) ?_
  · iintro ⟨⟨H1, H2⟩, H3, H4⟩
    isplitl [H1]; · iexact H1
    isplitl [H2]; · iexact H2
    isplitl [H3]; · iexact H3
    iexact H4
  have h2 : St κ I c its sw wts zs ps rest iprop(pts c (outSl s) fullShare (outW I c) ∗ bigSepL l (fun s => iprop(∃ f, pts c (outSl s) fullShare f)) ∗ bigSepL l' (fun s => pts c (outSl s) fullShare (outW I c)) ∗ R)
      ⊢ WP c (k ⟨⟩) Q := by
    refine (St_mono ?_).trans h
    rw [bigSepL_cons']
    iintro ⟨H1, H2, H3, H4⟩
    isplitl [H2]; · iexact H2
    isplitl [H1 H3]
    · isplitl [H1]; · iexact H1
      iexact H3
    iexact H4
  refine (St_out _).1.trans ?_
  iintro ⟨⟨%f, H⟩, HS⟩
  iapply wp_load_rect (m := outM) (r := rowR s) 𝒱₀ (c : Thread nD τ) none Set.univ (Finset.Subset.refl _) $$ H
  iintro H
  iapply wp_store (m := outM) (r := rowR s) (Mk := Finset.univ) (S := (outM.access (rowR s)).set) 𝒱₀ (c : Thread nD τ) none Set.univ (Finset.Subset.refl _) $$ H
  iintro H
  have hwr := pts_write (F := F) (c := c) (outSl s) fullShare f (outW I c) (outT I c s) (funext fun x => rowR_read (outT I c) s x)
  ihave H := (BIBase.Entails.of_eq hwr) $$ H
  iapply ((St_out _).2.trans h2)
  isplitl [H]; · iexact H
  iexact HS

/-- A wait for a block of partial rows. -/
theorem rs_wait {R : sProp 𝕄} {Q : α → sProp 𝕄} (i : Fin 7) {o : Fin 1 → ℕ} {ho} (e : o = ![(nxt c i).val])
    {srcM dstM : Memref sig .tc .vmem S2x16x512 .bf16} {hsrc : srcM.view.WordExact} {hdst : dstM.view.WordExact}
    {k : PUnit → Prog (TpuEff nD τ sig (Elt F) Λ₀ .tc) α} (hN : dstM.view.dmaCredit = amt (.rsR (nxt c i))) (hr : ∀ x ∈ rest, 4 < lvl x.2)
    (h : St κ I c its sw wts (.rsR (nxt c i) :: zs) (.rsR (nxt c i) :: ps) rest R ⊢ WP c (k ⟨⟩) Q) :
    St κ I c its sw (.rsR (nxt c i) :: wts) zs ps rest R
      ⊢ WP c (.op (.waitDma2 ((cc0_scratch11.slice (Rect.unit (s := S8) o S1.size ho)).squeeze S_ squeezes_S1_S_).sem srcM dstM hsrc hdst) k) Q :=
  wp_arrive (.rsR (nxt c i)) (rs_sem e) (rs_one c i).1 (by simp) hN hr h

/-- A wait for a block of reduced rows. -/
theorem ag_wait {R : sProp 𝕄} {Q : α → sProp 𝕄} (i : Fin 7) {o : Fin 1 → ℕ} {ho} (e : o = ![(nxt c i).val])
    {srcM dstM : Memref sig .tc .vmem S2x16x512 .bf16} {hsrc : srcM.view.WordExact} {hdst : dstM.view.WordExact}
    {k : PUnit → Prog (TpuEff nD τ sig (Elt F) Λ₀ .tc) α} (hN : dstM.view.dmaCredit = amt (.agR (nxt c i))) (hr : ∀ x ∈ rest, 5 < lvl x.2)
    (h : St κ I c its sw wts (.agR (nxt c i) :: zs) (.agR (nxt c i) :: ps) rest R ⊢ WP c (k ⟨⟩) Q) :
    St κ I c its sw (.agR (nxt c i) :: wts) zs ps rest R
      ⊢ WP c (.op (.waitDma2 ((cc0_scratch13.slice (Rect.unit (s := S8) o S1.size ho)).squeeze S_ squeezes_S1_S_).sem srcM dstM hsrc hdst) k) Q :=
  wp_arrive (.agR (nxt c i)) (ag_sem e) (rs_one c i).2 (by simp) hN hr h

/-- A wait for a block to have left. -/
theorem blk_sent {R : sProp 𝕄} {Q : α → sProp 𝕄} (ck : CK) (hk : ck ∈ rsSK ++ agSK) {sem : DmaSem sig}
    {srcM dstM : Memref sig .tc .vmem S2x16x512 .bf16} {hsrc : srcM.view.WordExact} {hdst : dstM.view.WordExact}
    {k : PUnit → Prog (TpuEff nD τ sig (Elt F) Λ₀ .tc) α} (hsem : SemLoc.dma sem = osem ck) (hN : dstM.view.dmaCredit = amt ck) (hb : ck ≠ .bar) (h0 : lvl ck = 0) (hr : ∀ x ∈ rest, 0 < lvl x.2)
    (h : St κ I c its sw wts (ck :: zs) (ck :: ps) rest R ⊢ WP c (k ⟨⟩) Q) :
    St κ I c its (ck :: sw) wts zs ps rest R ⊢ WP c (.op (.waitDma2 sem srcM dstM hsrc hdst) k) Q :=
  wp_sent ck hsem ⟨_, payers_send c ck (List.mem_append_right _ (List.mem_append_right _ hk))⟩ hb hN (h0 ▸ hr) h

/-! ## The partial rows go round -/

theorem part40 {R : sProp 𝕄} {Q : _ → sProp 𝕄} (v2 : BitVec 32) (w1 : BitVec 32) (w2 : BitVec 32) (w3 : BitVec 1) (w4 : BitVec 1) (w5 : BitVec 32)
    (h : St κ I c its (.rsS 0 :: sw) wts zs ps rest R ⊢ Q ⟨⟩) :
    St κ I c ((.rsS 0, (nxt c 0, .rsR c)) :: its) sw wts zs (.rsS 0 :: ps) ((nxt c 0, .rsR c) :: rest) R ⊢ WP c (app (k0_part40 (F := F)) c v2 w1 w2 w3 w4 w5) Q := by
  rw [app, k0_part40_eq_skeleton]; unfold k0_part40_skel
  simp only [Prog.lift, Prog.bind_op, Prog.bind_ret, Prog.pure_eq_ret]
  refine copy_rs 0 (pt_at (off3_at c 0)) (rs_at (k0_off2_eq c)) (Fin.ext (dev52_at c)) rfl (rs_sem (k0_off1_eq c)) ?_
  exact wp_done h

theorem part41 {R : sProp 𝕄} {Q : _ → sProp 𝕄} (v2 : BitVec 32)
    (h : ∀ w, St κ I c its (.rsS 2 :: .rsS 1 :: sw) wts zs ps rest R ⊢ Q w) :
    St κ I c ((.rsS 1, (nxt c 1, .rsR c)) :: (.rsS 2, (nxt c 2, .rsR c)) :: its) sw wts zs (.rsS 1 :: .rsS 2 :: ps) ((nxt c 1, .rsR c) :: (nxt c 2, .rsR c) :: rest) R ⊢ WP c (app (k0_part41 (F := F)) c v2 ) Q := by
  rw [app, k0_part41_eq_skeleton]; unfold k0_part41_skel
  simp only [Prog.lift, Prog.bind_op, Prog.bind_ret, Prog.pure_eq_ret]
  refine copy_rs 1 (pt_at (off3_at c 1)) (rs_at (k0_off2_eq c)) (Fin.ext (dev53_at c)) rfl (rs_sem (k0_off1_eq c)) ?_
  refine copy_rs 2 (pt_at (off3_at c 2)) (rs_at (k0_off2_eq c)) (Fin.ext (dev54_at c)) rfl (rs_sem (k0_off1_eq c)) ?_
  exact wp_done (h _)

theorem part42 {R : sProp 𝕄} {Q : _ → sProp 𝕄} (v2 : BitVec 32) (w1 : BitVec 32) (w2 : BitVec 32)
    (h : ∀ w, St κ I c its (.rsS 4 :: .rsS 3 :: sw) wts zs ps rest R ⊢ Q w) :
    St κ I c ((.rsS 3, (nxt c 3, .rsR c)) :: (.rsS 4, (nxt c 4, .rsR c)) :: its) sw wts zs (.rsS 3 :: .rsS 4 :: ps) ((nxt c 3, .rsR c) :: (nxt c 4, .rsR c) :: rest) R ⊢ WP c (app (k0_part42 (F := F)) c v2 w1 w2) Q := by
  rw [app, k0_part42_eq_skeleton]; unfold k0_part42_skel
  simp only [Prog.lift, Prog.bind_op, Prog.bind_ret, Prog.pure_eq_ret]
  refine copy_rs 3 (pt_at (off3_at c 3)) (rs_at (k0_off2_eq c)) (Fin.ext (dev55_at c)) rfl (rs_sem (k0_off1_eq c)) ?_
  refine copy_rs 4 (pt_at (off3_at c 4)) (rs_at (k0_off2_eq c)) (Fin.ext (dev56_at c)) rfl (rs_sem (k0_off1_eq c)) ?_
  exact wp_done (h _)

theorem part43 {R : sProp 𝕄} {Q : _ → sProp 𝕄} (v2 : BitVec 32) (w1 : BitVec 32) (w2 : BitVec 32)
    (h : St κ I c its (.rsS 5 :: sw) wts zs ps rest R ⊢ Q ⟨⟩) :
    St κ I c ((.rsS 5, (nxt c 5, .rsR c)) :: its) sw wts zs (.rsS 5 :: ps) ((nxt c 5, .rsR c) :: rest) R ⊢ WP c (app (k0_part43 (F := F)) c v2 w1 w2) Q := by
  rw [app, k0_part43_eq_skeleton]; unfold k0_part43_skel
  simp only [Prog.lift, Prog.bind_op, Prog.bind_ret, Prog.pure_eq_ret]
  refine copy_rs 5 (pt_at (off3_at c 5)) (rs_at (k0_off2_eq c)) (Fin.ext (dev57_at c)) rfl (rs_sem (k0_off1_eq c)) ?_
  exact wp_done h

/-- The device's own rows, before the others' are added. -/
def own0 (I : In F) (c : D8) : FVec F S2x16x512 .f32 := k0_pay28 (ptM.view.readAt (Elt F) (rowR c).toLoadRect (ptW I c))

/-- A load of the device's own partial rows. -/
theorem own_load {R : sProp 𝕄} {Q : α → sProp 𝕄} {o : Fin 3 → ℕ} {ho : ∀ a, o a + S2x16x512.size a ≤ S2x128x512.size a} (e : o = ![0, 16 * c.val, 0])
    {hl : ptM.view.LoadsAt (Rect.unit (s := S2x128x512) o S2x16x512.size ho).toLoadRect} {k : Vec F S2x16x512 .bf16 → Prog (TpuEff nD τ sig (Elt F) Λ₀ .tc) α}
    (h : St κ I c its sw wts zs ps rest iprop(pts c (ptSl c) fullShare (ptW I c) ∗ R) ⊢ WP c (k (ptM.view.readAt (Elt F) (rowR c).toLoadRect (ptW I c))) Q) :
    St κ I c its sw wts zs ps rest iprop(pts c (ptSl c) fullShare (ptW I c) ∗ R) ⊢ WP c (.op (.load ptM (Rect.unit (s := S2x128x512) o S2x16x512.size ho).toLoadRect hl) k) Q := by
  subst e
  refine (St_out _).1.trans ?_
  iintro ⟨H, HS⟩
  iapply wp_load_rect (m := ptM) (r := rowR c) 𝒱₀ (c : Thread nD τ) none Set.univ (Finset.Subset.refl _) $$ H
  iintro H
  iapply ((St_out _).2.trans h)
  isplitl [H]; · iexact H
  iexact HS

theorem part44 {R : sProp 𝕄} {Q : _ → sProp 𝕄} (v2 : BitVec 32) (hr : ∀ x ∈ rest, 4 < lvl x.2)
    (h : St κ I c its (.rsS 6 :: sw) wts (.rsR (nxt c 0) :: zs) (.rsR (nxt c 0) :: ps) rest iprop(pts c (ptSl c) fullShare (ptW I c) ∗ R) ⊢ Q ⟨own0 I c, rsL I c (nxt c 0)⟩) :
    St κ I c ((.rsS 6, (nxt c 6, .rsR c)) :: its) sw (.rsR (nxt c 0) :: wts) zs (.rsS 6 :: ps) ((nxt c 6, .rsR c) :: rest) iprop(pts c (ptSl c) fullShare (ptW I c) ∗ R)
      ⊢ WP c (app (k0_part44 (F := F)) c v2) Q := by
  rw [app, k0_part44_eq_skeleton]; unfold k0_part44_skel
  simp only [Prog.lift, Prog.bind_op, Prog.bind_ret, Prog.pure_eq_ret]
  refine copy_rs 6 (pt_at (off3_at c 6)) (rs_at (k0_off2_eq c)) (Fin.ext (dev58_at c)) rfl (rs_sem (k0_off1_eq c)) ?_
  refine own_load (k0_off4_eq c) ?_
  refine rs_wait 0 (off5_at c 0) rfl hr ?_
  refine rs_load (nxt c 0) (off7_at c 0) ?_
  exact wp_done h

theorem part45 {R : sProp 𝕄} {Q : _ → sProp 𝕄} (v2 : BitVec 32)  (hr : ∀ x ∈ rest, 4 < lvl x.2)
    (h : ∀ w1 w2 w3 w4 w5, St κ I c its sw wts (.rsR (nxt c 1) :: zs) (.rsR (nxt c 1) :: ps) rest R ⊢ Q ⟨(k0_pay29 (own0 I c) (rsL I c (nxt c 0)) (rsL I c (nxt c 1))), w1, w2, w3, w4, w5⟩) :
    St κ I c its sw (.rsR (nxt c 1) :: wts) zs ps rest R ⊢ WP c (app (k0_part45 (F := F)) c v2 (own0 I c) (rsL I c (nxt c 0))) Q := by
  rw [app, k0_part45_eq_skeleton]; unfold k0_part45_skel
  simp only [Prog.lift, Prog.bind_op, Prog.bind_ret, Prog.pure_eq_ret]
  refine rs_wait 1 (off5_at c 1) rfl hr ?_
  refine rs_load (nxt c 1) (off7_at c 1) ?_
  exact wp_done (h _ _ _ _ _)

theorem part46 {R : sProp 𝕄} {Q : _ → sProp 𝕄} (v2 : BitVec 32) (w1 w2 : BitVec 32) (w3 w4 w5 : BitVec 1) (hr : ∀ x ∈ rest, 4 < lvl x.2)
    (h : ∀ x1, St κ I c its sw wts (.rsR (nxt c 2) :: zs) (.rsR (nxt c 2) :: ps) rest R ⊢ Q ⟨(k0_pay30 (k0_pay29 (own0 I c) (rsL I c (nxt c 0)) (rsL I c (nxt c 1))) (rsL I c (nxt c 2))), x1⟩) :
    St κ I c its sw (.rsR (nxt c 2) :: wts) zs ps rest R ⊢ WP c (app (k0_part46 (F := F)) c v2 (k0_pay29 (own0 I c) (rsL I c (nxt c 0)) (rsL I c (nxt c 1))) w1 w2 w3 w4 w5) Q := by
  rw [app, k0_part46_eq_skeleton]; unfold k0_part46_skel
  simp only [Prog.lift, Prog.bind_op, Prog.bind_ret, Prog.pure_eq_ret]
  refine rs_wait 2 (off5_at c 2) rfl hr ?_
  refine rs_load (nxt c 2) (off7_at c 2) ?_
  exact wp_done (h _)

theorem part47 {R : sProp 𝕄} {Q : _ → sProp 𝕄} (v2 : BitVec 32) (w1 : BitVec 32) (hr : ∀ x ∈ rest, 4 < lvl x.2)
    (h : ∀ x1 x2 x3, St κ I c its sw wts (.rsR (nxt c 4) :: .rsR (nxt c 3) :: zs) (.rsR (nxt c 4) :: .rsR (nxt c 3) :: ps) rest R ⊢ Q ⟨(k0_pay31 (k0_pay30 (k0_pay29 (own0 I c) (rsL I c (nxt c 0)) (rsL I c (nxt c 1))) (rsL I c (nxt c 2))) (rsL I c (nxt c 3)) (rsL I c (nxt c 4))), x1, x2, x3⟩) :
    St κ I c its sw (.rsR (nxt c 3) :: .rsR (nxt c 4) :: wts) zs ps rest R ⊢ WP c (app (k0_part47 (F := F)) c v2 (k0_pay30 (k0_pay29 (own0 I c) (rsL I c (nxt c 0)) (rsL I c (nxt c 1))) (rsL I c (nxt c 2))) w1) Q := by
  rw [app, k0_part47_eq_skeleton]; unfold k0_part47_skel
  simp only [Prog.lift, Prog.bind_op, Prog.bind_ret, Prog.pure_eq_ret]
  refine rs_wait 3 (off5_at c 3) rfl hr ?_
  refine rs_load (nxt c 3) (off7_at c 3) ?_
  refine rs_wait 4 (off5_at c 4) rfl hr ?_
  refine rs_load (nxt c 4) (off7_at c 4) ?_
  exact wp_done (h _ _ _)

theorem part48 {R : sProp 𝕄} {Q : _ → sProp 𝕄} (v2 : BitVec 32) (w1 w2 : BitVec 32) (w3 : BitVec 1) (hr : ∀ x ∈ rest, 4 < lvl x.2)
    (h : ∀ x1 x2 x3, St κ I c its sw wts (.rsR (nxt c 5) :: zs) (.rsR (nxt c 5) :: ps) rest R ⊢ Q ⟨acc I c, x1, x2, x3⟩) :
    St κ I c its sw (.rsR (nxt c 5) :: wts) zs ps rest R ⊢ WP c (app (k0_part48 (F := F)) c v2 (k0_pay31 (k0_pay30 (k0_pay29 (own0 I c) (rsL I c (nxt c 0)) (rsL I c (nxt c 1))) (rsL I c (nxt c 2))) (rsL I c (nxt c 3)) (rsL I c (nxt c 4))) w1 w2 w3) Q := by
  rw [app, k0_part48_eq_skeleton]; unfold k0_part48_skel
  simp only [Prog.lift, Prog.bind_op, Prog.bind_ret, Prog.pure_eq_ret]
  refine rs_wait 5 (off5_at c 5) rfl hr ?_
  refine rs_load (nxt c 5) (off7_at c 5) ?_
  exact wp_done (h _ _ _)

/-- The whole of the buffer of reduced rows. -/
abbrev redR : Rect S2x16x512 := Rect.unit (s := S2x16x512) ![0, 0, 0] S2x16x512.size inb_S2x16x512_S2x16x512_0_0_0

theorem red_write (f : Buf (Elt F) (redM.view.loc (c : Thread nD τ))) : (redM.access redR).write (Elt F) f (red I c) Finset.univ = red I c := by
  funext i
  have hi : (redM.access redR).emb i = i := by
    funext a
    match a with
    | 0 => exact Fin.ext (show 0 + 1 * (i 0).val = (i 0).val by omega)
    | 1 => exact Fin.ext (show 0 + 1 * (i 1).val = (i 1).val by omega)
    | 2 => exact Fin.ext (show 0 + 1 * (i 2).val = (i 2).val by omega)
  have hr := congrFun (View.read_write_univ (v := redM.access redR) (Val := Elt F) f (red I c)) i
  refine Eq.trans ?_ hr
  exact congrArg ((redM.access redR).write (Elt F) f (red I c) Finset.univ) hi.symm

/-- The last block, the device's own result rows and its reduced rows. -/
theorem part49 {R : sProp 𝕄} {Q : _ → sProp 𝕄} (v2 w1 w2 w3 : BitVec 32) (l : List D8) (f : Buf (Elt F) (redM.view.loc (c : Thread nD τ))) (hr : ∀ x ∈ rest, 4 < lvl x.2)
    (h : St κ I c its sw wts (.rsR (nxt c 6) :: zs) (.rsR (nxt c 6) :: ps) rest iprop(pts c redM fullShare (red I c) ∗ todo l c ∗ done I [c] c ∗ R) ⊢ Q ⟨⟩) :
    St κ I c its sw (.rsR (nxt c 6) :: wts) zs ps rest iprop(todo (c :: l) c ∗ done I [] c ∗ pts c redM fullShare f ∗ R)
      ⊢ WP c (app (k0_part49 (F := F)) c v2 (acc I c) w1 w2 w3) Q := by
  rw [app, k0_part49_eq_skeleton]; unfold k0_part49_skel
  simp only [Prog.lift, Prog.bind_op, Prog.bind_ret, Prog.pure_eq_ret]
  refine rs_wait 6 (off5_at c 6) rfl hr ?_
  refine rs_load (nxt c 6) (off7_at c 6) ?_
  refine out_store c (k0_off4_eq c) (k0_off4_eq c) (show own I c = outT I c c from (if_pos rfl).symm) ?_
  refine St_third.trans ?_
  refine St_load ?_
  refine St_store ?_
  refine (St_mono (R' := iprop(pts c redM fullShare (red I c) ∗ todo l c ∗ done I [c] c ∗ R)) (BIBase.Entails.of_eq (congrArg (fun g => iprop(pts c redM fullShare g ∗ todo l c ∗ done I [c] c ∗ R)) (red_write f)))).trans ?_
  exact wp_done h

end

end Cert.KernelIdeal.Run
end
-- ==== Proof.KI.BodyF.lean ====
/-
  THE REDUCED ROWS.

  Parts 50 to 60 of the body: every device sends its reduced rows to each other device, writes the result as the others' rows arrive, and waits for what it sent to have left.
-/
module

public import proofs.«01_k».proof.Proof.KI.BodyE

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

section

variable {κ : GSem nD τ sig → ℕ} {I : In F} {c : D8} {its : List (CK × PayK)} {sw wts zs ps : List CK} {rest : List PayK}
variable {α : Type}

/-! ## The reduced rows go round -/

theorem part50 {R : sProp 𝕄} {Q : _ → sProp 𝕄} (v2 : BitVec 32)
    (h : ∀ w, St κ I c its (.agS 1 :: .agS 0 :: sw) wts zs ps rest R ⊢ Q w) :
    St κ I c ((.agS 0, (nxt c 0, .agR c)) :: (.agS 1, (nxt c 1, .agR c)) :: its) sw wts zs (.agS 0 :: .agS 1 :: ps) ((nxt c 0, .agR c) :: (nxt c 1, .agR c) :: rest) R ⊢ WP c (app (k0_part50 (F := F)) c v2 ) Q := by
  rw [app, k0_part50_eq_skeleton]; unfold k0_part50_skel
  simp only [Prog.lift, Prog.bind_op, Prog.bind_ret, Prog.pure_eq_ret]
  refine copy_ag 0 rfl (ag_at (k0_off2_eq c)) (Fin.ext (dev59_at c)) rfl (ag_sem (k0_off1_eq c)) ?_
  refine copy_ag 1 rfl (ag_at (k0_off2_eq c)) (Fin.ext (dev60_at c)) rfl (ag_sem (k0_off1_eq c)) ?_
  exact wp_done (h _)

theorem part51 {R : sProp 𝕄} {Q : _ → sProp 𝕄} (v2 : BitVec 32) (w1 : BitVec 32)
    (h : ∀ w, St κ I c its (.agS 3 :: .agS 2 :: sw) wts zs ps rest R ⊢ Q w) :
    St κ I c ((.agS 2, (nxt c 2, .agR c)) :: (.agS 3, (nxt c 3, .agR c)) :: its) sw wts zs (.agS 2 :: .agS 3 :: ps) ((nxt c 2, .agR c) :: (nxt c 3, .agR c) :: rest) R ⊢ WP c (app (k0_part51 (F := F)) c v2 w1) Q := by
  rw [app, k0_part51_eq_skeleton]; unfold k0_part51_skel
  simp only [Prog.lift, Prog.bind_op, Prog.bind_ret, Prog.pure_eq_ret]
  refine copy_ag 2 rfl (ag_at (k0_off2_eq c)) (Fin.ext (dev61_at c)) rfl (ag_sem (k0_off1_eq c)) ?_
  refine copy_ag 3 rfl (ag_at (k0_off2_eq c)) (Fin.ext (dev62_at c)) rfl (ag_sem (k0_off1_eq c)) ?_
  exact wp_done (h _)

theorem part52 {R : sProp 𝕄} {Q : _ → sProp 𝕄} (v2 : BitVec 32) (w1 w2 : BitVec 32) (w3 w4 : BitVec 1)
    (h : ∀ w, St κ I c its (.agS 5 :: .agS 4 :: sw) wts zs ps rest R ⊢ Q w) :
    St κ I c ((.agS 4, (nxt c 4, .agR c)) :: (.agS 5, (nxt c 5, .agR c)) :: its) sw wts zs (.agS 4 :: .agS 5 :: ps) ((nxt c 4, .agR c) :: (nxt c 5, .agR c) :: rest) R ⊢ WP c (app (k0_part52 (F := F)) c v2 w1 w2 w3 w4) Q := by
  rw [app, k0_part52_eq_skeleton]; unfold k0_part52_skel
  simp only [Prog.lift, Prog.bind_op, Prog.bind_ret, Prog.pure_eq_ret]
  refine copy_ag 4 rfl (ag_at (k0_off2_eq c)) (Fin.ext (dev63_at c)) rfl (ag_sem (k0_off1_eq c)) ?_
  refine copy_ag 5 rfl (ag_at (k0_off2_eq c)) (Fin.ext (dev64_at c)) rfl (ag_sem (k0_off1_eq c)) ?_
  exact wp_done (h _)

theorem part53 {R : sProp 𝕄} {Q : _ → sProp 𝕄} (v2 : BitVec 32) (w1 w2 : BitVec 32) (w3 : BitVec 1) (w4 : BitVec 32) (hr : ∀ x ∈ rest, 5 < lvl x.2)
    (h : ∀ w, St κ I c its (.agS 6 :: sw) wts (.agR (nxt c 0) :: zs) (.agR (nxt c 0) :: ps) rest R ⊢ Q w) :
    St κ I c ((.agS 6, (nxt c 6, .agR c)) :: its) sw (.agR (nxt c 0) :: wts) zs (.agS 6 :: ps) ((nxt c 6, .agR c) :: rest) R ⊢ WP c (app (k0_part53 (F := F)) c v2 w1 w2 w3 w4) Q := by
  rw [app, k0_part53_eq_skeleton]; unfold k0_part53_skel
  simp only [Prog.lift, Prog.bind_op, Prog.bind_ret, Prog.pure_eq_ret]
  refine copy_ag 6 rfl (ag_at (k0_off2_eq c)) (Fin.ext (dev65_at c)) rfl (ag_sem (k0_off1_eq c)) ?_
  refine ag_wait 0 (off5_at c 0) rfl hr ?_
  exact wp_done (h _)

theorem nxt_ne : ∀ (c : D8) (i : Fin 7), ¬ nxt c i = c := by decide +kernel

/-- A landed block of reduced rows is loaded and written to the result. -/
theorem ag_out {R : sProp 𝕄} {Q : α → sProp 𝕄} (i : Fin 7) {l l' : List D8} {o : Fin 4 → ℕ} {ho : ∀ a, o a + S1x2x16x512.size a ≤ S8x2x16x512.size a} (e : o = ![(nxt c i).val, 0, 0, 0])
    {hl : agM.view.LoadsAt (Rect.unit (s := S8x2x16x512) o S1x2x16x512.size ho).toLoadRect}
    {o1 o2 : Fin 3 → ℕ} {ho1 : ∀ a, o1 a + S2x16x512.size a ≤ S2x128x512.size a} {ho2 : ∀ a, o2 a + S2x16x512.size a ≤ S2x128x512.size a}
    (e1 : o1 = ![0, 16 * (nxt c i).val, 0]) (e2 : o2 = ![0, 16 * (nxt c i).val, 0])
    {hl1 : outM.view.LoadsAt (Rect.unit (s := S2x128x512) o1 S2x16x512.size ho1).toLoadRect}
    {hx : (outM.access (Rect.unit (s := S2x128x512) o2 S2x16x512.size ho2)).Stores Finset.univ} {hm} {p : Vec F S1x2x16x512 .bf16 → Vec F S2x16x512 .f32} (hp : p = k0_pay35)
    {k : PUnit → Prog (TpuEff nD τ sig (Elt F) Λ₀ .tc) α}
    (h : St κ I c its sw wts zs (.agR (nxt c i) :: ps) rest iprop(todo l c ∗ done I (nxt c i :: l') c ∗ R) ⊢ WP c (k ⟨⟩) Q) :
    St κ I c its sw wts zs (.agR (nxt c i) :: ps) rest iprop(todo (nxt c i :: l) c ∗ done I l' c ∗ R)
      ⊢ WP c (.op (.load agM (Rect.unit (s := S8x2x16x512) o S1x2x16x512.size ho).toLoadRect hl) fun w =>
          .op (.load outM (Rect.unit (s := S2x128x512) o1 S2x16x512.size ho1).toLoadRect hl1) fun _ =>
          .op (.store outM (Rect.unit (s := S2x128x512) o2 S2x16x512.size ho2) (p w) Finset.univ hx hm) k) Q := by
  subst hp
  refine ag_load (nxt c i) e ?_
  exact out_store (nxt c i) e1 e2 (show k0_pay35 (agL I (nxt c i)) = outT I c (nxt c i) from (if_neg (nxt_ne c i)).symm) h

theorem part54 {R : sProp 𝕄} {Q : _ → sProp 𝕄} (v2 w1 : BitVec 32) {l l' : List D8} (hr : ∀ x ∈ rest, 5 < lvl x.2)
    (h : ∀ w, St κ I c its sw wts (.agR (nxt c 1) :: zs) (.agR (nxt c 1) :: .agR (nxt c 0) :: ps) rest iprop(todo l c ∗ done I (nxt c 1 :: nxt c 0 :: l') c ∗ R) ⊢ Q w) :
    St κ I c its (sw) (.agR (nxt c 1) :: wts) zs (.agR (nxt c 0) :: ps) rest iprop(todo (nxt c 0 :: nxt c 1 :: l) c ∗ done I l' c ∗ R) ⊢ WP c (app (k0_part54 (F := F)) c v2 w1) Q := by
  rw [app, k0_part54_eq_skeleton]; unfold k0_part54_skel
  simp only [Prog.lift, Prog.bind_op, Prog.bind_ret, Prog.pure_eq_ret]
  refine ag_out 0 (off7_at c 0) (off8_at c 0) (off8_at c 0) rfl ?_
  refine ag_wait 1 (off5_at c 1) rfl hr ?_
  refine ag_out 1 (off7_at c 1) (off8_at c 1) (off8_at c 1) rfl ?_
  exact wp_done (h _)

theorem part55 {R : sProp 𝕄} {Q : _ → sProp 𝕄} (v2 w1 w2 : BitVec 32) {l l' : List D8} (hr : ∀ x ∈ rest, 5 < lvl x.2)
    (h : ∀ w, St κ I c its sw wts (.agR (nxt c 2) :: zs) (.agR (nxt c 2) :: ps) rest iprop(todo l c ∗ done I (nxt c 2 :: l') c ∗ R) ⊢ Q w) :
    St κ I c its (sw) (.agR (nxt c 2) :: wts) zs (ps) rest iprop(todo (nxt c 2 :: l) c ∗ done I l' c ∗ R) ⊢ WP c (app (k0_part55 (F := F)) c v2 w1 w2) Q := by
  rw [app, k0_part55_eq_skeleton]; unfold k0_part55_skel
  simp only [Prog.lift, Prog.bind_op, Prog.bind_ret, Prog.pure_eq_ret]
  refine ag_wait 2 (off5_at c 2) rfl hr ?_
  refine ag_out 2 (off7_at c 2) (off8_at c 2) (off8_at c 2) rfl ?_
  exact wp_done (h _)

theorem part56 {R : sProp 𝕄} {Q : _ → sProp 𝕄} (v2 w1 : BitVec 32) {l l' : List D8} (hr : ∀ x ∈ rest, 5 < lvl x.2)
    (h : ∀ w, St κ I c its sw wts (.agR (nxt c 4) :: .agR (nxt c 3) :: zs) (.agR (nxt c 4) :: .agR (nxt c 3) :: ps) rest iprop(todo l c ∗ done I (nxt c 3 :: l') c ∗ R) ⊢ Q w) :
    St κ I c its (sw) (.agR (nxt c 3) :: .agR (nxt c 4) :: wts) zs (ps) rest iprop(todo (nxt c 3 :: l) c ∗ done I l' c ∗ R) ⊢ WP c (app (k0_part56 (F := F)) c v2 w1) Q := by
  rw [app, k0_part56_eq_skeleton]; unfold k0_part56_skel
  simp only [Prog.lift, Prog.bind_op, Prog.bind_ret, Prog.pure_eq_ret]
  refine ag_wait 3 (off5_at c 3) rfl hr ?_
  refine ag_out 3 (off7_at c 3) (off8_at c 3) (off8_at c 3) rfl ?_
  refine ag_wait 4 (off5_at c 4) rfl hr ?_
  exact wp_done (h _)

theorem part57 {R : sProp 𝕄} {Q : _ → sProp 𝕄} (v2 w1 : BitVec 32) {l l' : List D8} (hr : ∀ x ∈ rest, 5 < lvl x.2)
    (h : ∀ w, St κ I c its sw wts (.agR (nxt c 5) :: zs) (.agR (nxt c 5) :: .agR (nxt c 4) :: ps) rest iprop(todo l c ∗ done I (nxt c 5 :: nxt c 4 :: l') c ∗ R) ⊢ Q w) :
    St κ I c its (sw) (.agR (nxt c 5) :: wts) zs (.agR (nxt c 4) :: ps) rest iprop(todo (nxt c 4 :: nxt c 5 :: l) c ∗ done I l' c ∗ R) ⊢ WP c (app (k0_part57 (F := F)) c v2 w1) Q := by
  rw [app, k0_part57_eq_skeleton]; unfold k0_part57_skel
  simp only [Prog.lift, Prog.bind_op, Prog.bind_ret, Prog.pure_eq_ret]
  refine ag_out 4 (off7_at c 4) (off8_at c 4) (off8_at c 4) rfl ?_
  refine ag_wait 5 (off5_at c 5) rfl hr ?_
  refine ag_out 5 (off7_at c 5) (off8_at c 5) (off8_at c 5) rfl ?_
  exact wp_done (h _)

theorem part58 {R : sProp 𝕄} {Q : _ → sProp 𝕄} (w1 w2 : BitVec 32) {l l' : List D8} (hr : ∀ x ∈ rest, 5 < lvl x.2)
    (h : St κ I c its sw wts (.rsS 0 :: .agR (nxt c 6) :: zs) (.rsS 0 :: .agR (nxt c 6) :: ps) rest iprop(todo l c ∗ done I (nxt c 6 :: l') c ∗ R) ⊢ Q ⟨⟩) :
    St κ I c its (.rsS 0 :: sw) (.agR (nxt c 6) :: wts) zs (ps) rest iprop(todo (nxt c 6 :: l) c ∗ done I l' c ∗ R) ⊢ WP c (app (k0_part58 (F := F)) c w1 w2) Q := by
  rw [app, k0_part58_eq_skeleton]; unfold k0_part58_skel
  simp only [Prog.lift, Prog.bind_op, Prog.bind_ret, Prog.pure_eq_ret]
  refine ag_wait 6 (off5_at c 6) rfl hr ?_
  refine ag_out 6 (off7_at c 6) (off8_at c 6) (off8_at c 6) rfl ?_
  refine blk_sent (.rsS 0) (by decide +kernel) rfl rfl (by simp) rfl (fun x hx => lt_trans (by decide) (hr x hx)) ?_
  exact wp_done h

theorem part59 {R : sProp 𝕄} {Q : _ → sProp 𝕄} (hr : ∀ x ∈ rest, 0 < lvl x.2)
    (h : St κ I c its sw wts (.rsS 5 :: .rsS 4 :: .rsS 3 :: .rsS 2 :: .rsS 1 :: zs) (.rsS 5 :: .rsS 4 :: .rsS 3 :: .rsS 2 :: .rsS 1 :: ps) rest R ⊢ Q ⟨⟩) :
    St κ I c its (.rsS 1 :: .rsS 2 :: .rsS 3 :: .rsS 4 :: .rsS 5 :: sw) wts zs ps rest R ⊢ WP c (app (k0_part59 (F := F)) c) Q := by
  rw [app, k0_part59_eq_skeleton]; unfold k0_part59_skel
  simp only [Prog.lift, Prog.bind_op, Prog.bind_ret, Prog.pure_eq_ret]
  refine blk_sent (.rsS 1) (by decide +kernel) rfl rfl (by simp) rfl hr ?_
  refine blk_sent (.rsS 2) (by decide +kernel) rfl rfl (by simp) rfl hr ?_
  refine blk_sent (.rsS 3) (by decide +kernel) rfl rfl (by simp) rfl hr ?_
  refine blk_sent (.rsS 4) (by decide +kernel) rfl rfl (by simp) rfl hr ?_
  refine blk_sent (.rsS 5) (by decide +kernel) rfl rfl (by simp) rfl hr ?_
  exact wp_done h

theorem part60 {R : sProp 𝕄} {Q : _ → sProp 𝕄} (hr : ∀ x ∈ rest, 0 < lvl x.2)
    (h : St κ I c its sw wts (.agS 3 :: .agS 2 :: .agS 1 :: .agS 0 :: .rsS 6 :: zs) (.agS 3 :: .agS 2 :: .agS 1 :: .agS 0 :: .rsS 6 :: ps) rest R ⊢ Q ⟨⟩) :
    St κ I c its (.rsS 6 :: .agS 0 :: .agS 1 :: .agS 2 :: .agS 3 :: sw) wts zs ps rest R ⊢ WP c (app (k0_part60 (F := F)) c) Q := by
  rw [app, k0_part60_eq_skeleton]; unfold k0_part60_skel
  simp only [Prog.lift, Prog.bind_op, Prog.bind_ret, Prog.pure_eq_ret]
  refine blk_sent (.rsS 6) (by decide +kernel) rfl rfl (by simp) rfl hr ?_
  refine blk_sent (.agS 0) (by decide +kernel) rfl rfl (by simp) rfl hr ?_
  refine blk_sent (.agS 1) (by decide +kernel) rfl rfl (by simp) rfl hr ?_
  refine blk_sent (.agS 2) (by decide +kernel) rfl rfl (by simp) rfl hr ?_
  refine blk_sent (.agS 3) (by decide +kernel) rfl rfl (by simp) rfl hr ?_
  exact wp_done h

end

end Cert.KernelIdeal.Run
end
-- ==== Proof.KI.Rooms.lean ====
/-
  WHOLE BUFFERS AND THEIR ROOMS.

  What the launch hands a device, as the lists of the state need it, and what is in hand at the end, joined again.
-/
module

public import proofs.«01_k».proof.Proof.KI.BodyF

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

section Lists

variable {α β : Type}

omit [FloatOps F] [Named F] in
theorem bigSepL_seps (l : List α) (A B : α → sProp 𝕄) : bigSepL l (fun x => iprop(A x ∗ B x)) = iprop(bigSepL l A ∗ bigSepL l B) := by
  induction l with
  | nil =>
    rw [bigSepL_nil, bigSepL_nil, bigSepL_nil]
    exact sEq (by iintro H; isplitl [H]; · iexact H
                  iempintro) (by iintro ⟨H, H2⟩; iexact H)
  | cons x l ih =>
    rw [bigSepL_cons', bigSepL_cons', bigSepL_cons', ih]
    refine sEq ?_ ?_
    · iintro ⟨⟨H1, H2⟩, H3, H4⟩
      isplitl [H1 H3]; · isplitl [H1]; · iexact H1
                         iexact H3
      isplitl [H2]; · iexact H2
      iexact H4
    · iintro ⟨⟨H1, H3⟩, H2, H4⟩
      isplitl [H1 H2]; · isplitl [H1]; · iexact H1
                         iexact H2
      isplitl [H3]; · iexact H3
      iexact H4

omit [FloatOps F] [Named F] in
theorem bigSepL_flat (l : List α) (g : α → List β) (Φ : β → sProp 𝕄) : bigSepL (l.flatMap g) Φ = bigSepL l fun x => bigSepL (g x) Φ := by
  induction l with
  | nil => rfl
  | cons x l ih => rw [List.flatMap_cons, bigSepL_append, bigSepL_cons', ih]

omit [FloatOps F] [Named F] in
/-- Two lists side by side. -/
theorem bigSepL_zips : ∀ (l : List α) (l' : List β) (_ : l.length = l'.length) (A : α → sProp 𝕄) (B : β → sProp 𝕄),
    iprop(bigSepL l A ∗ bigSepL l' B) ⊢ bigSepL (l.zip l') fun x => iprop(A x.1 ∗ B x.2)
  | [], [], _, _, _ => by iintro ⟨H, -⟩; iexact H
  | x :: l, y :: l', h, A, B => by
    rw [List.zip_cons_cons, bigSepL_cons', bigSepL_cons', bigSepL_cons']
    iintro ⟨⟨H1, H2⟩, H3, H4⟩
    isplitl [H1 H3]; · isplitl [H1]; · iexact H1
                       iexact H3
    iapply (bigSepL_zips l l' (Nat.succ_inj.mp h) A B)
    isplitl [H2]; · iexact H2
    iexact H4

end Lists

omit [FloatOps F] [Named F] in
/-- Rectangles that cover a view, each at contents of its own, are the whole view. -/
theorem rects_join {s : Shape} {e : EltTy} {ι : Type} [Fintype ι] [DecidableEq ι] (l : List ι) (hl : (Finset.univ : Finset ι) = l.toFinset) (hn : l.Nodup) (M : Memref sig .tc .vmem s e)
    (R : ι → Rect s) (hs : ∀ i a, (R i).stride a = 1) (hd : ∀ i i', i ≠ i' → Disjoint (R i).set (R i').set) (hc : ∀ y : s.Idx, ∃ i, y ∈ (R i).set) (hw : M.view.set = Finset.univ)
    (c : D8) (q : PosShare TreeShare) (f₀ : Buf (Elt F) (M.view.loc (c : Thread nD τ))) :
    (bigSepL l fun i => iprop(∃ f, pts c (M.slice (R i) (hs i)) q f)) ⊢ (iprop(∃ f, pts c M q f) : sProp 𝕄) := by
  have hdj : ∀ i i', i ≠ i' → Disjoint (M.slice (R i) (hs i)).view.set (M.slice (R i') (hs i')).view.set :=
    fun i i' hi => by
      rw [show (M.slice (R i) (hs i)).view.set = _ from View.set_slice (v := M.view) (R i), show (M.slice (R i') (hs i')).view.set = _ from View.set_slice (v := M.view) (R i')]
      exact (Finset.disjoint_map M.view.emb).mpr (hd i i' hi)
  have hset : (Finset.univ : Finset ι).biUnion (fun i => show Finset (Idx (M.view.loc (c : Thread nD τ))) from (M.slice (R i) (hs i)).view.set) = Finset.univ := by
    refine Finset.eq_univ_iff_forall.mpr fun y => ?_
    have hy : y ∈ M.view.set := by rw [hw]; exact Finset.mem_univ y
    obtain ⟨x, -, rfl⟩ := Finset.mem_map.mp hy
    obtain ⟨i, hi⟩ := hc x
    exact Finset.mem_biUnion.mpr ⟨i, Finset.mem_univ i, (View.set_slice (v := M.view) (R i)).symm ▸ Finset.mem_map_of_mem _ hi⟩
  have hne : Nonempty (Buf (Elt F) (M.view.loc (c : Thread nD τ))) := ⟨f₀⟩
  rw [← bigSep_univ_eq_bigSepL l hl hn]
  refine (BI.bigSep_exists_pi Finset.univ fun i (f : Buf (Elt F) (M.view.loc (c : Thread nD τ))) => (pts c (M.slice (R i) (hs i)) q f : sProp 𝕄)).trans ?_
  iintro ⟨%fs, H⟩
  ihave H := (pointsTo_biUnion_join (Ix := ℕ) (Name := ℕ) (U := UU) (Lvl := ℕ) (Val := Elt F) (ℓ := M.view.loc (c : Thread nD τ)) (q := q) Finset.univ
    (fun i => show Finset (Idx (M.view.loc (c : Thread nD τ))) from (M.slice (R i) (hs i)).view.set) fs f₀ fun i _ i' _ h => hdj i i' h) $$ H
  icases H with ⟨%g, -, H⟩
  iexists g
  unfold pts
  rw [hw, ← hset]
  iexact H

section

variable (c : D8)

omit [FloatOps F] [Named F] in
/-- The relayed tiles' slots, -/
theorem rl_join (f₀ : Buf (Elt F) (rlM.view.loc (c : Thread nD τ))) :
    (bigSepL four fun i => roomBuf (F := F) c (.rrecv i.1 i.2)) ⊢ (iprop(∃ f, pts c rlM fullShare f) : sProp 𝕄) := by
  have h : (bigSepL four fun i => roomBuf (F := F) c (.rrecv i.1 i.2)) = bigSepL four fun i : Fin 2 × Fin 2 => iprop(∃ f, pts c (rlM.slice (slotR i.1 i.2) (fun _ => rfl)) fullShare f) :=
    congrArg (bigSepL four) (funext fun i => congrArg (fun S => (iprop(∃ f, rlM.view.loc (c : Thread nD τ) ↦[S]{fullShare} f) : sProp 𝕄))
      (View.set_reshape (v := (rlM.slice (slotR i.1 i.2) (fun _ => rfl)).view) _))
  rw [h]
  exact rects_join four (by decide) (by decide) rlM (fun i => slotR i.1 i.2) (fun _ _ => rfl) slotR_disj slotR_cover (View.set_whole cc0_scratch1) c fullShare f₀

omit [FloatOps F] [Named F] in
/-- the gathered partial products' blocks, -/
theorem rs_join (f₀ : Buf (Elt F) (rsM.view.loc (c : Thread nD τ))) :
    (bigSepL eight fun s => roomBuf (F := F) c (.rsR s)) ⊢ (iprop(∃ f, pts c rsM fullShare f) : sProp 𝕄) := by
  have h : (bigSepL eight fun s => roomBuf (F := F) c (.rsR s)) = bigSepL eight fun s => iprop(∃ f, pts c (rsM.slice (blkR s) (fun _ => rfl)) fullShare f) :=
    congrArg (bigSepL eight) (funext fun s => congrArg (fun S => (iprop(∃ f, rsM.view.loc (c : Thread nD τ) ↦[S]{fullShare} f) : sProp 𝕄))
      (View.set_reshape (v := (rsM.slice (blkR s) (fun _ => rfl)).view) _))
  rw [h]
  exact rects_join eight (by decide) (by decide) rsM blkR (fun _ _ => rfl) blkR_disj blkR_cover (View.set_whole cc0_scratch3) c fullShare f₀

omit [FloatOps F] [Named F] in
/-- the gathered reduced rows' blocks, each at contents of its own, are the buffer. -/
theorem ag_join (f₀ : Buf (Elt F) (agM.view.loc (c : Thread nD τ))) :
    (bigSepL eight fun s => roomBuf (F := F) c (.agR s)) ⊢ (iprop(∃ f, pts c agM fullShare f) : sProp 𝕄) := by
  have h : (bigSepL eight fun s => roomBuf (F := F) c (.agR s)) = bigSepL eight fun s => iprop(∃ f, pts c (agM.slice (blkR s) (fun _ => rfl)) fullShare f) :=
    congrArg (bigSepL eight) (funext fun s => congrArg (fun S => (iprop(∃ f, agM.view.loc (c : Thread nD τ) ↦[S]{fullShare} f) : sProp 𝕄))
      (View.set_reshape (v := (agM.slice (blkR s) (fun _ => rfl)).view) _))
  rw [h]
  exact rects_join eight (by decide) (by decide) agM blkR (fun _ _ => rfl) blkR_disj blkR_cover (View.set_whole cc0_scratch5) c fullShare f₀

/-! ## The slots -/

/-- The slots of the relayed tiles and of the two exchanges of rows. -/
def farK : List CK :=
  (four.map fun i => .rrecv i.1 i.2) ++ ((eight.map fun s => .rsR s) ++ eight.map fun s => .agR s)

theorem slotK_perm : slotK.Perm ((four.map fun i : Fin 2 × Fin 2 => CK.recv i.2 i.1) ++ farK) := by decide

omit [FloatOps F] [Named F] in
/-- Four whole buffers are the rooms of all slots. -/
theorem slots_of :
    iprop((∃ f, pts c kvM fullShare f) ∗ (∃ f, pts c rlM fullShare f) ∗ (∃ f, pts c rsM fullShare f) ∗ (∃ f, pts c agM fullShare f)) ⊢ bigSepL slotK (roomBuf (F := F) c) := by
  rw [bigSepL_permL slotK_perm, farK, bigSepL_append, bigSepL_append, bigSepL_append, bigSepL_map, bigSepL_map, bigSepL_map, bigSepL_map]
  refine BIClass.sep_mono ?_ (BIClass.sep_mono ?_ (BIClass.sep_mono ?_ ?_))
  · iintro ⟨%f, H⟩
    iapply (bigSepL_mono (Φ := fun i : Fin 2 × Fin 2 => pts c (kvSl i.1 i.2) fullShare f) fun i _ => by dsimp only [roomBuf]; iintro H; iexists f; iexact H)
    iapply (BIBase.Entails.of_eq (kvM_slots c fullShare f)); iexact H
  · iintro ⟨%f, H⟩
    iapply (bigSepL_mono (Φ := fun i : Fin 2 × Fin 2 => pts c (rlSl i.1 i.2) fullShare f) fun i _ => by dsimp only [roomBuf]; iintro H; iexists f; iexact H)
    iapply (BIBase.Entails.of_eq (rlM_slots c fullShare f)); iexact H
  · iintro ⟨%f, H⟩
    iapply (bigSepL_mono (Φ := fun s : Fin 8 => pts c (rsSl s) fullShare f) fun i _ => by dsimp only [roomBuf]; iintro H; iexists f; iexact H)
    iapply (BIBase.Entails.of_eq (rsM_blks c fullShare f)); iexact H
  · iintro ⟨%f, H⟩
    iapply (bigSepL_mono (Φ := fun s : Fin 8 => pts c (agSl s) fullShare f) fun i _ => by dsimp only [roomBuf]; iintro H; iexists f; iexact H)
    iapply (BIBase.Entails.of_eq (agM_blks c fullShare f)); iexact H

variable (I : In F)

include I in
/-- The far slots' rooms are three whole buffers. -/
theorem far_join :
    bigSepL farK (roomBuf (F := F) c) ⊢ (iprop((∃ f, pts c rlM fullShare f) ∗ (∃ f, pts c rsM fullShare f) ∗ (∃ f, pts c agM fullShare f)) : sProp 𝕄) := by
  rw [farK, bigSepL_append, bigSepL_append, bigSepL_map, bigSepL_map, bigSepL_map]
  exact BIClass.sep_mono (rl_join c (rlW I c)) (BIClass.sep_mono (rs_join c (rsW I c)) (ag_join c (agW I)))

/-- The slot a payload is in. -/
def slotOf : CK → CK
  | .fwd s t => .rrecv s t
  | k => k

theorem pay_room (k : CK) : pay I c k ⊢ roomBuf (F := F) c (slotOf k) := by
  cases k with
  | recv t j => dsimp only [pay, slotOf, roomBuf]; iintro H; iexists _; iexact H
  | rrecv s t => dsimp only [pay, slotOf, roomBuf]; iintro H; iexists _; iexact H
  | fwd s t => dsimp only [pay, slotOf, roomBuf]; iintro H; iexists _; iexact H
  | rsR s => dsimp only [pay, slotOf, roomBuf]; iintro H; iexists _; iexact H
  | agR s => dsimp only [pay, slotOf, roomBuf]; iintro H; iexists _; iexact H
  | _ => dsimp only [slotOf, roomBuf]; iintro -; iempintro

/-- The slots a device keeps and does not use. -/
def stashK (c : D8) : List CK := (keepK c).filter fun k => decide (k ∉ ownP 0 c ++ ownP 1 c)

theorem keep_perm : ∀ c : D8, (keepK c).Perm (ownP 0 c ++ (ownP 1 c ++ stashK c)) := by decide +kernel
theorem far_perm : ∀ c : D8, (((relsS c ++ (rsRK c ++ agRK c)).map slotOf) ++ stashK c).Perm farK := by decide +kernel

/-! ## The two roots' columns -/

/-- All source cells of a root's columns. -/
def colK : List CK := (eight.map fun d => .send 0 d) ++ eight.map fun d => .send 1 d

theorem kv_cols : iprop(pts c kM fullShare (I.k c) ∗ pts c vM fullShare (I.v c)) = bigSepL colK (pay I c) := by
  rw [colK, bigSepL_append, bigSepL_map, bigSepL_map, kM_cols, vM_cols]
  rfl

theorem colK_perm (j : Fin 2) : colK.Perm (scatS (rootD j) ++ [.send 0 (rootD j), .send 1 (rootD j)]) := by revert j; decide +kernel

/-- The keys and values of a device that is no root. -/
def kvKeep (I : In F) (c : D8) : sProp 𝕄 := if c = rootD 0 ∨ c = rootD 1 then iprop(emp) else iprop(pts c kM fullShare (I.k c) ∗ pts c vM fullShare (I.v c))

omit [FloatOps F] [Named F] in
theorem sep_emp' (P : sProp 𝕄) : P = iprop(P ∗ emp) := sEq (by iintro H; isplitl [H]; · iexact H
                                                               iempintro) (by iintro ⟨H, -⟩; iexact H)
omit [FloatOps F] [Named F] in
theorem emp_sep' (P : sProp 𝕄) : P = iprop(emp ∗ P) := sEq (by iintro H; isplitr; · iempintro
                                                               iexact H) (by iintro ⟨-, H⟩; iexact H)

theorem root_cols (j : Fin 2) : iprop(pts (rootD j) kM fullShare (I.k (rootD j)) ∗ pts (rootD j) vM fullShare (I.v (rootD j)))
    = iprop(bigSepL (scatS (rootD j)) (pay I (rootD j)) ∗ ownQ I j (rootD j)) := by
  rw [kv_cols, bigSepL_permL (colK_perm j), bigSepL_append, ownQ, if_pos rfl]
  rfl

theorem ownQ_none {j : Fin 2} {c : D8} (h : ¬ c = rootD j) : ownQ I j c = iprop(emp) := if_neg h
omit [FloatOps F] [Named F] in
theorem nil_emp {α : Type} (Φ : α → sProp 𝕄) : bigSepL [] Φ = iprop(emp) := rfl

/-- The keys and values as sources of copies, own columns, and what is left. -/
theorem kv_split : iprop(pts c kM fullShare (I.k c) ∗ pts c vM fullShare (I.v c))
    = iprop(bigSepL (srcS 0 c) (pay I c) ∗ bigSepL (srcS 1 c) (pay I c) ∗ ownQ I 0 c ∗ ownQ I 1 c ∗ kvKeep I c) := by
  by_cases h0 : c = rootD 0
  · subst h0
    rw [root_cols I 0, show srcS 1 (rootD 0) = [] from rfl, show srcS 0 (rootD 0) = scatS (rootD 0) from rfl, nil_emp, ownQ_none I (by decide : ¬ rootD 0 = rootD 1), kvKeep, if_pos (Or.inl rfl),
      ← emp_sep', ← emp_sep', ← sep_emp']
  by_cases h1 : c = rootD 1
  · subst h1
    rw [root_cols I 1, show srcS 0 (rootD 1) = [] from rfl, show srcS 1 (rootD 1) = scatS (rootD 1) from rfl, nil_emp, ownQ_none I (by decide : ¬ rootD 1 = rootD 0), kvKeep, if_pos (Or.inr rfl),
      ← emp_sep', ← emp_sep', ← sep_emp']
  · rw [srcS, srcS, if_neg h0, if_neg h1, nil_emp, ownQ_none I h0, ownQ_none I h1, kvKeep, if_neg (by simp only [h0, h1, or_self, not_false_eq_true]), ← emp_sep', ← emp_sep', ← emp_sep', ← emp_sep']

/-- A root's own columns with its own slots. -/
theorem own_rooms (j : Fin 2) : iprop(ownQ I j c ∗ bigSepL (ownP j c) (roomBuf (F := F) c)) ⊢ ownR I j c := by
  by_cases h : c = rootD j
  · rw [ownQ, ownP, ownR, if_pos h, if_pos h, if_pos h]
    rw [bigSepL_cons', bigSepL_cons']
    dsimp only [roomBuf]
    iintro ⟨⟨H1, H2⟩, H3, H4, -⟩
    isplitl [H1 H3]; · isplitl [H1]; · iexact H1
                       iexact H3
    isplitl [H2]; · iexact H2
    iexact H4
  · rw [ownQ, ownP, ownR, if_neg h, if_neg h, if_neg h]
    iintro -; iempintro

/-! ## Rows -/

/-- The other seven devices, next first. -/
def nexts (c : D8) : List D8 := [nxt c 0, nxt c 1, nxt c 2, nxt c 3, nxt c 4, nxt c 5, nxt c 6]

theorem nexts_perm : ∀ c : D8, eight.Perm (c :: nexts c) := by decide
theorem nexts_rev : ∀ c : D8, ((nexts c).reverse ++ [c]).Perm eight := by decide

/-- The partial products: own rows, and the sources of the copies. -/
theorem pt_split : pts c ptM fullShare (ptW I c) = iprop(pts c (ptSl c) fullShare (ptW I c) ∗ bigSepL rsSK (pay I c)) := by
  rw [ptM_rows, bigSepL_permL (nexts_perm c), bigSepL_cons']
  rfl

omit [FloatOps F] [Named F] in
/-- The result's rows to be written. -/
theorem out_todo (f : Buf (Elt F) (outM.view.loc (c : Thread nD τ))) : (pts c outM fullShare f : sProp 𝕄) ⊢ todo (c :: nexts c) c := by
  rw [outM_rows, bigSepL_permL (nexts_perm c)]
  unfold todo
  exact bigSepL_mono fun s _ => by iintro H; iexists f; iexact H

/-- The result's rows written. -/
theorem out_done : done I ((nexts c).reverse ++ [c]) c ⊢ pts c outM fullShare (outW I c) := by
  unfold done
  rw [outM_rows, bigSepL_permL (nexts_rev c)]

/-- The reduced rows in seven shares. -/
theorem red_shares : pts c redM fullShare (red I c) = bigSepL agSK (pay I c) := by
  have h : ∀ q : PosShare TreeShare, (pts c redM q (red I c) : sProp 𝕄) = iprop(pts c redM q.left (red I c) ∗ pts c redM q.right (red I c)) := fun q =>
    sEq (pointsTo_share q.mem_left_op_right).1 (pointsTo_share q.mem_left_op_right).2
  rw [h, h fullShare.right, h fullShare.right.right, h fullShare.right.right.right, h fullShare.right.right.right.right, h fullShare.right.right.right.right.right]
  rfl

end

end Cert.KernelIdeal.Run
end
-- ==== Proof.KI.Body.lean ====
/-
  A DEVICE'S WHOLE RUN.

  From the barrier signals to the last wait, the stages one after another.
-/
module

public import proofs.«01_k».proof.Proof.KI.Rooms

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

/-- What a copy's source cell starts with. -/
def SendTok (c : D8) (k : CK) : sProp 𝕄 := iprop(atPos ER (cell c k) 0 ∅ 0 ∗ reached ER (cell c k) 0 ∗ dutyTok ER (cell c k) 0 c)
/-- The duty of a copy's landing. -/
def LandTok (c : D8) (x : PayK) : sProp 𝕄 := dutyTok ER (cell x.1 x.2) 0 c

/-- What a device's operands hold. -/
def Ins (I : In F) (c : D8) : sProp 𝕄 :=
  iprop(pts c xM fullShare (I.x c) ∗ pts c wqM fullShare (I.wq c) ∗ (pts c kM fullShare (I.k c) ∗ pts c vM fullShare (I.v c)) ∗ pts c woM fullShare (I.wo c))

/-- What a device runs on, past the barrier's tokens. -/
def Pre (I : In F) (c : D8) (fo : Buf (Elt F) (outM.view.loc (c : Thread nD τ))) (fp : Buf (Elt F) (ptM.view.loc (c : Thread nD τ))) (fr : Buf (Elt F) (redM.view.loc (c : Thread nD τ)))
    (X : sProp 𝕄) : sProp 𝕄 :=
  iprop(bigSepL (sendK c) (SendTok (F := F) c) ∗ bigSepL (lands c) (LandTok (F := F) c) ∗ bigSepL (recvK c) (Wt (F := F) c) ∗ Ins I c
    ∗ pts c outM fullShare fo ∗ pts c ptM fullShare fp ∗ pts c redM fullShare fr ∗ bigSepL (keepK c) (roomBuf (F := F) c) ∗ X)

/-- What it leaves. -/
def Post (κ : GSem nD τ sig → ℕ) (I : In F) (c : D8) (X : sProp 𝕄) : sProp 𝕄 :=
  iprop(Ctx κ I ∗ Ow (F := F) c [] ∗ bigSepL (recvK c ++ sendK c) (Zero (F := F) c) ∗ Ins I c ∗ pts c outM fullShare (outW I c)
    ∗ (∃ f, pts c kvM fullShare f) ∗ (∃ f, pts c rlM fullShare f) ∗ (∃ f, pts c ptM fullShare f) ∗ (∃ f, pts c rsM fullShare f) ∗ (∃ f, pts c redM fullShare f) ∗ (∃ f, pts c agM fullShare f)
    ∗ atPos ER (cell c .bar) 1 ∅ 0 ∗ X)

/-! ## The lists of the two exchanges -/

/-- The copies of rows, in program order, -/
abbrev exIts (c : D8) : List (CK × PayK) :=
  [(.rsS 0, (nxt c 0, .rsR c)), (.rsS 1, (nxt c 1, .rsR c)), (.rsS 2, (nxt c 2, .rsR c)), (.rsS 3, (nxt c 3, .rsR c)), (.rsS 4, (nxt c 4, .rsR c)), (.rsS 5, (nxt c 5, .rsR c)), (.rsS 6, (nxt c 6, .rsR c)),
   (.agS 0, (nxt c 0, .agR c)), (.agS 1, (nxt c 1, .agR c)), (.agS 2, (nxt c 2, .agR c)), (.agS 3, (nxt c 3, .agR c)), (.agS 4, (nxt c 4, .agR c)), (.agS 5, (nxt c 5, .agR c)), (.agS 6, (nxt c 6, .agR c))]
/-- their landings, -/
abbrev exRest (c : D8) : List PayK :=
  [(nxt c 0, .rsR c), (nxt c 1, .rsR c), (nxt c 2, .rsR c), (nxt c 3, .rsR c), (nxt c 4, .rsR c), (nxt c 5, .rsR c), (nxt c 6, .rsR c),
   (nxt c 0, .agR c), (nxt c 1, .agR c), (nxt c 2, .agR c), (nxt c 3, .agR c), (nxt c 4, .agR c), (nxt c 5, .agR c), (nxt c 6, .agR c)]
/-- and the arrivals. -/
abbrev exWts (c : D8) : List CK :=
  [.rsR (nxt c 0), .rsR (nxt c 1), .rsR (nxt c 2), .rsR (nxt c 3), .rsR (nxt c 4), .rsR (nxt c 5), .rsR (nxt c 6),
   .agR (nxt c 0), .agR (nxt c 1), .agR (nxt c 2), .agR (nxt c 3), .agR (nxt c 4), .agR (nxt c 5), .agR (nxt c 6)]

/-- All copies, -/
abbrev allIts (c : D8) : List (CK × PayK) :=
  itS 0 c ++ (itS 1 c ++ (itR rel0 c ++ (itR rel1 c ++ (itR rel2 c ++ (itR rel3 c ++ (itR rel4 c ++ (itR rel5 c ++ (itR rel6 c ++ (itR rel7 c ++ exIts c)))))))))
/-- landings -/
abbrev allRest (c : D8) : List PayK :=
  dstS 0 c ++ (dstS 1 c ++ (relP rel0 c ++ (relP rel1 c ++ (relP rel2 c ++ (relP rel3 c ++ (relP rel4 c ++ (relP rel5 c ++ (relP rel6 c ++ (relP rel7 c ++ exRest c)))))))))
/-- and arrivals. -/
abbrev allWts (c : D8) : List CK :=
  relR rel0 c ++ (relR rel1 c ++ (relR rel2 c ++ (relR rel3 c ++ (relR rel4 c ++ (relR rel5 c ++ (relR rel6 c ++ (relR rel7 c ++ (recvR 0 c ++ (recvR 1 c ++ exWts c)))))))))

theorem its_eq : ∀ c : D8, (sendK c).zip (lands c) = allIts c := by decide +kernel
theorem rest_eq : ∀ c : D8, lands c = allRest c := by decide +kernel
theorem wts_eq : ∀ c : D8, recvK c = allWts c := by decide +kernel
theorem len_eq : ∀ c : D8, (sendK c).length = (lands c).length := by decide +kernel

theorem lv_a : ∀ c : D8, ∀ x ∈ relP rel0 c ++ (relP rel1 c ++ (relP rel2 c ++ (relP rel3 c ++ (relP rel4 c ++ (relP rel5 c ++ (relP rel6 c ++ (relP rel7 c ++ exRest c))))))), 2 < lvl x.2 := by decide +kernel
theorem lv_b : ∀ c : D8, ∀ x ∈ relP rel4 c ++ (relP rel5 c ++ (relP rel6 c ++ (relP rel7 c ++ exRest c))), 2 < lvl x.2 := by decide +kernel
theorem lv_c : ∀ c : D8, ∀ x ∈ exRest c, 3 < lvl x.2 := by decide +kernel
theorem lv_d : ∀ c : D8, ∀ x ∈ lands c, 1 < lvl x.2 := by decide +kernel

/-- The source cells of the scatter and the relays, in the order they are waited for. -/
theorem sw_perm : ∀ c : D8, ((relS rel7 c).reverse ++ ((relS rel6 c).reverse ++ ((relS rel5 c).reverse ++ ((relS rel4 c).reverse ++ ((relS rel3 c).reverse ++ ((relS rel2 c).reverse ++ ((relS rel1 c).reverse ++ ((relS rel0 c).reverse
      ++ ((srcS 1 c).reverse ++ ((srcS 0 c).reverse ++ [])))))))))).Perm
    (srcS 0 c ++ (srcS 1 c ++ (relS rel0 c ++ (relS rel1 c ++ (relS rel2 c ++ (relS rel3 c ++ (relS rel4 c ++ (relS rel5 c ++ (relS rel6 c ++ (relS rel7 c ++ [])))))))))) := by decide +kernel

section

variable {κ : GSem nD τ sig → ℕ} {I : In F} {c : D8}

/-- What stays aside while a device runs. -/
abbrev Aside (I : In F) (c : D8) (X : sProp 𝕄) : sProp 𝕄 :=
  iprop(kvKeep I c ∗ bigSepL (stashK c) (roomBuf (F := F) c) ∗ atPos ER (cell c .bar) 1 ∅ 0 ∗ X)

/-- Past the barrier: every landing has its room. -/
theorem start {X : sProp 𝕄} {fo : Buf (Elt F) (outM.view.loc (c : Thread nD τ))} {fp : Buf (Elt F) (ptM.view.loc (c : Thread nD τ))} {fr : Buf (Elt F) (redM.view.loc (c : Thread nD τ))} :
    iprop(Ctx κ I ∗ Ow (F := F) c (lands c) ∗ atPos ER (cell c .bar) 1 ∅ 0 ∗ (bigSepL (others c) fun p => barPay (F := F) p c) ∗ Pre I c fo fp fr X)
      ⊢ St κ I c (allIts c) [] (allWts c) [] (srcS 0 c ++ (srcS 1 c ++ [])) (allRest c)
          iprop(ownR I 0 c ∗ ownR I 1 c ∗ pts c xM fullShare (I.x c) ∗ pts c wqM fullShare (I.wq c)
            ∗ (pts c ptM fullShare fp ∗ pts c woM fullShare (I.wo c) ∗ todo (c :: nexts c) c ∗ pts c redM fullShare fr ∗ Aside I c X)) := by
  unfold Pre Ins St Aside
  rw [← its_eq c, ← rest_eq c, ← wts_eq c, kv_split, bigSepL_permL (keep_perm c), bigSepL_append (ownP 0 c), bigSepL_append (ownP 1 c), bigSepL_append (srcS 0 c), bigSepL_append (srcS 1 c)]
  iintro ⟨Hctx, Ho, Hb, Hroom, Hs, Hl, Hw, ⟨Hx, Hwq, ⟨Hp0, Hp1, Hq0, Hq1, Hkk⟩, Hwo⟩, Hout, Hpt, Hred, ⟨Ho0, Ho1, Hst⟩, HX⟩
  isplitl [Hctx]; · iexact Hctx
  isplitl [Hs Hl Hroom]
  · iapply (bigSepL_mono (Φ := fun t : CK × PayK => iprop(SendTok (F := F) c t.1 ∗ (LandTok (F := F) c t.2 ∗ Room t.2))) fun t _ => by
      unfold Item SendTok LandTok; exact BIBase.Entails.rfl)
    iapply (bigSepL_zips (sendK c) (lands c) (len_eq c) (SendTok (F := F) c) fun x => iprop(LandTok (F := F) c x ∗ Room x))
    isplitl [Hs]; · iexact Hs
    rw [bigSepL_seps]
    isplitl [Hl]; · iexact Hl
    rw [bigSepL_permL (room_perm c), bigSepL_flat]
    unfold barPay
    iapply (bigSepL_mono (Φ := fun p => bigSepL (handed p c) fun k => Room (F := F) (p, k)) fun p _ => by
      rw [bigSepL_map])
    iexact Hroom
  isplitr; · iempintro
  isplitl [Hw]; · iexact Hw
  isplitr; · iempintro
  isplitl [Hp0 Hp1]
  · isplitl [Hp0]; · iexact Hp0
    isplitl [Hp1]; · iexact Hp1
    iempintro
  isplitl [Ho]; · iexact Ho
  isplitl [Hq0 Ho0]
  · iapply (own_rooms c I 0)
    isplitl [Hq0]; · iexact Hq0
    iexact Ho0
  isplitl [Hq1 Ho1]
  · iapply (own_rooms c I 1)
    isplitl [Hq1]; · iexact Hq1
    iexact Ho1
  isplitl [Hx]; · iexact Hx
  isplitl [Hwq]; · iexact Hwq
  isplitl [Hpt]; · iexact Hpt
  isplitl [Hwo]; · iexact Hwo
  isplitl [Hout]; · iapply (out_todo c fo); iexact Hout
  isplitl [Hred]; · iexact Hred
  isplitl [Hkk]; · iexact Hkk
  isplitl [Hst]; · iexact Hst
  isplitl [Hb]; · iexact Hb
  iexact HX

/-- What is in hand at the end makes all buffers whole again. -/
theorem finish {zs ps : List CK} {X : sProp 𝕄} (hz : zs.Perm (recvK c ++ sendK c)) (hp : ps.Perm (srcS 0 c ++ (srcS 1 c ++ ((relsS c ++ (rsRK c ++ agRK c)) ++ (rsSK ++ agSK))))) :
    St κ I c [] [] [] zs ps [] iprop(todo [] c ∗ done I ((nexts c).reverse ++ [c]) c ∗ pts c (ptSl c) fullShare (ptW I c) ∗ pts c woM fullShare (I.wo c) ∗ pts c kvM fullShare (kvW I c)
        ∗ pts c wqM fullShare (I.wq c) ∗ pts c xM fullShare (I.x c) ∗ ownQ I 1 c ∗ ownQ I 0 c ∗ Aside I c X)
      ⊢ Post κ I c X := by
  unfold St Aside Post Ins
  rw [bigSepL_permL hz, bigSepL_permL hp, bigSepL_append (srcS 0 c), bigSepL_append (srcS 1 c), bigSepL_append (relsS c ++ (rsRK c ++ agRK c)), bigSepL_append rsSK, kv_split]
  iintro ⟨Hctx, -, -, -, Hz, ⟨Hp0, Hp1, Hfar, Hrs, Hag⟩, Ho, -, Hd, Hpt, Hwo, Hkv, Hwq, Hx, Hq1, Hq0, Hkk, Hst, Hb, HX⟩
  isplitl [Hctx]; · iexact Hctx
  isplitl [Ho]; · iexact Ho
  isplitl [Hz]; · iexact Hz
  isplitl [Hx Hwq Hp0 Hp1 Hq0 Hq1 Hkk Hwo]
  · isplitl [Hx]; · iexact Hx
    isplitl [Hwq]; · iexact Hwq
    isplitl [Hp0 Hp1 Hq0 Hq1 Hkk]
    · isplitl [Hp0]; · iexact Hp0
      isplitl [Hp1]; · iexact Hp1
      isplitl [Hq0]; · iexact Hq0
      isplitl [Hq1]; · iexact Hq1
      iexact Hkk
    iexact Hwo
  isplitl [Hd]; · iapply (out_done c I); iexact Hd
  isplitl [Hkv]; · iexists _; iexact Hkv
  ihave Hfar := (bigSepL_mono (Ψ := fun k => roomBuf (F := F) c (slotOf k)) fun k _ => pay_room c I k) $$ Hfar
  ihave Hfar := (show iprop(bigSepL (relsS c ++ (rsRK c ++ agRK c)) (fun k => roomBuf (F := F) c (slotOf k)) ∗ bigSepL (stashK c) (roomBuf (F := F) c))
      ⊢ iprop((∃ f, pts c rlM fullShare f) ∗ (∃ f, pts c rsM fullShare f) ∗ (∃ f, pts c agM fullShare f)) by
    rw [← bigSepL_map slotOf, ← bigSepL_append, bigSepL_permL (far_perm c)]; exact far_join c I) $$ [Hfar Hst]
  · isplitl [Hfar]; · iexact Hfar
    iexact Hst
  icases Hfar with ⟨Hrl, Hrr, Har⟩
  isplitl [Hrl]; · iexact Hrl
  isplitl [Hpt Hrs]
  · iexists (ptW I c)
    iapply (BIBase.Entails.of_eq (pt_split c I).symm)
    isplitl [Hpt]; · iexact Hpt
    iexact Hrs
  isplitl [Hrr]; · iexact Hrr
  isplitl [Hag]
  · iexists (red I c)
    iapply (BIBase.Entails.of_eq (red_shares c I).symm)
    iexact Hag
  isplitl [Har]; · iexact Har
  isplitl [Hb]; · iexact Hb
  iexact HX

end

end Cert.KernelIdeal.Run
end
-- ==== Proof.KI.Whole.lean ====
/-
  THE KERNEL ON ONE DEVICE.

  The stages of the body in order: barrier, scatter, attention, and the two exchanges of rows.
-/
module

public import proofs.«01_k».proof.Proof.KI.Body

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

section

variable {κ : GSem nD τ sig → ℕ} {I : In F} {c : D8}

set_option maxHeartbeats 4000000 in
/-- A device runs its whole body. -/
theorem body_run {X : sProp 𝕄} {fo : Buf (Elt F) (outM.view.loc (c : Thread nD τ))} {fp : Buf (Elt F) (ptM.view.loc (c : Thread nD τ))} {fr : Buf (Elt F) (redM.view.loc (c : Thread nD τ))} :
    StB κ I c (others c) (lands c) iprop(atPos ER (cell c .bar) 0 ∅ 0 ∗ cred (tallyAt (cell c .bar) 1 7) ∗ Pre I c fo fp fr X)
      ⊢ WP c (app (cc0_body (F := F))) fun _ => Post κ I c X := by
  rw [app, cc0_body_eq_skeleton]; unfold cc0_body_skel
  refine wp_then (part27 fun a b e => ?_)
  try dsimp only
  refine wp_then (part28 _ _ _ _ fun w => ?_)
  try dsimp only
  refine wp_then (part29 _ _ _ _ (lv_d c) (start.trans ?_))
  try dsimp only
  refine wp_then (part30 _ _ (lv_a c) fun w => ?_)
  try dsimp only
  refine wp_then (part31 _ _ (lv_b c) (lv_c c) ?_)
  try dsimp only
  refine wp_then (part32 ?_)
  try dsimp only
  refine wp_then (part33 ?_)
  try dsimp only
  refine wp_then (part34 ?_)
  try dsimp only
  refine (St_mono (R' := iprop(pts c kvM fullShare (kvW I c) ∗ pts c ptM fullShare fp ∗ pts c woM fullShare (I.wo c)
      ∗ (pts c wqM fullShare (I.wq c) ∗ pts c xM fullShare (I.x c) ∗ ownQ I 1 c ∗ ownQ I 0 c ∗ todo (c :: nexts c) c ∗ pts c redM fullShare fr ∗ Aside I c X))) ?_).trans ?_
  · iintro ⟨H1, H2, H3, H4, H5, H6, H7, H8⟩
    isplitl [H1]; · iexact H1
    isplitl [H6]; · iexact H6
    isplitl [H7]; · iexact H7
    isplitl [H2]; · iexact H2
    isplitl [H3]; · iexact H3
    isplitl [H4]; · iexact H4
    isplitl [H5]; · iexact H5
    iexact H8
  refine wp_then (part35 fp ?_)
  try dsimp only
  refine wp_then (part36 ?_)
  try dsimp only
  refine wp_then (part37 ?_)
  try dsimp only
  refine (BIBase.Entails.of_eq (St_perm (sw_perm c) (List.Perm.refl _))).trans ?_
  refine wp_then (part38 fp (fun x hx => lt_trans (by decide) (lv_c c x hx)) fun w hw => ?_)
  try dsimp only
  subst hw
  refine wp_then (part39 (fun x hx => lt_trans (by decide) (lv_c c x hx)) fun w => ?_)
  try dsimp only
  refine (St_mono (R' := iprop(bigSepL rsSK (pay I c) ∗ (pts c (ptSl c) fullShare (ptW I c) ∗ (todo (c :: nexts c) c ∗ done I [] c ∗ pts c redM fullShare fr
      ∗ (pts c woM fullShare (I.wo c) ∗ pts c kvM fullShare (kvW I c) ∗ pts c wqM fullShare (I.wq c) ∗ pts c xM fullShare (I.x c) ∗ ownQ I 1 c ∗ ownQ I 0 c ∗ Aside I c X))))) ?_).trans ?_
  · rw [pt_split]
    iintro ⟨⟨H1, H2⟩, H3, H4, H5, H6, H7, H8, H9, H10, H11⟩
    isplitl [H2]; · iexact H2
    isplitl [H1]; · iexact H1
    isplitl [H9]; · iexact H9
    isplitr; · unfold done; rw [nil_emp]; iempintro
    isplitl [H10]; · iexact H10
    isplitl [H3]; · iexact H3
    isplitl [H4]; · iexact H4
    isplitl [H5]; · iexact H5
    isplitl [H6]; · iexact H6
    isplitl [H7]; · iexact H7
    isplitl [H8]; · iexact H8
    iexact H11
  refine (BIBase.Entails.of_eq (St_pays rsSK).symm).trans ?_
  refine wp_then (part40 _ _ _ _ _ _ ?_)
  try dsimp only
  refine wp_then (part41 _ fun w => ?_)
  try dsimp only
  refine wp_then (part42 _ _ _ fun w => ?_)
  try dsimp only
  refine wp_then (part43 _ _ _ ?_)
  try dsimp only
  refine wp_then (part44 _ (by simp [lvl]) ?_)
  try dsimp only
  refine wp_then (part45 _ (by simp [lvl]) fun w1 w2 w3 w4 w5 => ?_)
  try dsimp only
  refine wp_then (part46 _ _ _ _ _ _ (by simp [lvl]) fun w1 => ?_)
  try dsimp only
  refine wp_then (part47 _ _ (by simp [lvl]) fun w1 w2 w3 => ?_)
  try dsimp only
  refine wp_then (part48 _ _ _ _ (by simp [lvl]) fun w1 w2 w3 => ?_)
  try dsimp only
  refine (St_mono (R' := iprop(todo (c :: nexts c) c ∗ done I [] c ∗ pts c redM fullShare fr ∗ (pts c (ptSl c) fullShare (ptW I c)
      ∗ pts c woM fullShare (I.wo c) ∗ pts c kvM fullShare (kvW I c) ∗ pts c wqM fullShare (I.wq c) ∗ pts c xM fullShare (I.x c) ∗ ownQ I 1 c ∗ ownQ I 0 c ∗ Aside I c X))) ?_).trans ?_
  · iintro ⟨H1, H2, H3, H4, H5⟩
    isplitl [H2]; · iexact H2
    isplitl [H3]; · iexact H3
    isplitl [H4]; · iexact H4
    isplitl [H1]; · iexact H1
    iexact H5
  refine wp_then (part49 _ _ _ _ (nexts c) fr (by simp [lvl]) ?_)
  try dsimp only
  rw [red_shares, ← St_pays agSK]
  refine wp_then (part50 _ fun w => ?_)
  try dsimp only
  refine wp_then (part51 _ _ fun w => ?_)
  try dsimp only
  refine wp_then (part52 _ _ _ _ _ fun w => ?_)
  try dsimp only
  refine wp_then (part53 _ _ _ _ _ (by simp) fun w => ?_)
  try dsimp only
  refine wp_then (part54 _ _ (by simp) fun w => ?_)
  try dsimp only
  refine wp_then (part55 _ _ _ (by simp) fun w => ?_)
  try dsimp only
  refine wp_then (part56 _ _ (by simp) fun w => ?_)
  try dsimp only
  refine wp_then (part57 _ _ (by simp) fun w => ?_)
  try dsimp only
  rw [St_perm (sw' := rsSK ++ agSK) (by decide) (List.Perm.refl _)]
  refine wp_then (part58 _ _ (by simp) ?_)
  try dsimp only
  refine wp_then (part59 (by simp) ?_)
  try dsimp only
  refine wp_then (part60 (by simp) ?_)
  try dsimp only
  simp only [Prog.lift, Prog.bind_op, Prog.bind_ret, Prog.pure_eq_ret]
  refine blk_sent (.agS 4) (by decide +kernel) rfl rfl (by simp) rfl (by simp) ?_
  refine blk_sent (.agS 5) (by decide +kernel) rfl rfl (by simp) rfl (by simp) ?_
  refine blk_sent (.agS 6) (by decide +kernel) rfl rfl (by simp) rfl (by simp) ?_
  refine wp_done (finish ?_ ?_)
  · clear fo fp fr; revert c; decide +kernel
  · clear fo fp fr; revert c; decide +kernel

end

end Cert.KernelIdeal.Run
end
-- ==== Proof.KI.Open.lean ====
/-
  OPENING THE CELLS.

  At the launch every cell is funded and every device has the tokens of the duties it pays. On entering the kernel a device opens the cells its copies
  use, with the counters at zero, and is then in the state its run starts from.
-/
module

public import proofs.«01_k».proof.Proof.KI.Whole

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

open Idealize.ShloMosaic.TalkSites (Pay tallyL Fam credOf allPays launchCred_tallyL cred_tallyL)

variable (κ : GSem nD τ sig → ℕ) (I : In F) (c : D8)

/-! ## The lists -/

omit [FloatOps F] [Named F] in
theorem ownSems_list : (ownSems0 osemN c : sProp 𝕄) = bigSepL ownK (Zero (F := F) c) := by
  unfold ownSems0
  have e : (Finset.univ.map ⟨osemN, by decide +kernel⟩ : Finset (SemLoc sig)) = (ownK.map osem).toFinset := by decide +kernel
  have h : (bigSep Finset.univ fun k => (semVal ((c : Thread nD τ), osemN k) 0 : sProp 𝕄)) = bigSep (Finset.univ.map ⟨osemN, by decide +kernel⟩) fun sm => semVal ((c : Thread nD τ), sm) 0 :=
    (BI.bigSep_map (⟨osemN, by decide +kernel⟩ : Fin 58 ↪ SemLoc sig) (Φ := fun sm : SemLoc sig => (semVal ((c : Thread nD τ), sm) 0 : sProp 𝕄))).symm
  rw [h, e, bigSep_eq_bigSepL _ (ownK_nodup.map fun _ _ h => osem_inj h), bigSepL_map]
  rfl

omit [FloatOps F] [Named F] in
theorem dorm_list (Φ : SemLoc sig → sProp 𝕄) : bigSep (fam.dorm 0) Φ = bigSepL ownK fun k => Φ (osem k) := by
  rw [show fam.dorm 0 = (ownK.map osem).toFinset from rfl, bigSep_eq_bigSepL _ (ownK_nodup.map fun _ _ h => osem_inj h), bigSepL_map]

theorem tok_nodup : ∀ c : D8, (dues c ++ (sendK c).map fun k => (c, k)).Nodup := by decide +kernel

omit [FloatOps F] [Named F] in
theorem toks_list : (bigSep (fam.toks c 0) fun x => (dutyTok ER x.1 x.2.1 x.2.2 : sProp 𝕄))
    = iprop(bigSepL (dues c) (LandTok (F := F) c) ∗ bigSepL (sendK c) fun k => dutyTok ER (cell c k) 0 c) := by
  have e : fam.toks c 0 = ((dues c ++ (sendK c).map fun k => (c, k)).map fun x : PayK => (cell x.1 x.2, 0, c)).toFinset := by
    rw [List.map_append, List.map_map]; rfl
  have hi : Function.Injective fun x : PayK => ((cell x.1 x.2, 0, c) : GSem nD τ sig × ℕ × D8) := fun x y h => by
    have h1 : cell x.1 x.2 = cell y.1 y.2 := congrArg Prod.fst h
    exact Prod.ext (congrArg (fun g : GSem nD τ sig => g.1.1) h1) (osem_inj (congrArg Prod.snd h1))
  rw [e, bigSep_eq_bigSepL _ ((tok_nodup c).map hi), bigSepL_map, bigSepL_append, bigSepL_map]
  rfl

/-! ## The credits -/

omit [FloatOps F] [Named F] in
theorem cred_units (g : GSem nD τ sig) (i : ℕ) : ∀ l : List D8, (bigSepL l fun _ => (cred (tallyAt g i 1) : sProp 𝕄)) ⊢ cred (tallyAt g i l.length)
  | [] => by rw [List.length_nil, tallyAt_zero, cred_zero]; exact .rfl
  | _ :: l => by
    rw [bigSepL_cons', List.length_cons, Nat.add_comm, ← tallyAt_add]
    refine (BIClass.sep_mono .rfl (cred_units g i l)).trans ?_
    exact (cred_add _ _).2

omit [FloatOps F] [Named F] in
theorem credOf_list : (credOf (fun d => payT (dues d)) c).Perm (payT (((others c).map fun _ => (c, CK.bar)) ++ (recvK c).map fun k => (c, k))) := by
  refine List.Perm.trans (.of_eq ?_) ((creds_perm c).map _)
  unfold credOf allPays payT
  rw [List.filter_flatMap, List.filter_flatMap, List.map_flatMap]
  refine congrArg (List.flatMap · (List.finRange nD)) (funext fun d => ?_)
  rw [List.filter_map]
  refine congrArg (List.map _) (List.filter_congr fun x _ => ?_)
  exact decide_eq_decide.mpr ⟨fun h => congrArg (fun t : Thread nD τ => t.1) h, fun h => congrArg (fun d : D8 => (d : Thread nD τ)) h⟩

omit [FloatOps F] [Named F] in
theorem creds : (launchCred (fun d => tallyL (payT (dues d))) c : sProp 𝕄)
    ⊢ iprop(cred (tallyAt (cell c .bar) 1 7) ∗ bigSepL (recvK c) fun k => cred (tallyAt (cell c k) (lvl k) (amt k))) := by
  rw [launchCred_tallyL _ (fun d x hx => by obtain ⟨y, -, rfl⟩ := List.mem_map.mp hx; rfl) c, cred_tallyL, bigSepL_permL (credOf_list c)]
  unfold payT
  rw [bigSepL_map, bigSepL_append, bigSepL_map, bigSepL_map]
  exact BIClass.sep_mono (cred_units (F := F) (cell c .bar) 1 (others c)) .rfl

/-! ## Opening -/

/-- What a device brings to the kernel from the launch. -/
def Tk : sProp 𝕄 := iprop(fam.launched ER (Rd I) (fun _ => Finset.univ) c ∗ launchCred (fun d => tallyL (payT (dues d))) c)

/-- Its cells opened. -/
def Opened : sProp 𝕄 :=
  iprop(Ctx κ I ∗ bigSepL (others c) (fun n => iprop(dutyTok ER (cell n .bar) 0 c ∗ reached ER (cell n .bar) 0)) ∗ atPos ER (cell c .bar) 0 ∅ 0 ∗ cred (tallyAt (cell c .bar) 1 7)
    ∗ bigSepL (sendK c) (SendTok (F := F) c) ∗ bigSepL (lands c) (LandTok (F := F) c) ∗ bigSepL (recvK c) (fun k => iprop(Wt (F := F) c k ∗ reached ER (cell c k) 0))
    ∗ bigSepL (idleK c) (Zero (F := F) c))

theorem open_list : ∀ l : List CK, iprop(Ctx κ I ∗ bigSepL l fun k => iprop(openTok ER (cell c k) ∗ Zero (F := F) c k))
    ⊢ |={Set.univ}=> bigSepL l fun k => iprop(atPos ER (cell c k) 0 ∅ 0 ∗ reached ER (cell c k) 0)
  | [] => by iintro ⟨-, H⟩; imodintro; iexact H
  | k :: l => by
    rw [bigSepL_cons', bigSepL_cons']
    unfold Zero
    iintro ⟨#HI, ⟨Ho, Hz⟩, Hl⟩
    ihave Hg := (Ctx_inv κ I c k) $$ HI
    imod (Rounds.cell_open ER (Rd I) (g := cell c k) (κ := κ (cell c k)) (Set.mem_univ _)) $$ [Hg Ho Hz] with H
    · isplitl [Hg]; · iexact Hg
      isplitl [Ho] <;> iassumption
    imod (open_list l) $$ [Hl] with Hl
    · isplitr; · iexact HI
      unfold Zero
      iexact Hl
    imodintro
    isplitl [H]; · iexact H
    iexact Hl

theorem with_reached : ∀ l : List D8, iprop((bigSep Finset.univ fun n : D8 => reached ER (cell n .bar) 0) ∗ bigSepL l fun n => dutyTok ER (cell n .bar) 0 c)
    ⊢ (bigSepL l fun n => iprop(dutyTok ER (cell n .bar) 0 c ∗ reached ER (cell n .bar) 0) : sProp 𝕄)
  | [] => by iintro ⟨-, H⟩; iexact H
  | n :: l => by
    rw [bigSepL_cons', bigSepL_cons']
    iintro ⟨#Hr, H, Hl⟩
    isplitl [H]
    · isplitl [H]; · iexact H
      have he : (bigSep Finset.univ fun n : D8 => reached ER (cell n .bar) 0) ⊢ (reached ER (cell n .bar) 0 : sProp 𝕄) := BI.bigSep_elim (Finset.mem_univ n)
      iapply he; iexact Hr
    iapply (with_reached l)
    isplitr; · iexact Hr
    iexact Hl

theorem opened : iprop(Tk I c ∗ ownSems0 osemN c ∗ levAts (SiteBlocks.L 6) SiteBlocks.lv) ⊢ |={Set.univ}=> iprop(∃ κ, Opened κ I c) := by
  rw [ownSems_list]
  unfold Tk Fam.launched Fam.barPos Opened
  rw [show (Finset.univ : Finset (Fin 1)) = {0} from rfl, BI.bigSep_singleton]
  unfold Fam.rides
  rw [dorm_list, toks_list]
  iintro ⟨⟨⟨⟨-, Hat, #Hr⟩, ⟨%κ, #HI⟩, Hop, Hd, Hs⟩, Hc⟩, Hz, #Hlev⟩
  ihave Hc := (creds (F := F) c) $$ Hc
  icases Hc with ⟨Hcb, Hcr⟩
  ihave Hoz := (BIBase.Entails.of_eq (bigSepL_seps ownK (fun k => (openTok ER (cell c k) : sProp 𝕄)) (Zero (F := F) c)).symm) $$ [Hop Hz]
  · isplitl [Hop] <;> iassumption
  ihave Hoz := (BIBase.Entails.of_eq (bigSepL_permL (cells_perm c) _)) $$ Hoz
  ihave Hoz := (BIBase.Entails.of_eq ((bigSepL_append _ _ _).trans (congrArg (BIBase.sep _) (bigSepL_append _ _ _)))) $$ Hoz
  icases Hoz with ⟨Hr1, Hs1, Hi1⟩
  have hC : iprop(fam.cellInvs ER (Rd I) κ ∗ levAts (SiteBlocks.L 6) SiteBlocks.lv) ⊢ Ctx κ I := by unfold Ctx; exact .rfl
  ihave #HC := hC $$ []
  · isplitr; · iexact HI
    iexact Hlev
  imod (open_list κ I c (recvK c)) $$ [Hr1] with Hr1
  · isplitr; · iexact HC
    iexact Hr1
  imod (open_list κ I c (sendK c)) $$ [Hs1] with Hs1
  · isplitr; · iexact HC
    iexact Hs1
  ihave Hi1 := (BIBase.Entails.of_eq (bigSepL_seps (idleK c) (fun k => (openTok ER (cell c k) : sProp 𝕄)) (Zero (F := F) c))) $$ Hi1
  icases Hi1 with ⟨-, Hi1⟩
  ihave Hd := (BIBase.Entails.of_eq (show bigSepL (dues c) (LandTok (F := F) c) = iprop((bigSepL (others c) fun n => dutyTok ER (cell n .bar) 0 c) ∗ bigSepL (lands c) (LandTok (F := F) c)) from by
    unfold dues barP; rw [bigSepL_append, bigSepL_map]; rfl)) $$ Hd
  icases Hd with ⟨Hb, Hl⟩
  imodintro
  iexists κ
  isplitr; · iexact HC
  isplitl [Hb]
  · iapply (with_reached c (others c))
    isplitr; · iexact Hr
    iexact Hb
  isplitl [Hat]; · iexact Hat
  isplitl [Hcb]; · iexact Hcb
  isplitl [Hs1 Hs]
  · iapply (BIBase.Entails.of_eq (bigSepL_seps (sendK c) (fun k => (iprop(atPos ER (cell c k) 0 ∅ 0 ∗ reached ER (cell c k) 0) : sProp 𝕄)) fun k => dutyTok ER (cell c k) 0 c).symm |>.trans
      (bigSepL_mono fun k _ => by unfold SendTok; iintro ⟨⟨H1, H2⟩, H3⟩; isplitl [H1]; · iexact H1
                                  isplitl [H2] <;> iassumption))
    isplitl [Hs1] <;> iassumption
  isplitl [Hl]; · iexact Hl
  isplitl [Hr1 Hcr]
  · iapply (BIBase.Entails.of_eq (bigSepL_seps (recvK c) (fun k => (iprop(atPos ER (cell c k) 0 ∅ 0 ∗ reached ER (cell c k) 0) : sProp 𝕄))
        fun k => cred (tallyAt (cell c k) (lvl k) (amt k))).symm |>.trans
      (bigSepL_mono fun k _ => by unfold Wt; iintro ⟨⟨H1, H2⟩, H3⟩; isplitr [H2]
                                  · isplitl [H1] <;> iassumption
                                  iexact H2))
    isplitl [Hr1] <;> iassumption
  iexact Hi1

end Cert.KernelIdeal.Run

end
-- ==== Proof.KI.Region.lean ====
/-
  THE KERNEL'S REGION.

  The run of a device as the body of the launch: from the staged operands, the scratch buffers at any contents and the cells just opened, to the
  result in its staging buffer, the scratch buffers at some contents, and every own counter at zero.
-/
module

public import proofs.«01_k».proof.Proof.KI.Open
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

open Idealize.ShloMosaic.TalkSites (Pay tallyL Fam)

variable (m : (ℓ : Loc nD τ sig) → Buf (Elt F) ℓ) (c : D8)

/-- What the devices' operands hold when the kernel is entered. -/
def inOf : In F where
  x c := V m c main_arg0
  wq c := V m c main_arg1
  k c := V m c main_v2
  v c := V m c main_v4
  wo c := V m c main_arg4

/-! ## Entering and leaving the body -/

/-- The scratch buffers, at any contents. -/
def scratch : sProp 𝕄 :=
  iprop((∃ f, pts c kvM fullShare f) ∗ (∃ f, pts c rlM fullShare f) ∗ (∃ f, pts c ptM fullShare f) ∗ (∃ f, pts c rsM fullShare f) ∗ (∃ f, pts c redM fullShare f) ∗ (∃ f, pts c agM fullShare f))

theorem scratch_eq : (scopedRest (Ix := ℕ) (Name := ℕ) (U := UU) (Lvl := ℕ) (Val := Elt F) spec0 c : sProp 𝕄) = scratch (F := F) c := by
  rw [scopedRest0_eq]
  unfold scratch pts
  simp only [Memref.view_whole, View.set_whole]

variable {m c} {κ : GSem nD τ sig → ℕ} {I : In F}

theorem handed_rooms : iprop(bigSepL (recvK c) (roomBuf (F := F) c) ∗ bigSepL (recvK c) fun k => reached ER (cell c k) 0) ⊢ bigSepL (others c) (barPay (F := F) c) := by
  rw [← bigSepL_seps, bigSepL_permL (handed_perm c), bigSepL_flat]
  exact .rfl

theorem entered {fo : Buf (Elt F) (outM.view.loc (c : Thread nD τ))} :
    iprop(scratch (F := F) c ∗ Opened κ I c ∗ Ow (F := F) c (dues c) ∗ Ins I c ∗ pts c outM fullShare fo)
      ⊢ iprop(∃ fp fr, StB κ I c (others c) (lands c)
          iprop(atPos ER (cell c .bar) 0 ∅ 0 ∗ cred (tallyAt (cell c .bar) 1 7) ∗ Pre I c fo fp fr (bigSepL (idleK c) (Zero (F := F) c)))) := by
  unfold scratch Opened StB Pre
  iintro ⟨⟨Hkv, Hrl, ⟨%fp, Hpt⟩, Hrs, ⟨%fr, Hrd⟩, Hag⟩, ⟨#HC, Hb, Hat, Hcb, Hs, Hl, Hr, Hi⟩, HO, HI, Ho⟩
  ihave Hsl := (slots_of c) $$ [Hkv Hrl Hrs Hag]
  · isplitl [Hkv]; · iexact Hkv
    isplitl [Hrl]; · iexact Hrl
    isplitl [Hrs] <;> iassumption
  ihave Hsl := (BIBase.Entails.of_eq ((bigSepL_permL (slots_perm c) _).trans (bigSepL_append _ _ _))) $$ Hsl
  icases Hsl with ⟨Hsr, Hsk⟩
  ihave Hr := (BIBase.Entails.of_eq (bigSepL_seps (recvK c) (Wt (F := F) c) fun k => reached ER (cell c k) 0)) $$ Hr
  icases Hr with ⟨Hw, Hre⟩
  ihave Hbp := handed_rooms $$ [Hsr Hre]
  · isplitl [Hsr] <;> iassumption
  iexists fp
  iexists fr
  isplitr; · iexact HC
  isplitl [Hb Hbp]
  · iapply (BIBase.Entails.of_eq (bigSepL_seps (others c) (fun n => (iprop(dutyTok ER (cell n .bar) 0 c ∗ reached ER (cell n .bar) 0) : sProp 𝕄)) (barPay (F := F) c)).symm |>.trans
      (bigSepL_mono fun n _ => by iintro ⟨⟨H1, H2⟩, H3⟩; isplitl [H1]; · iexact H1
                                  isplitl [H2] <;> iassumption))
    isplitl [Hb] <;> iassumption
  isplitl [HO]; · unfold dues barP; iexact HO
  isplitl [Hat]; · iexact Hat
  isplitl [Hcb]; · iexact Hcb
  isplitl [Hs]; · iexact Hs
  isplitl [Hl]; · iexact Hl
  isplitl [Hw]; · iexact Hw
  isplitl [HI]; · iexact HI
  isplitl [Ho]; · iexact Ho
  isplitl [Hpt]; · iexact Hpt
  isplitl [Hrd]; · iexact Hrd
  isplitl [Hsk] <;> iassumption

/-- What outlives the kernel: the cells' invariants and the barrier's position past its round. -/
def Yk (I : In F) (c : D8) : sProp 𝕄 := fam.barPos ER (Rd I) c 1 ∅

theorem left : Post κ I c (bigSepL (idleK c) (Zero (F := F) c))
    ⊢ iprop(scratch (F := F) c ∗ ownSems0 osemN c ∗ Yk I c ∗ Ow (F := F) c [] ∗ Ins I c ∗ pts c outM fullShare (outW I c)) := by
  rw [ownSems_list, bigSepL_permL (cells_perm c), bigSepL_append, bigSepL_append]
  unfold Post scratch Yk Fam.barPos Ctx
  rw [bigSepL_append]
  iintro ⟨⟨#HI, -⟩, HO, ⟨Hzr, Hzs⟩, Hin, Ho, Hkv, Hrl, Hpt, Hrs, Hrd, Hag, Hat, Hi⟩
  isplitl [Hkv Hrl Hpt Hrs Hrd Hag]
  · isplitl [Hkv]; · iexact Hkv
    isplitl [Hrl]; · iexact Hrl
    isplitl [Hpt]; · iexact Hpt
    isplitl [Hrs]; · iexact Hrs
    isplitl [Hrd] <;> iassumption
  isplitl [Hzr Hzs Hi]
  · isplitl [Hzr]; · iexact Hzr
    isplitl [Hzs] <;> iassumption
  isplitl [Hat]
  · isplitr; · iexists κ; iexact HI
    isplitl [Hat]; · iexact Hat
    rw [BI.bigSep_empty]
    iempintro
  isplitl [HO]; · iexact HO
  isplitl [Hin] <;> iassumption

/-- A device's run, from the cells just opened. -/
theorem body_ran {fo : Buf (Elt F) (outM.view.loc (c : Thread nD τ))} :
    iprop(scratch (F := F) c ∗ (∃ κ, Opened κ I c) ∗ Ow (F := F) c (dues c) ∗ Ins I c ∗ pts c outM fullShare fo)
      ⊢ WP c (app (cc0_body (F := F))) fun _ => iprop(scratch (F := F) c ∗ ownSems0 osemN c ∗ Yk I c ∗ Ow (F := F) c [] ∗ Ins I c ∗ pts c outM fullShare (outW I c)) := by
  iintro ⟨Hs, ⟨%κ, HX⟩, HO, Hin, Ho⟩
  ihave H := entered $$ [Hs HX HO Hin Ho]
  · isplitl [Hs]; · iexact Hs
    isplitl [HX]; · iexact HX
    isplitl [HO]; · iexact HO
    isplitl [Hin] <;> iassumption
  icases H with ⟨%fp, %fr, H⟩
  ihave H := body_run $$ H
  iapply (Idealize.SL.Sem.wp_mono _ _ _ fun _ => left (κ := κ) (I := I) (c := c))
  iexact H

end Cert.KernelIdeal.Run

end
-- ==== Proof.KI.Talk.lean ====
/-
  THE REGION AS THE LAUNCH TAKES IT.

  The proof data of the kernel's one pipeline, the body obligation, and the region between the host's casts and the end of @main.
-/
module

public import proofs.«01_k».proof.Proof.KI.Region

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

open Idealize.ShloMosaic.TalkSites (Pay tallyL Fam)

variable (m : (ℓ : Loc nD τ sig) → Buf (Elt F) ℓ)

/-! ## The blocks are the arrays -/

theorem block_emb (w : Fin cfg0.W) (a : Fin (cfg0.win w).shape.rank) (j : ((cfg0.win w).xblock (cfg0.grid.coords t0_0)).Idx) :
    (((cfg0.win w).rect t0_0).emb j a : Nat) = j a :=
  (cfg0.win w).rect_emb_val_of_index_zero t0_0 a ((by decide +kernel : ∀ (w : Fin cfg0.W) a, (cfg0.win w).index t0_0 a = 0) w a) j

theorem iblk_0 (c : D8) : iblk m c 0 t0_0 = (inOf m).x c := funext fun j => congrArg (V m c main_arg0) (funext fun a => Fin.ext (block_emb 0 a j))
theorem iblk_1 (c : D8) : iblk m c 1 t0_0 = (inOf m).wq c := funext fun j => congrArg (V m c main_arg1) (funext fun a => Fin.ext (block_emb 1 a j))
theorem iblk_2 (c : D8) : iblk m c 2 t0_0 = (inOf m).k c := funext fun j => congrArg (V m c main_v2) (funext fun a => Fin.ext (block_emb 2 a j))
theorem iblk_3 (c : D8) : iblk m c 3 t0_0 = (inOf m).v c := funext fun j => congrArg (V m c main_v4) (funext fun a => Fin.ext (block_emb 3 a j))
theorem iblk_4 (c : D8) : iblk m c 4 t0_0 = (inOf m).wo c := funext fun j => congrArg (V m c main_arg4) (funext fun a => Fin.ext (block_emb 4 a j))

/-! ## The proof data -/

/-- What enters the body, -/
def Phi0 (c : D8) : sProp 𝕄 := iprop((scopedRest (Ix := ℕ) (Name := ℕ) (U := UU) (Lvl := ℕ) (Val := Elt F) spec0 c : sProp 𝕄) ∗ (∃ r, prngReg c r) ∗ ∃ κ, Opened κ (inOf m) c)
/-- and what leaves it. -/
def Phi1 (c : D8) : sProp 𝕄 := iprop((scopedRest (Ix := ℕ) (Name := ℕ) (U := UU) (Lvl := ℕ) (Val := Elt F) spec0 c : sProp 𝕄) ∗ (∃ r, prngReg c r) ∗ ownSems0 osemN c ∗ Yk (inOf m) c)

/-- The pipeline's data: its inputs left in place, its output at the device's result. -/
def dat (c : D8) : Pipeline.Dat τ (Elt F) ℕ ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => outW (inOf m) c
  Φ t := if t.val = 0 then Phi0 m c else Phi1 m c
  q _ := fullShare
  owed t := if t.val = 0 then tallyL (payT (dues c)) else 0

/-- No table to choose. -/
abbrev adm : (p : Fin 1) → (pcfgs (F := F) p).Adm := fun p => (cfgs p).toPCfg_adm

/-- The data of the program's pipelines. -/
def pdats : (p : Fin 1) → (c : D8) → Pipeline.Dat τ (Elt F) ℕ ℕ UU ℕ (Pipeline.pin (pcfgs (F := F)) adm p) c := fun _ c => dat m c

theorem Phi_first (c : D8) : (dat m c).Φ t0_0.castSucc = Phi0 m c := by
  show (if (t0_0.castSucc).val = 0 then Phi0 m c else Phi1 m c) = _
  exact if_pos rfl
theorem Phi_last (c : D8) : (dat m c).Φ t0_0.succ = Phi1 m c := by
  show (if (t0_0.succ).val = 0 then Phi0 m c else Phi1 m c) = _
  exact if_neg (by decide)
theorem owed_first (c : D8) : (dat m c).owed t0_0.castSucc = tallyL (payT (dues c)) := by
  show (if (t0_0.castSucc).val = 0 then tallyL (payT (dues c)) else 0) = _
  exact if_pos rfl
theorem owed_last (c : D8) : (dat m c).owed t0_0.succ = 0 := by
  show (if (t0_0.succ).val = 0 then tallyL (payT (dues c)) else 0) = _
  exact if_neg (by decide)

theorem owesAt_first (c : D8) : ((dat m c).owesAt 0 t0_0.castSucc : sProp 𝕄) ⊢ Ow c (dues c) := by
  unfold Dat.owesAt Pipeline.owesWithin Ow
  rw [owed_first]
  iintro ⟨%W, -, HO⟩
  iexists W
  iexact HO

theorem owesAt_last (c : D8) : Ow (F := F) c [] ⊢ ((dat m c).owesAt 0 t0_0.succ : sProp 𝕄) := by
  unfold Dat.owesAt Pipeline.owesWithin Ow Dat.bound
  rw [owed_last]
  iintro ⟨%W, HO⟩
  iexists W
  isplitr
  · ipureintro; exact fun _ _ => Or.inl trivial
  iexact HO

/-- An input window holds its block at the point. -/
theorem before_in (c : D8) (w : Fin cfg0.W) (hf : (cfg0.win w).fetch t0_0 = true) (d) : (dat m c).before w t0_0 d = (dat m c).fetched w t0_0 d :=
  (dat m c).before_fetched w t0_0 hf d

theorem before_0 (c : D8) (d) : (dat m c).before 0 t0_0 d = (inOf m).x c := (before_in m c 0 (fetch0_0 _) d).trans (iblk_0 m c)
theorem before_1 (c : D8) (d) : (dat m c).before 1 t0_0 d = (inOf m).wq c := (before_in m c 1 (fetch0_1 _) d).trans (iblk_1 m c)
theorem before_2 (c : D8) (d) : (dat m c).before 2 t0_0 d = (inOf m).k c := (before_in m c 2 (fetch0_2 _) d).trans (iblk_2 m c)
theorem before_3 (c : D8) (d) : (dat m c).before 3 t0_0 d = (inOf m).v c := (before_in m c 3 (fetch0_3 _) d).trans (iblk_3 m c)
theorem before_4 (c : D8) (d) : (dat m c).before 4 t0_0 d = (inOf m).wo c := (before_in m c 4 (fetch0_4 _) d).trans (iblk_4 m c)

/-! ## The body's obligation -/

theorem owns_pts (c : D8) (b : Ref sig .tc) (f : b.ty.Contents (Elt F)) : (owns (c : Thread nD τ) (Memref.whole b) fullShare f : sProp 𝕄) = pts c (Memref.whole b) fullShare f := by
  rw [owns_whole]
  unfold pts
  simp only [Memref.view_whole, View.set_whole]

/-- What the device's run leaves is what the launch asks. -/
theorem body_left (c : D8) :
    iprop((scratch (F := F) c ∗ ownSems0 osemN c ∗ Yk (inOf m) c ∗ Ow (F := F) c [] ∗ Ins (inOf m) c ∗ pts c outM fullShare (outW (inOf m) c)) ∗ (∃ r, prngReg c r))
      ⊢ iprop((scratch c ∗ (∃ r, prngReg c r) ∗ ownSems0 osemN c ∗ Yk (inOf m) c) ∗ (dat m c).owesAt 0 t0_0.succ ∗ pts c xM fullShare ((inOf m).x c) ∗ pts c wqM fullShare ((inOf m).wq c)
        ∗ pts c kM fullShare ((inOf m).k c) ∗ pts c vM fullShare ((inOf m).v c) ∗ pts c woM fullShare ((inOf m).wo c) ∗ pts c outM fullShare (outW (inOf m) c)) := by
  unfold Ins
  iintro ⟨⟨Hs, Hz, Hy, HO, ⟨H0, H1, ⟨H2, H3⟩, H4⟩, H5⟩, Hp⟩
  isplitl [Hs Hp Hz Hy]
  · isplitl [Hs]; · iexact Hs
    isplitl [Hp]; · iexact Hp
    isplitl [Hz] <;> iassumption
  isplitl [HO]; · iapply (owesAt_last m c); iexact HO
  isplitl [H0]; · iexact H0
  isplitl [H1]; · iexact H1
  isplitl [H2]; · iexact H2
  isplitl [H3]; · iexact H3
  isplitl [H4] <;> iassumption

/-- The body at the one point: the operands staged, the result left in its buffer. -/
theorem body (c : D8) : BodyObligation (dat m c) defs₀ 𝒱₀ 0 Set.univ := fun t => by
  obtain rfl := fin_N0 t
  rw [bigSep_W0, bigSep_W0, Phi_first, Phi_last]
  dsimp only
  show iprop(Phi0 m c ∗ (dat m c).owesAt 0 t0_0.castSucc ∗ (∃ d, owns (c : Thread nD τ) xM fullShare ((dat m c).before 0 t0_0 d))
      ∗ (∃ d, owns (c : Thread nD τ) wqM fullShare ((dat m c).before 1 t0_0 d)) ∗ (∃ d, owns (c : Thread nD τ) kM fullShare ((dat m c).before 2 t0_0 d))
      ∗ (∃ d, owns (c : Thread nD τ) vM fullShare ((dat m c).before 3 t0_0 d)) ∗ (∃ d, owns (c : Thread nD τ) woM fullShare ((dat m c).before 4 t0_0 d))
      ∗ (∃ d, owns (c : Thread nD τ) outM fullShare ((dat m c).before 5 t0_0 d)))
    ⊢ WP c (app (cc0_body (F := F))) fun _ => iprop(Phi1 m c ∗ (dat m c).owesAt 0 t0_0.succ ∗ owns (c : Thread nD τ) xM fullShare (iblk m c 0 t0_0)
      ∗ owns (c : Thread nD τ) wqM fullShare (iblk m c 1 t0_0) ∗ owns (c : Thread nD τ) kM fullShare (iblk m c 2 t0_0)
      ∗ owns (c : Thread nD τ) vM fullShare (iblk m c 3 t0_0) ∗ owns (c : Thread nD τ) woM fullShare (iblk m c 4 t0_0)
      ∗ owns (c : Thread nD τ) outM fullShare (outW (inOf m) c))
  simp only [before_0, before_1, before_2, before_3, before_4, iblk_0, iblk_1, iblk_2, iblk_3, iblk_4, owns_pts]
  unfold Phi0 Phi1
  rw [scratch_eq]
  iintro ⟨⟨Hs, Hp, HX⟩, HO, ⟨%d0, H0⟩, ⟨%d1, H1⟩, ⟨%d2, H2⟩, ⟨%d3, H3⟩, ⟨%d4, H4⟩, ⟨%d5, H5⟩⟩
  ihave HO := (owesAt_first m c) $$ HO
  ihave Hw := (body_ran (I := inOf m) (c := c)) $$ [Hs HX HO H0 H1 H2 H3 H4 H5]
  · isplitl [Hs]; · iexact Hs
    isplitl [HX]; · iexact HX
    isplitl [HO]; · iexact HO
    isplitr [H5]
    · unfold Ins
      isplitl [H0]; · iexact H0
      isplitl [H1]; · iexact H1
      isplitl [H2 H3]; · isplitl [H2] <;> iassumption
      iexact H4
    · iexact H5
  iapply (Idealize.SL.Sem.wp_mono _ _ _ fun _ => body_left m c)
  iapply (Idealize.SL.Sem.wp_frame_r _ _ _)
  isplitl [Hw] <;> iassumption

/-! ## The region -/

/-- What the buffers hold when the kernel is entered, -/
def W₁ (c : D8) : Valuation τ sig (Elt F) := StableHlo.after hostOps0 fun b => m (c, b)
/-- and when it is left: the output array at the device's result. -/
def W₂ (c : D8) : Valuation τ sig (Elt F) := Function.update (W₁ m c) (Proc.devRef .tc main_v5) (outW (inOf m) c)

theorem W₂_v5 (c : D8) : W₂ m c (Proc.devRef .tc main_v5) = outW (inOf m) c := Function.update_self ..
theorem W₂_of_ne (c : D8) {b : DevRef τ sig} (h : b ≠ Proc.devRef .tc main_v5) : W₂ m c b = W₁ m c b := Function.update_of_ne h ..

/-- The written-back array is what the body left. -/
theorem arr_out (c : D8) : (dat m c).arrAt 5 cfg0.N = outW (inOf m) c :=
  (dat m c).arrAt_eq_of_after_last 5 t0_0 (by decide +kernel) (outW (inOf m) c) fun _ => rfl

theorem arr_last (c : D8) (w : Fin cfg0.W) : (dat m c).arrAt w cfg0.N = W₂ m c (Proc.devRef .tc (Pipeline.arrRef spec0 w)) := by
  match w with
  | 0 => exact ((dat m c).arrAt_in 0 rfl _).trans (W₂_of_ne m c (b := Proc.devRef .tc main_arg0) (by decide)).symm
  | 1 => exact ((dat m c).arrAt_in 1 rfl _).trans (W₂_of_ne m c (b := Proc.devRef .tc main_arg1) (by decide)).symm
  | 2 => exact ((dat m c).arrAt_in 2 rfl _).trans (W₂_of_ne m c (b := Proc.devRef .tc main_v2) (by decide)).symm
  | 3 => exact ((dat m c).arrAt_in 3 rfl _).trans (W₂_of_ne m c (b := Proc.devRef .tc main_v4) (by decide)).symm
  | 4 => exact ((dat m c).arrAt_in 4 rfl _).trans (W₂_of_ne m c (b := Proc.devRef .tc main_arg4) (by decide)).symm
  | 5 => exact (arr_out m c).trans (W₂_v5 m c).symm

theorem own_facts : Pipeline.OwnSemFacts spec0 osemN := by decide +kernel

/-- A device's dues lie on the levels above the staging cells'. -/
theorem due_level {c : D8} {g : GSem nD τ sig} {i : ℕ} (h : 0 < (tallyL (payT (dues c)) : CellTallies nD τ sig ℕ) g i) : i ∈ SiteBlocks.L 6 g ∧ 0 < SiteBlocks.lv g i := by
  obtain ⟨x, hx, rfl, rfl⟩ := TalkSites.tallyL_pos h
  obtain ⟨y, hy, rfl⟩ := List.mem_map.mp hx
  have hl : ∀ y ∈ dues c, 0 < lvl y.2 ∧ lvl y.2 < 6 := by clear * -; revert c; decide +kernel
  exact ⟨SiteBlocks.mem_L' rfl (hl y hy).2, (hl y hy).1⟩

local notation "ℍ" => Pipeline.HostSeg (Name := ℕ) (U := UU) (pcfgs (F := F)) defs₀ 𝒱₀ (SiteBlocks.L 6) SiteBlocks.lv
local notation "ℝ𝕊" => Pipeline.RegionSeg (pcfgs (F := F)) adm (pdats m) 0 defs₀ 𝒱₀ (SiteBlocks.L 6) SiteBlocks.lv

/-- The buffers the kernel does not stage. -/
def offArr : Finset (DevRef τ sig) := Pipeline.ucRefs τ sig \ Pipeline.arrRefs (τ := τ) spec0

set_option backward.isDefEq.respectTransparency.types false in
/-- The kernel between the casts and the end. -/
def region : ℝ𝕊 0 :=
  Pipeline.RegionSeg.ofTalk (pcfgs (F := F)) adm (pdats m) 0 defs₀ 𝒱₀ (SiteBlocks.L 6) SiteBlocks.lv 0 osemN own_facts
    ∅ ∅ (Finset.Subset.refl _) launch0.toP rfl (fun c => (body m c).loose)
    (fun _ => 0) (fun c => tallyL (payT (dues c))) (fun c => (owed_first m c).trans (zero_add _).symm) (fun c => owed_last m c) (fun _ => rfl)
    (fun c w => by match w with | 0 => rfl | 1 => rfl | 2 => rfl | 3 => rfl | 4 => rfl | 5 => rfl)
    (W₁ m) (W₂ m) (fun _ b hb => absurd hb (Finset.notMem_empty b))
    (Tk (inOf m)) (Yk (inOf m)) (fun c => iprop(∃ κ, Opened κ (inOf m) c)) (Yk (inOf m)) (opened (inOf m))
    (fun c => by
      rw [show (pdats m 0 c).Φ 0 = Phi0 m c from Phi_first m c]
      unfold Phi0
      iintro ⟨Hs, Hp, -, HX⟩
      isplitl [Hs]; · iexact Hs
      isplitl [Hp] <;> iassumption)
    (fun c => by
      rw [show (pdats m 0 c).Φ (Fin.last _) = Phi1 m c from Phi_last m c]
      unfold Phi1 StableHlo.held
      rw [BI.bigSep_empty]
      iintro ⟨Hs, Hp, Hz, Hy⟩
      isplitl [Hs]; · iexact Hs
      isplitl [Hp]; · iexact Hp
      isplitr; · iempintro
      isplitl [Hz] <;> iassumption)
    (fun c => by iintro H; imodintro; iexact H)
    (fun _ => 0)
    ⟨fun c w s => SiteBlocks.mem_L' rfl (by decide), fun c w s => le_refl _, fun c t g i h => by
      have h' : 0 < (if t.val = 0 then tallyL (payT (dues c)) else 0 : CellTallies nD τ sig ℕ) g i := h
      split_ifs at h'
      · exact due_level h'
      · exact absurd h' (Nat.lt_irrefl 0)⟩
    (fun c => StableHlo.held (c.tc : Thread nD τ) offArr (W₁ m c))
    (fun c w => rfl) (fun c w => arr_last m c w)

end Cert.KernelIdeal.Run

end
-- ==== Proof.KI.Launch.lean ====
/-
  THE LAUNCH.

  From any memory with zero counters every weakly fair execution of @main terminates, each device's result array at its own result of the operands
  entered, the arguments unchanged, every counter at zero.
-/
module

public import proofs.«01_k».proof.Proof.KI.Talk

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

open Idealize.ShloMosaic.TalkSites (Pay tallyL Fam)

variable (m : (ℓ : Loc nD τ sig) → Buf (Elt F) ℓ) (ρ : D8 → PrngReg)

/-! ## @main's segments -/

/-- What rides beside the host's casts. -/
def ride (c : D8) : sProp 𝕄 :=
  iprop((∃ r, prngReg c r) ∗ Tk (inOf m) c ∗ ∃ W, owes (c : Thread nD τ) (tallyL (payT (dues c))) W)

/-- The launch's contents. -/
def W₀ (c : D8) : Valuation τ sig (Elt F) := fun b => m (c, b)

theorem ops_fresh : ∀ op ∈ (hostOps0 : List (HloOp τ sig (Elt F))), op.fresh = ∅ := List.forall_iff_forall_mem.mp hostOps0_fresh

/-- The host's casts and reshapes. -/
def casts : Pipeline.HostSeg (Name := ℕ) (U := UU) (pcfgs (F := F)) defs₀ 𝒱₀ (SiteBlocks.L 6) SiteBlocks.lv :=
  Pipeline.HostSeg.ofOps _ _ _ _ _ (Pipeline.ucRefs τ sig) hostOps0 (fun op h => Pipeline.sub_ucRefs op (List.forall_iff_forall_mem.mp hostOps0_sub op h)) ops_fresh (W₀ m) (ride m)

/-- @main. -/
def segs : List (Pipeline.Seg (pcfgs (F := F)) adm (pdats m) 0 defs₀ 𝒱₀ (SiteBlocks.L 6) SiteBlocks.lv) := [.host (casts m), .region (region m)]

theorem held_whole (c : D8) (W : Valuation τ sig (Elt F)) : (StableHlo.held (c.tc : Thread nD τ) (Pipeline.ucRefs τ sig) W : sProp 𝕄)
    = iprop(StableHlo.held (c.tc : Thread nD τ) (Pipeline.arrRefs (τ := τ) spec0) W ∗ StableHlo.held (c.tc : Thread nD τ) offArr W) :=
  StableHlo.held_sub_split _ (Pipeline.arrRefs_sub_ucRefs spec0 launch0.win.arr_unscoped) W

theorem off_same (c : D8) : (StableHlo.held (c.tc : Thread nD τ) offArr (W₂ m c) : sProp 𝕄) = StableHlo.held (c.tc : Thread nD τ) offArr (W₁ m c) :=
  StableHlo.held_congr _ fun b hb => W₂_of_ne m c fun e => by
    subst e
    exact absurd hb (by decide)

theorem region_pre (c : D8) : iprop(StableHlo.held (c.tc : Thread nD τ) (Pipeline.ucRefs τ sig) (W₁ m c) ∗ ride m c) ⊢ (region m).pre c := by
  show _ ⊢ iprop(StableHlo.held (c.tc : Thread nD τ) (Pipeline.arrRefs (τ := τ) spec0) (W₁ m c) ∗ (∃ r, prngReg c r)
    ∗ (StableHlo.held (c.tc : Thread nD τ) ∅ (W₁ m c) ∗ StableHlo.held (c.tc : Thread nD τ) offArr (W₁ m c)) ∗ Tk (inOf m) c
    ∗ ∃ Wd, owes (c : Thread nD τ) (0 + tallyL (payT (dues c))) Wd)
  rw [held_whole, zero_add]
  unfold ride
  iintro ⟨⟨Ha, Hr⟩, Hp, HT, HO⟩
  isplitl [Ha]; · iexact Ha
  isplitl [Hp]; · iexact Hp
  isplitl [Hr]
  · isplitr
    · unfold StableHlo.held
      rw [BI.bigSep_empty]
      iempintro
    · iexact Hr
  isplitl [HT] <;> iassumption

/-- What is left at the end. -/
def ends (c : D8) : sProp 𝕄 := iprop(StableHlo.held (c.tc : Thread nD τ) (Pipeline.ucRefs τ sig) (W₂ m c) ∗ Yk (inOf m) c)

theorem region_post (c : D8) : (region m).post c ⊢ iprop(ends m c ∗ ∃ W, owes (c : Thread nD τ) (0 : CellTallies nD τ sig ℕ) W) := by
  show iprop(StableHlo.held (c.tc : Thread nD τ) (Pipeline.arrRefs (τ := τ) spec0) (W₂ m c) ∗ (∃ r, prngReg c r)
    ∗ (StableHlo.held (c.tc : Thread nD τ) ∅ (W₂ m c) ∗ StableHlo.held (c.tc : Thread nD τ) offArr (W₁ m c)) ∗ Yk (inOf m) c
    ∗ ∃ Wd, owes (c : Thread nD τ) (0 : CellTallies nD τ sig ℕ) Wd) ⊢ _
  unfold ends
  rw [held_whole, off_same]
  iintro ⟨Ha, -, ⟨-, Hr⟩, HY, HO⟩
  isplitr [HO]
  · isplitr [HY]
    · isplitl [Ha] <;> iassumption
    · iexact HY
  · iexact HO

/-! ## The launch's ghost state -/

/-- The launch element. -/
def u₀ : UU :=
  (initOf (Pipeline.cells (Pipeline.pin (pcfgs (F := F)) adm) cellOf_inj) (Pipeline.launchToks (Pipeline.pin (pcfgs (F := F)) adm) cellOf_inj),
    launchOf fam.S fam.Sd fam.T)

/-- The exchange's element, parked on device 0 until every device's state is made. -/
def parked (c : D8) : sProp 𝕄 := if c = 0 then BI.own (ER (F := F) (launchOf fam.S fam.Sd fam.T)) else iprop(emp)

theorem parked_all : bigSep Finset.univ (parked (F := F)) = BI.own (ER (F := F) (launchOf fam.S fam.Sd fam.T)) := by
  rw [← Finset.insert_erase (Finset.mem_univ (0 : D8)), BI.bigSep_insert (Finset.notMem_erase _ _),
    BI.bigSep_congr (Φ := parked (F := F)) (Ψ := fun _ => (BI.emp : sProp 𝕄)) fun c hc => if_neg (Finset.ne_of_mem_erase hc), BI.bigSep_emp_const]
  unfold parked
  rw [if_pos rfl]
  exact sep_emp_eq _

theorem unscopedSems_bar (c : D8) : (unscopedSems0 c : sProp 𝕄) = semVal ((c.tc : Thread nD τ), fam.bar) 0 := by
  unfold unscopedSems0
  rw [show (Finset.univ.filter fun sm : SemLoc sig => ¬ sm.isScoped .tc) = {osem .bar} from by decide +kernel, BI.bigSep_singleton]
  rfl

theorem funded (I : In F) : SiteBlocks.Funds ER (fun c => (semVal ((c.tc : Thread nD τ), fam.bar) 0 : sProp 𝕄)) (fun c => tallyL (payT (dues c)))
    (launchOf fam.S fam.Sd fam.T) (fun c => iprop(Pipeline.launchCred (fun d => tallyL (payT (dues d))) c ∗ fam.launched ER (Rd I) (fun _ => Finset.univ) c)) Set.univ := by
  have h := TalkSites.pass (fun d => tallyL (payT (dues d))) (fam.funds ER (Rd I) (fun _ _ h => h) (fun _ => Finset.univ) (Es := Set.univ))
  simpa only [zero_add] using h

/-- What a device is dealt outright. -/
def bundle (c : D8) : sProp 𝕄 :=
  iprop(StableHlo.held (c.tc : Thread nD τ) (Pipeline.ucRefs τ sig) (W₀ m c) ∗ (∃ r, prngReg c r) ∗ ∃ W, owes (c.tc : Thread nD τ) (tallyL (payT (dues c))) W)

/-- Every device's first state. -/
theorem init :
    iprop((bigSep Finset.univ fun c : D8 => iprop(unscopedBufs c (fun b => m ((c.tc : Thread nD τ).loc b)) ∗ unscopedSems0 c
          ∗ owes (c.tc : Thread nD τ) (tallyL (payT (dues c))) ∅ ∗ Pipeline.launchCred (fun d => tallyL (payT (dues d))) c ∗ prngReg c (ρ c) ∗ parked c))
        ∗ levAts (SiteBlocks.L 6) SiteBlocks.lv)
      ⊢ (|={Set.univ}=> bigSep Finset.univ fun c => iprop(StableHlo.held (c.tc : Thread nD τ) (Pipeline.ucRefs τ sig) (W₀ m c) ∗ ride m c) : sProp 𝕄) := by
  have hcore (c : D8) : iprop(unscopedBufs c (fun b => m ((c.tc : Thread nD τ).loc b)) ∗ unscopedSems0 c
          ∗ owes (c.tc : Thread nD τ) (tallyL (payT (dues c))) ∅ ∗ Pipeline.launchCred (fun d => tallyL (payT (dues d))) c ∗ prngReg c (ρ c) ∗ parked c)
      ⊢ (iprop(bundle m c
          ∗ ((semVal ((c.tc : Thread nD τ), fam.bar) 0 ∗ Pipeline.launchCred (fun d => tallyL (payT (dues d))) c) ∗ parked c)) : sProp 𝕄) := by
    rw [show unscopedBufs c (fun b => m ((c.tc : Thread nD τ).loc b)) = StableHlo.held (c.tc : Thread nD τ) (Pipeline.ucRefs τ sig) (W₀ m c) from
      Pipeline.unscopedBufs_held c (W₀ m c), unscopedSems_bar]
    unfold bundle
    iintro ⟨Hh, Hv, HO, Hc, Hp, Hg⟩
    isplitl [Hh HO Hp]
    · isplitl [Hh]; · iexact Hh
      isplitl [Hp]; · iexists _; iexact Hp
      iexists _; iexact HO
    isplitr [Hg]
    · isplitl [Hv] <;> iassumption
    · iexact Hg
  have hend (c : D8) : iprop(bundle m c
          ∗ (Pipeline.launchCred (fun d => tallyL (payT (dues d))) c ∗ fam.launched ER (Rd (inOf m)) (fun _ => Finset.univ) c))
      ⊢ (iprop(StableHlo.held (c.tc : Thread nD τ) (Pipeline.ucRefs τ sig) (W₀ m c) ∗ ride m c) : sProp 𝕄) := by
    unfold ride Tk bundle
    iintro ⟨⟨Hh, Hp, HO⟩, Hc, HL⟩
    isplitl [Hh]; · iexact Hh
    isplitl [Hp]; · iexact Hp
    isplitr [HO]
    · isplitl [HL] <;> iassumption
    · iexact HO
  have hends : iprop(bigSep Finset.univ (bundle m) ∗ bigSep Finset.univ fun c : D8 => iprop(Pipeline.launchCred (fun d => tallyL (payT (dues d))) c ∗ fam.launched ER (Rd (inOf m)) (fun _ => Finset.univ) c))
      ⊢ (bigSep Finset.univ fun c => iprop(StableHlo.held (c.tc : Thread nD τ) (Pipeline.ucRefs τ sig) (W₀ m c) ∗ ride m c) : sProp 𝕄) := by
    rw [← BI.bigSep_sep']
    exact BI.bigSep_mono fun c _ => hend c
  refine (sep_elim_left.trans (BI.bigSep_mono fun c _ => hcore c)).trans ?_
  rw [BI.bigSep_sep', BI.bigSep_sep', parked_all]
  iintro ⟨HB, HV⟩
  imod (funded (inOf m)) $$ HV with HL
  imodintro
  iapply hends
  isplitl [HB] <;> iassumption

/-! ## The end -/

/-- The buffers the claims name. -/
def named : List (DevRef τ sig) := [Proc.devRef .tc main_arg0, Proc.devRef .tc main_arg1, Proc.devRef .tc main_arg2, Proc.devRef .tc main_arg3, Proc.devRef .tc main_arg4, Proc.devRef .tc main_v5]

theorem named_held (c : D8) (W : Valuation τ sig (Elt F)) : (StableHlo.held (c.tc : Thread nD τ) (Pipeline.ucRefs τ sig) W : sProp 𝕄)
    = iprop(bigSepL named (fun b => (((c, b) : Loc nD τ sig) ↦{fullShare} W b : sProp 𝕄)) ∗ StableHlo.held (c.tc : Thread nD τ) (Pipeline.ucRefs τ sig \ named.toFinset) W) := by
  rw [StableHlo.held_sub_split _ (show named.toFinset ⊆ Pipeline.ucRefs τ sig by decide) W]
  congr 1
  exact bigSep_eq_bigSepL named (by decide) _

theorem barrier_done (I : In F) (c : D8) : (Rd I).duties ((c.tc : Thread nD τ), fam.bar) 1 = ∅ := duties_later I _ 1 le_rfl

/-- What a final state reads. -/
theorem reads (c : D8) (s : Phys nD τ sig (Elt F)) : iprop(ends m c ∗ SI s) ⊢ |={Set.univ}=> iprop(⌜(∀ b ∈ named, s.mem.mem (c, b) = W₂ m c b) ∧ s.mem.sem ((c.tc : Thread nD τ), fam.bar) = 0⌝ ∗ SI s) := by
  unfold ends Yk
  rw [named_held]
  simp only [named, bigSepL_cons', List.forall_mem_cons]
  iintro ⟨⟨⟨⟨H0, H1, H2, H3, H4, H5, -⟩, -⟩, HY⟩, HS⟩
  icombine HS H0 gives %h0
  icombine HS H1 gives %h1
  icombine HS H2 gives %h2
  icombine HS H3 gives %h3
  icombine HS H4 gives %h4
  icombine HS H5 gives %h5
  imod (fam.barPos_read ER (Rd (inOf m)) c (barrier_done _ c) ∅ s) $$ [HY HS] with ⟨%hs, HS⟩
  · isplitl [HY] <;> iassumption
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4, Buf.eq_of_forall_mem_univ h5, fun _ h => absurd h (List.not_mem_nil)⟩, hs⟩
  iexact HS

theorem unscoped_bar : ∀ sm : SemLoc sig, sm.isScoped .tc = false → sm = osem .bar := by decide +kernel

set_option backward.isDefEq.respectTransparency.types false in
/-- The run. -/
theorem run_main : θ_run defs (onTc (τ := τ) (main (F := F))) (s₀ m ρ)
    (fun r => (∀ c : D8, ∀ b ∈ named, r.2.mem (c, b) = W₂ m c b) ∧ r.2.sem = fun _ => 0) :=
  Pipeline.θ_run_regions_kit_sems (pcfgs (F := F)) adm (pdats m) 0 cellOf_inj EP defs₀ 𝒱₀ (SiteBlocks.L 6) SiteBlocks.lv m ρ main (segs m)
    (fun c Q => by rw [main_segs adm (pdats m) 0 𝒱₀ (SiteBlocks.L 6) SiteBlocks.lv (casts m) (region m) rfl c]; exact .rfl)
    (by simp only [segs, Pipeline.Seg.pipes_host, Pipeline.Seg.pipes_region, Pipeline.Seg.pipes_nil]; decide)
    (O₀ := fun c => tallyL (payT (dues c))) (hL := SiteBlocks.hL 6) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := fun c => iprop(StableHlo.held (c.tc : Thread nD τ) (Pipeline.ucRefs τ sig) (W₀ m c) ∗ ride m c)) (Tₙ := ends m)
    (hch := ⟨fun c => .rfl, fun c => region_pre m c, fun c => region_post m c⟩)
    (hinit := init m ρ)
    (QY := fun c s => (∀ b ∈ named, s.mem (c, b) = W₂ m c b) ∧ s.sem ((c.tc : Thread nD τ), fam.bar) = 0)
    (hfin := fun c s' => reads m c s')
    (hQ := fun s h hs => ⟨fun c => (h c).1, sem_eq_zero hs fun c sm hsm => by
      obtain rfl := unscoped_bar sm hsm
      exact (h c).2⟩)

end Cert.KernelIdeal.Run

end
-- ==== Proof.KI.Frames.lean ====
/-
  WHAT THE RUN LEAVES.

  The run read at @main's arguments and at its result.
-/
module

public import proofs.«01_k».proof.Proof.KI.Launch

@[expose] public section

noncomputable section

namespace Cert.KernelIdeal.Run

open Cert.KernelIdeal Cert.KernelIdeal.Gen
open Idealize.ShloMosaic Idealize.ShloMosaic.TcCoe
open Idealize.SL
open RA BI ProofMode Sem
open BIBase Laws
open Rounds Pipeline

variable {F : FTy → Type} [FloatOps F] [Named F]

local notation "𝕄" => MT nD τ sig ℕ (Elt F) ℕ UU ℕ

variable (m : (ℓ : Loc nD τ sig) → Buf (Elt F) ℓ) (ρ : D8 → PrngReg)

theorem run_args : θ_run defs (onTc (τ := τ) (main (F := F))) (s₀ m ρ) (fun r => ((∀ c : D8,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ ∀ c : D8, r.2.mem ((c.tc : Thread nD τ).loc main_v5) = outW (inOf m) c) ∧ r.2.sem = fun _ => 0) :=
  (θ_run defs _ _).mono (fun r h => ⟨⟨fun c => by
      have hn := h.1 c
      simp only [named, List.forall_mem_cons] at hn
      exact ⟨hn.1.trans ((W₂_of_ne m c (b := Proc.devRef .tc main_arg0) (by decide)).trans (V_main_arg0 m c)),
        hn.2.1.trans ((W₂_of_ne m c (b := Proc.devRef .tc main_arg1) (by decide)).trans (V_main_arg1 m c)),
        hn.2.2.1.trans ((W₂_of_ne m c (b := Proc.devRef .tc main_arg2) (by decide)).trans (V_main_arg2 m c)),
        hn.2.2.2.1.trans ((W₂_of_ne m c (b := Proc.devRef .tc main_arg3) (by decide)).trans (V_main_arg3 m c)),
        hn.2.2.2.2.1.trans ((W₂_of_ne m c (b := Proc.devRef .tc main_arg4) (by decide)).trans (V_main_arg4 m c))⟩,
      fun c => (h.1 c (Proc.devRef .tc main_v5) (by decide)).trans (W₂_v5 m c)⟩, h.2⟩) (run_main m ρ)

end Cert.KernelIdeal.Run

end
-- ==== Proof.Val.Attend.lean ====
/-
  ATTENTION OF ONE QUERY, OVER THE EXTENDED REALS.

  `attend s v` mixes the values v by the softmax of the scores s, a masked score being minus infinity. Keys that are masked can be left out, once one
  score is real and none is plus infinity.
-/
module

public import Idealize.ShloMosaic.Lib.Pointwise
public import Idealize.ShloMosaic.Lib.IdealHost

@[expose] public section

noncomputable section

namespace Cert.Val

open Idealize.ShloMosaic

/-- The greatest of n scores. -/
def top {n : ℕ} (s : Fin n → EReal) : EReal := Finset.fold max ⊥ s Finset.univ
/-- The weight of key j before the division. -/
def wt {n : ℕ} (s : Fin n → EReal) (j : Fin n) : EReal := Ideal.exp (s j - top s)
/-- The softmax of the scores, applied to the values. -/
def attend {n : ℕ} (s v : Fin n → EReal) : EReal := ∑ j, Ideal.div (wt s j) (∑ j', wt s j') * v j

theorem exp_nonneg (x : EReal) : 0 ≤ Ideal.exp x := by
  induction x with
  | bot => exact le_refl _
  | top => exact le_top
  | coe r => exact EReal.coe_nonneg.mpr (Real.exp_pos r).le

theorem exp_pos {x : EReal} (h : x ≠ ⊥) : 0 < Ideal.exp x := by
  induction x with
  | bot => exact absurd rfl h
  | top => exact EReal.zero_lt_top
  | coe r => exact EReal.coe_pos.mpr (Real.exp_pos r)

theorem wt_masked {n : ℕ} {s : Fin n → EReal} {j : Fin n} (h : s j = ⊥) : wt s j = 0 := by
  unfold wt
  rw [h, sub_eq_add_neg, EReal.bot_add]
  rfl

theorem top_ne_top {n : ℕ} {s : Fin n → EReal} (h : ∀ j, s j ≠ ⊤) : top s ≠ ⊤ :=
  ((Finset.fold_max_lt ⊤).mpr ⟨bot_lt_top, fun j _ => lt_top_iff_ne_top.mpr (h j)⟩).ne

/-- The weights' sum is not zero, since some score is not minus infinity. -/
theorem total_ne_zero {n : ℕ} {s : Fin n → EReal} (h : ∀ j, s j ≠ ⊤) {i : Fin n} (hi : s i ≠ ⊥) : ∑ j, wt s j ≠ 0 := by
  intro h0
  have h1 := (Finset.sum_eq_zero_iff_of_nonneg fun j _ => exp_nonneg _).mp h0 i (Finset.mem_univ _)
  refine absurd h1 (exp_pos ?_).ne'
  rw [sub_eq_add_neg]
  refine fun hb => ?_
  rcases EReal.add_eq_bot_iff.mp hb with hb | hb
  · exact hi hb
  · exact top_ne_top h (EReal.neg_eq_bot_iff.mp hb)

/-- The greatest score is among those not masked. -/
theorem top_castAdd {a b : ℕ} (s : Fin (a + b) → EReal) (hm : ∀ j, s (Fin.natAdd a j) = ⊥) : top s = top fun j => s (Fin.castAdd b j) := by
  refine le_antisymm ((Finset.fold_max_le _).mpr ⟨bot_le, fun j _ => ?_⟩) ((Finset.fold_max_le _).mpr ⟨bot_le, fun j _ => ?_⟩)
  · refine Fin.addCases (fun j => ?_) (fun j => ?_) j
    · exact (Finset.le_fold_max _).mpr (.inr ⟨j, Finset.mem_univ _, le_refl _⟩)
    · exact (hm j).le.trans bot_le
  · exact (Finset.le_fold_max _).mpr (.inr ⟨_, Finset.mem_univ _, le_refl _⟩)

/-- Masked keys at the end may be left out. -/
theorem attend_castAdd {a b : ℕ} (s v : Fin (a + b) → EReal) (hm : ∀ j, s (Fin.natAdd a j) = ⊥) (h : ∀ j, s j ≠ ⊤) {i : Fin (a + b)} (hi : s i ≠ ⊥) :
    attend s v = attend (fun j => s (Fin.castAdd b j)) (fun j => v (Fin.castAdd b j)) := by
  have hw : ∀ j, wt s (Fin.castAdd b j) = wt (fun j => s (Fin.castAdd b j)) j := fun j => by
    unfold wt
    rw [top_castAdd s hm]
  have hz : ∀ j, wt s (Fin.natAdd a j) = 0 := fun j => wt_masked (hm j)
  have ht := total_ne_zero h hi
  unfold attend
  rw [Fin.sum_univ_add]
  have h0 : ∀ j, Ideal.div (wt s (Fin.natAdd a j)) (∑ j', wt s j') * v (Fin.natAdd a j) = 0 := fun j => by
    rw [hz, Ideal.zero_div ht, zero_mul]
  rw [Finset.sum_congr rfl fun j _ => h0 j, Finset.sum_const_zero, add_zero]
  refine Finset.sum_congr rfl fun j _ => ?_
  rw [hw, Fin.sum_univ_add, Finset.sum_congr rfl fun j _ => hz j, Finset.sum_const_zero, add_zero, Finset.sum_congr rfl fun j _ => hw j]

/-! ## The mask -/

/-- Whether query i sees key j: they are at most 128 apart. -/
def sees (i j : ℕ) : BitVec 1 := IntOp.cmpi .sle (IntOp.absi (IntOp.subi (BitVec.ofNat 32 i) (BitVec.ofNat 32 j))) 128#32

theorem sees_self (i : ℕ) : sees i i = 1#1 := by
  unfold sees IntOp.subi
  rw [BitVec.sub_self]
  decide

theorem far : ∀ d < 1024, 128 < d → IntOp.cmpi .sle (IntOp.absi (-(BitVec.ofNat 32 d))) 128#32 = 0#1 := by decide +kernel

/-- The first 128 queries see no key from 256 on. -/
theorem sees_far {i j : ℕ} (hi : i < 128) (h : 256 ≤ j) (hj : j < 1024) : sees i j = 0#1 := by
  have e : IntOp.subi (BitVec.ofNat 32 i) (BitVec.ofNat 32 j) = -(BitVec.ofNat 32 (j - i)) := by
    unfold IntOp.subi
    apply BitVec.eq_of_toNat_eq
    simp only [BitVec.toNat_sub, BitVec.toNat_neg, BitVec.toNat_ofNat]
    omega
  unfold sees
  rw [e]
  exact far _ (by omega) (by omega)

/-! ## Reals among the extended reals -/

/-- An extended real that is a real. -/
def IsReal (a : EReal) : Prop := ∃ r : ℝ, a = r

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.sum {ι : Type} {s : Finset ι} {f : ι → EReal} (h : ∀ i ∈ s, IsReal (f i)) : IsReal (∑ i ∈ s, f i) := by
  classical
  induction s using Finset.induction_on with
  | empty => exact ⟨0, rfl⟩
  | insert a s ha ih =>
    rw [Finset.sum_insert ha]
    obtain ⟨r, hr⟩ := h a (Finset.mem_insert_self _ _)
    obtain ⟨t, ht⟩ := ih fun i hi => h i (Finset.mem_insert_of_mem hi)
    exact ⟨r + t, by rw [hr, ht, EReal.coe_add]⟩

theorem IsReal.ne_top {a : EReal} (h : IsReal a) : a ≠ ⊤ := by
  obtain ⟨r, rfl⟩ := h
  exact EReal.coe_ne_top r
theorem IsReal.ne_bot {a : EReal} (h : IsReal a) : a ≠ ⊥ := by
  obtain ⟨r, rfl⟩ := h
  exact EReal.coe_ne_bot r

/-- The word of minus infinity, -/
theorem word_bot : Ideal.ofBits .f32 0xFF800000#32 = ⊥ := by
  simp [Ideal.ofBits, Ideal.ieee]
/-- and the scale of the scores, one eighth. -/
theorem word_scale : IsReal (Ideal.ofBits .f32 0x3E000000#32) := by
  refine ⟨1 / 8, ?_⟩
  simp [Ideal.ofBits, Ideal.ieee, -EReal.coe_mul]
  norm_num

/-- A masked score. -/
def score (i j : ℕ) (a : EReal) : EReal := Scalar.select (sees i j) (a * Ideal.ofBits .f32 0x3E000000#32) ⊥

theorem score_ne_top {i j : ℕ} {a : EReal} (h : IsReal a) : score i j a ≠ ⊤ := by
  unfold score Scalar.select
  split
  · exact (h.mul word_scale).ne_top
  · exact bot_ne_top
theorem score_self {i : ℕ} {a : EReal} (h : IsReal a) : score i i a ≠ ⊥ := by
  unfold score
  rw [sees_self]
  exact (h.mul word_scale).ne_bot
theorem score_far {i j : ℕ} {a : EReal} (hi : i < 128) (h : 256 ≤ j) (hj : j < 1024) : score i j a = ⊥ := by
  unfold score
  rw [sees_far hi h hj]
  rfl

/-- Attention over the 1024 keys is attention over the first 256. -/
theorem attend_window (i : Fin 128) (a : Fin 1024 → EReal) (v : Fin 1024 → EReal) (ha : ∀ j, IsReal (a j)) :
    attend (fun j : Fin 1024 => score i j (a j)) v
      = attend (fun j : Fin 256 => score i j (a ⟨j.val, by omega⟩)) (fun j : Fin 256 => v ⟨j.val, by omega⟩) :=
  attend_castAdd (a := 256) (b := 768) (fun j : Fin 1024 => score i j (a j)) v
    (fun j => score_far i.2 (Nat.le_add_right _ _) (Fin.natAdd 256 j).2) (fun j => score_ne_top (ha j))
    (i := (⟨i.val, by omega⟩ : Fin 1024)) (score_self (ha _))

end Cert.Val

end
-- ==== Proof.Val.Finite.lean ====
/-
  THE PRECONDITION.

  Where it holds, every entry of a device's activations, query weights and keys is a real number.
-/
module

public import proofs.«01_k».proof.Pre_finite_scores_KernelIdeal
public import proofs.«01_k».proof.Pre_finite_scores_ReferenceIdeal
public import proofs.«01_k».proof.Proof.Val.Attend
public import Idealize.ShloMosaic.Lib.ReduceAll
public import Idealize.ShloMosaic.Lib.Affine
public import Idealize.ShloMosaic.Lib.Decide

@[expose] public section

noncomputable section

namespace Cert.Val

open Idealize.ShloMosaic

/-- The side conditions of the precondition's operations, on a device's shapes, -/
theorem pre_facts : Cert.Pre_finite_scores_KernelIdeal.Facts :=
  ⟨by decide, by decide, by decide, by decide, by decide, by decide, by decide⟩
/-- and on the reference's. -/
theorem pre_facts_ref : Cert.Pre_finite_scores_ReferenceIdeal.Facts :=
  ⟨by decide, by decide, by decide, by decide, by decide, by decide, by decide⟩

theorem word_top : Ideal.ofBits .f32 0x7F800000#32 = ⊤ := by
  simp [Ideal.ofBits, Ideal.ieee]

/-- An entry whose absolute value is less than infinity is real. -/
theorem real_of_abs {a : EReal} (h : Ideal.cmp .olt (max a (-a)) (Ideal.ofBits .f32 0x7F800000#32) = 1#1) : IsReal a := by
  rw [word_top] at h
  have hl : max a (-a) < ⊤ := by
    by_contra hn
    have h0 : Ideal.cmp .olt (max a (-a)) ⊤ = 0#1 := congrArg BitVec.ofBool (decide_eq_false hn)
    rw [h0] at h
    exact absurd h (by decide)
  induction a with
  | bot => exact absurd hl (by simp)
  | top => exact absurd hl (by simp)
  | coe r => exact ⟨r, rfl⟩

open Cert.Pre_finite_scores_KernelIdeal in
/-- Where the precondition holds, a device's activations, query weights and keys are real. -/
theorem pre_real [Facts] (x : FVec Ideal S2x128x512 .f32) (wq : FVec Ideal S512x256 .f32) (k v : FVec Ideal S2x128x32x64 .f32) (wo : FVec Ideal S256x512 .f32)
    (h : fn (F := Ideal) x wq k v wo = fun _ => 1#1) : (∀ t, IsReal (x t)) ∧ (∀ t, IsReal (wq t)) ∧ ∀ t, IsReal (k t) := by
  have h0 := congrFun h (fun a => Fin.elim0 a)
  obtain ⟨h1, h2⟩ := IntOp.andi_eq_one.1 h0
  obtain ⟨h3, h4⟩ := IntOp.andi_eq_one.1 h1
  haveI : Subsingleton S_.Idx := ⟨fun _ _ => funext fun a => Fin.elim0 a⟩
  exact ⟨fun t => real_of_abs (Host.reduce_andi_all _ _ _ _ _ h3 t), fun t => real_of_abs (Host.reduce_andi_all _ _ _ _ _ h4 t),
    fun t => real_of_abs (Host.reduce_andi_all _ _ _ _ _ h2 t)⟩

end Cert.Val

end
-- ==== Proof.Val.Reference.lean ====
/-
  THE REFERENCE IN STEPS.

  The reference's result is one term of host operations; here it is the composition of the scores, the weights and the mix of the values, each
  over the extended reals.
-/
module

public import proofs.«01_k».proof.Proof.Gen.ReferenceIdeal.Run
public import proofs.«01_k».proof.Proof.Val.Attend

@[expose] public section

noncomputable section

namespace Cert.Val

open Idealize.ShloMosaic Idealize.ShloMosaic.TcCoe
open Cert.ReferenceIdeal Cert.ReferenceIdeal.Gen

/-- Which keys a query sees. -/
def rMask : IVec S128x1024 1 :=
  cmpi .sle (absi (subi (broadcastInDim S128x1024 ![0, 1] bcast_S128x1_S128x1024_0_1 (broadcastInDim S128x1 ![0] bcast_S128_S128x1_0 (iotaInDim S128 32 0))) (broadcastInDim S128x1024 ![0, 1] bcast_S1x1024_S128x1024_0_1 (broadcastInDim S1x1024 ![1] bcast_S1024_S1x1024_1 (iotaInDim S1024 32 0))))) (broadcastInDim S128x1024 ![] bcast_S_S128x1024 (constantI S_ 32 128#32))

/-- Which queries see a key at all. -/
def rKeep : IVec S128 1 := Host.reduce IntOp.ori rMask (constantI S_ 1 0#1) reducesTo_S128x1024_S128_d1 h_S_

/-- The masked scores. -/
def rScores (x : FVec Ideal S2x128x512 .f32) (wq : FVec Ideal S512x2048 .f32) (k : FVec Ideal S2x1024x32x64 .f32) : FVec Ideal S2x32x128x1024 .f32 :=
  select (broadcastInDim S2x32x128x1024 ![0, 1, 2, 3] bcast_S1x1x128x1024_S2x32x128x1024_0_1_2_3 (broadcastInDim S1x1x128x1024 ![2, 3] bcast_S128x1024_S1x1x128x1024_2_3 rMask)) (mulf (Host.dotGeneral dot_S2x128x32x64_S2x1024x32x64_S2x32x128x1024_3_3_1_1_02_02 none (shapeCast S2x128x32x64 (Host.dotGeneral dot_S2x128x512_S512x2048_S2x128x2048_2_0_01_1_n_n none x wq : FVec Ideal S2x128x2048 .f32) shapeCasts_S2x128x2048_S2x128x32x64) k) (broadcastInDim S2x32x128x1024 ![] bcast_S_S2x32x128x1024 (constant S_ .f32 0x3E000000#32))) (broadcastInDim S2x32x128x1024 ![] bcast_S_S2x32x128x1024 (id (constant S_ .f32 0xFF800000#32)))

/-- Scores less their row's greatest, exponentiated. -/
def rWeights (s : FVec Ideal S2x32x128x1024 .f32) : FVec Ideal S2x32x128x1024 .f32 :=
  Host.exp (subf s (broadcastInDim S2x32x128x1024 ![0, 1, 2, 3] bcast_S2x32x128x1_S2x32x128x1024_0_1_2_3 (broadcastInDim S2x32x128x1 ![0, 1, 2] bcast_S2x32x128_S2x32x128x1_0_1_2 (Host.reduce FloatOps.maximumf s (constant S_ .f32 0xFF800000#32) reducesTo_S2x32x128x1024_S2x32x128_d3 h_S_))))

/-- The weights' sums, -/
def rSum (w : FVec Ideal S2x32x128x1024 .f32) : FVec Ideal S2x32x128x1 .f32 :=
  select (broadcastInDim S2x32x128x1 ![0, 1, 2, 3] bcast_S1x1x128x1_S2x32x128x1_0_1_2_3 (broadcastInDim S1x1x128x1 ![2] bcast_S128_S1x1x128x1_2 rKeep)) (broadcastInDim S2x32x128x1 ![0, 1, 2] bcast_S2x32x128_S2x32x128x1_0_1_2 (Host.reduceAdd w (constant S_ .f32 0x00000000#32) reducesTo_S2x32x128x1024_S2x32x128_d3 h_S_)) (broadcastInDim S2x32x128x1 ![] bcast_S_S2x32x128x1 (id (constant S_ .f32 0x3F800000#32)))
/-- the weights divided by them, -/
def rNorm (w : FVec Ideal S2x32x128x1024 .f32) : FVec Ideal S2x32x128x1024 .f32 :=
  select (broadcastInDim S2x32x128x1024 ![0, 1, 2, 3] bcast_S1x1x128x1_S2x32x128x1024_0_1_2_3 (broadcastInDim S1x1x128x1 ![2] bcast_S128_S1x1x128x1_2 rKeep)) (Host.divf w (broadcastInDim S2x32x128x1024 ![0, 1, 2, 3] bcast_S2x32x128x1_S2x32x128x1024_0_1_2_3 (rSum w))) (broadcastInDim S2x32x128x1024 ![] bcast_S_S2x32x128x1024 (id (constant S_ .f32 0x00000000#32)))
/-- the values mixed by those, -/
def rMix (v : FVec Ideal S2x1024x32x64 .f32) (n : FVec Ideal S2x32x128x1024 .f32) : FVec Ideal S2x128x2048 .f32 :=
  shapeCast S2x128x2048 (transpose S2x128x32x64 [0, 3, 1, 2] (Host.dotGeneral dot_S2x1024x32x64_S2x32x128x1024_S2x32x64x128_1_3_3_2_02_01 none v n : FVec Ideal S2x32x64x128 .f32) transposes_S2x32x64x128_S2x128x32x64_0_3_1_2) shapeCasts_S2x128x32x64_S2x128x2048
/-- and the product with the output weights. -/
def rOut (x : FVec Ideal S2x128x512 .f32) (wq : FVec Ideal S512x2048 .f32) (k v : FVec Ideal S2x1024x32x64 .f32) (wo : FVec Ideal S2048x512 .f32) : FVec Ideal S2x128x512 .f32 :=
  Host.dotGeneral dot_S2x128x2048_S2048x512_S2x128x512_2_0_01_1_n_n none (rMix v (rNorm (rWeights (rScores x wq k)))) wo

/-- The reference's result is that composition. -/
theorem result_eq (m : (ℓ : Loc nD τ sig) → Buf (Elt Ideal) ℓ) (c : Dev nD) :
    Cert.ReferenceIdeal.Value.res_main_v34 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A query of the reference. -/
def rQuery (x : FVec Ideal S2x128x512 .f32) (wq : FVec Ideal S512x2048 .f32) (b : Fin 2) (h : Fin 32) (i : Fin 128) (e : Fin 64) : EReal :=
  ∑ m : Fin 512, x (ix3 b i m) * wq (ix2 m ⟨h.val * 64 + e.val, by omega⟩)
/-- Its product with a key. -/
def rDot (x : FVec Ideal S2x128x512 .f32) (wq : FVec Ideal S512x2048 .f32) (k : FVec Ideal S2x1024x32x64 .f32) (b : Fin 2) (h : Fin 32) (i : Fin 128)
    (j : Fin 1024) : EReal := ∑ e : Fin 64, rQuery x wq b h i e * k (ix4 b j h e)

theorem rScores_apply (x : FVec Ideal S2x128x512 .f32) (wq : FVec Ideal S512x2048 .f32) (k : FVec Ideal S2x1024x32x64 .f32) (b : Fin 2) (h : Fin 32)
    (i : Fin 128) (j : Fin 1024) : rScores x wq k (ix4 b h i j) = score i j (rDot x wq k b h i j) := by
  pointwise [rScores, rMask]
  unfold score
  rw [← word_bot]
  rfl

theorem rWeights_apply (s : FVec Ideal S2x32x128x1024 .f32) (b : Fin 2) (h : Fin 32) (i : Fin 128) (j : Fin 1024) :
    rWeights s (ix4 b h i j) = wt (fun j => s (ix4 b h i j)) j := by
  pointwise [rWeights]
  unfold wt top
  rw [← word_bot]

theorem or_one : ∀ b : BitVec 1, IntOp.ori 1#1 b = 1#1 := by decide

/-- A disjunction one of whose members holds, holds. -/
theorem fold_or {n : ℕ} (f : Fin n → BitVec 1) (i : Fin n) (h : f i = 1#1) : Finset.fold IntOp.ori (0#1) f Finset.univ = 1#1 := by
  classical
  rw [← Finset.insert_erase (Finset.mem_univ i), Finset.fold_insert (Finset.notMem_erase _ _), h]
  exact or_one _

/-- Every query sees a key: its own place. -/
theorem rKeep_apply (i : Fin 128) : rKeep (ix1 i) = 1#1 := by
  pointwise [rKeep]
  refine fold_or _ ⟨i.val, by omega⟩ ?_
  pointwise [rMask]
  exact sees_self i.val

theorem rNorm_apply (w : FVec Ideal S2x32x128x1024 .f32) (b : Fin 2) (h : Fin 32) (i : Fin 128) (j : Fin 1024) :
    rNorm w (ix4 b h i j) = Ideal.div (w (ix4 b h i j)) (∑ j', w (ix4 b h i j')) := by
  pointwise [rNorm, rSum]
  rw [rKeep_apply]
  rfl

theorem rMix_apply (v : FVec Ideal S2x1024x32x64 .f32) (n : FVec Ideal S2x32x128x1024 .f32) (b : Fin 2) (i : Fin 128) (j : Fin 2048) :
    rMix v n (ix3 b i j) = ∑ t : Fin 1024, v (ix4 b t ⟨j.val / 64, by omega⟩ ⟨j.val % 64, by omega⟩) * n (ix4 b ⟨j.val / 64, by omega⟩ i t) := by
  pointwise [rMix]

/-- A head's context: attention over all keys. -/
def rCtx (x : FVec Ideal S2x128x512 .f32) (wq : FVec Ideal S512x2048 .f32) (k v : FVec Ideal S2x1024x32x64 .f32) (b : Fin 2) (h : Fin 32) (i : Fin 128)
    (e : Fin 64) : EReal := attend (fun j : Fin 1024 => score i j (rDot x wq k b h i j)) (fun j => v (ix4 b j h e))

/-- The reference's result at an index. -/
theorem rOut_apply (x : FVec Ideal S2x128x512 .f32) (wq : FVec Ideal S512x2048 .f32) (k v : FVec Ideal S2x1024x32x64 .f32) (wo : FVec Ideal S2048x512 .f32)
    (b : Fin 2) (i : Fin 128) (n : Fin 512) :
    rOut x wq k v wo (ix3 b i n) = ∑ j : Fin 2048, rCtx x wq k v b ⟨j.val / 64, by omega⟩ i ⟨j.val % 64, by omega⟩ * wo (ix2 j n) := by
  pointwise [rOut]
  refine Finset.sum_congr rfl fun j _ => congrArg (· * _) ?_
  rw [rMix_apply]
  unfold rCtx attend
  refine Finset.sum_congr rfl fun t _ => ?_
  rw [mul_comm, rNorm_apply]
  simp only [rWeights_apply, rScores_apply]

end Cert.Val

end
-- ==== Proof.Val.Head.lean ====
/-
  ONE HEAD OF THE KERNEL'S ATTENTION.

  The eight heads (four of each batch) are printed with their operations grouped in different ways; each is the one function `head` of its
  queries, keys and values, and a batch's partial product is the product of its four heads side by side with the output weights.
-/
module

public import proofs.«01_k».proof.Proof.KI.Values
public import Idealize.ShloMosaic.Lib.Pointwise

@[expose] public section

noncomputable section

namespace Cert.KernelIdeal.Run

open Idealize.ShloMosaic Idealize.ShloMosaic.TcCoe
open Cert.KernelIdeal Cert.KernelIdeal.Gen

section Printed

variable {F : FTy → Type} [FloatOps F] [Named F]

/-- The scores of a head, masked. -/
def scores (q : FVec F S128x64 .bf16) (kk : FVec F S256x64 .bf16) : FVec F S128x256 .f32 :=
  select k0_pay7 (mulf (matmul dot_S128x64_S256x64_S128x256_1_1_0_0_n_n none q kk (constant S128x256 .f32 0x00000000#32))
    (broadcast S128x256 (Scalar.ofBits .f32 0x3E000000#32))) (broadcast S128x256 (Named.named κ "mask" 0xCE6E6B28#32))

/-- Scores less their row's greatest, exponentiated. -/
def weights (s : FVec F S128x256 .f32) : FVec F S128x256 .f32 :=
  exp (subf s (broadcastTo S128x256 (shapeCast S128x1 (multiReduction .maximumf [1] S128 s 0xFF800000#32 reduces_S128x256_S128 (.inl rfl) rfl)
    shapeCasts_S128_S128x1) broadcasts_S128x1_S128x256))

/-- Weights divided by their row's sum, times the values. -/
def mix (w : FVec F S128x256 .f32) (vv : FVec F S256x64 .bf16) : FVec F S128x64 .f32 :=
  matmul dot_S128x256_S256x64_S128x64_1_0_0_1_n_n none
    (truncf .bf16 (divf w (broadcastTo S128x256 (shapeCast S128x1 (multiReduction .add [1] S128 w 0x00000000#32 reduces_S128x256_S128 (.inl rfl) rfl)
      shapeCasts_S128_S128x1) broadcasts_S128x1_S128x256)) bitsLt_bf16_f32) vv (constant S128x64 .f32 0x00000000#32)

/-- One head. -/
def head (q : FVec F S128x64 .bf16) (kk vv : FVec F S256x64 .bf16) : FVec F S128x64 .f32 := mix (weights (scores q kk)) vv

/-- Two loaded half tiles one below the other. -/
def stack (a b : Vec F S1x1x128x64 .bf16) : FVec F S256x64 .bf16 := k0_pay9 a b

/-- Four heads side by side, times the output weights. -/
def project (h0 h1 h2 h3 : FVec F S128x64 .f32) (wo : Vec F S256x512 .f32) : FVec F S1x128x512 .bf16 :=
  k0_pay17 (truncf .bf16 (concatenate S128x256 1 [⟨S128x64, h0⟩, ⟨S128x64, h1⟩, ⟨S128x64, h2⟩, ⟨S128x64, h3⟩]
    concatenates_S128x64_S128x64_S128x64_S128x64_S128x256_d1) bitsLt_bf16_f32) wo

variable (I : In F)

theorem pt0_eq (d : D8) : pt0 I d = project
    (head (extractStridedSlice S128x64 ![0, 0] (q0 I d) slices_S128x256_o0_0_S128x64)
      (stack (ld I d ![0, 0, 0, 0] inb_S2x2x256x256_S1x1x128x64_0_0_0_0) (ld I d ![1, 0, 0, 0] inb_S2x2x256x256_S1x1x128x64_1_0_0_0))
      (stack (ld I d ![0, 1, 0, 0] inb_S2x2x256x256_S1x1x128x64_0_1_0_0) (ld I d ![1, 1, 0, 0] inb_S2x2x256x256_S1x1x128x64_1_1_0_0)))
    (head (extractStridedSlice S128x64 ![0, 64] (q0 I d) slices_S128x256_o0_64_S128x64)
      (stack (ld I d ![0, 0, 0, 64] inb_S2x2x256x256_S1x1x128x64_0_0_0_64) (ld I d ![1, 0, 0, 64] inb_S2x2x256x256_S1x1x128x64_1_0_0_64))
      (stack (ld I d ![0, 1, 0, 64] inb_S2x2x256x256_S1x1x128x64_0_1_0_64) (ld I d ![1, 1, 0, 64] inb_S2x2x256x256_S1x1x128x64_1_1_0_64)))
    (head (extractStridedSlice S128x64 ![0, 128] (q0 I d) slices_S128x256_o0_128_S128x64)
      (stack (ld I d ![0, 0, 0, 128] inb_S2x2x256x256_S1x1x128x64_0_0_0_128) (ld I d ![1, 0, 0, 128] inb_S2x2x256x256_S1x1x128x64_1_0_0_128))
      (stack (ld I d ![0, 1, 0, 128] inb_S2x2x256x256_S1x1x128x64_0_1_0_128) (ld I d ![1, 1, 0, 128] inb_S2x2x256x256_S1x1x128x64_1_1_0_128)))
    (head (extractStridedSlice S128x64 ![0, 192] (q0 I d) slices_S128x256_o0_192_S128x64)
      (stack (ld I d ![0, 0, 0, 192] inb_S2x2x256x256_S1x1x128x64_0_0_0_192) (ld I d ![1, 0, 0, 192] inb_S2x2x256x256_S1x1x128x64_1_0_0_192))
      (stack (ld I d ![0, 1, 0, 192] inb_S2x2x256x256_S1x1x128x64_0_1_0_192) (ld I d ![1, 1, 0, 192] inb_S2x2x256x256_S1x1x128x64_1_1_0_192)))
    (woL I d) := rfl

theorem pt1_eq (d : D8) : pt1 I d = project
    (head (extractStridedSlice S128x64 ![0, 0] (q1 I d) slices_S128x256_o0_0_S128x64)
      (stack (ld I d ![0, 0, 128, 0] inb_S2x2x256x256_S1x1x128x64_0_0_128_0) (ld I d ![1, 0, 128, 0] inb_S2x2x256x256_S1x1x128x64_1_0_128_0))
      (stack (ld I d ![0, 1, 128, 0] inb_S2x2x256x256_S1x1x128x64_0_1_128_0) (ld I d ![1, 1, 128, 0] inb_S2x2x256x256_S1x1x128x64_1_1_128_0)))
    (head (extractStridedSlice S128x64 ![0, 64] (q1 I d) slices_S128x256_o0_64_S128x64)
      (stack (ld I d ![0, 0, 128, 64] inb_S2x2x256x256_S1x1x128x64_0_0_128_64) (ld I d ![1, 0, 128, 64] inb_S2x2x256x256_S1x1x128x64_1_0_128_64))
      (stack (ld I d ![0, 1, 128, 64] inb_S2x2x256x256_S1x1x128x64_0_1_128_64) (ld I d ![1, 1, 128, 64] inb_S2x2x256x256_S1x1x128x64_1_1_128_64)))
    (head (extractStridedSlice S128x64 ![0, 128] (q1 I d) slices_S128x256_o0_128_S128x64)
      (stack (ld I d ![0, 0, 128, 128] inb_S2x2x256x256_S1x1x128x64_0_0_128_128) (ld I d ![1, 0, 128, 128] inb_S2x2x256x256_S1x1x128x64_1_0_128_128))
      (stack (ld I d ![0, 1, 128, 128] inb_S2x2x256x256_S1x1x128x64_0_1_128_128) (ld I d ![1, 1, 128, 128] inb_S2x2x256x256_S1x1x128x64_1_1_128_128)))
    (head (extractStridedSlice S128x64 ![0, 192] (q1 I d) slices_S128x256_o0_192_S128x64)
      (stack (ld I d ![0, 0, 128, 192] inb_S2x2x256x256_S1x1x128x64_0_0_128_192) (ld I d ![1, 0, 128, 192] inb_S2x2x256x256_S1x1x128x64_1_0_128_192))
      (stack (ld I d ![0, 1, 128, 192] inb_S2x2x256x256_S1x1x128x64_0_1_128_192) (ld I d ![1, 1, 128, 192] inb_S2x2x256x256_S1x1x128x64_1_1_128_192)))
    (woL I d) := rfl

end Printed

end Cert.KernelIdeal.Run

end
-- ==== Proof.Val.Heads.lean ====
/-
  THE KERNEL'S HEADS AT AN INDEX.

  Over the extended reals a head's entry is `attend` of the scores of 256 keys, and a device's partial product is a sum over its 256 columns.
-/
module

public import proofs.«01_k».proof.Proof.Val.Head
public import proofs.«01_k».proof.Proof.Val.Attend

@[expose] public section

noncomputable section

namespace Cert.Val

open Idealize.ShloMosaic Idealize.ShloMosaic.TcCoe
open Cert.KernelIdeal Cert.KernelIdeal.Gen
open Cert.KernelIdeal.Run hiding ix2 ix3

theorem mask_named : (Named.named κ "mask" 0xCE6E6B28#32 : Ideal .f32) = ⊥ := IdealRules.named_const.ideal_named_scalar _ _ _ _ rfl

theorem scores_apply (q : FVec Ideal S128x64 .bf16) (kk : FVec Ideal S256x64 .bf16) (i : Fin 128) (j : Fin 256) :
    scores q kk (ix2 i j) = score i j (∑ e : Fin 64, q (ix2 i e) * kk (ix2 j e)) := by
  pointwise [scores, k0_pay7]
  rw [mask_named]
  rfl

theorem weights_apply (s : FVec Ideal S128x256 .f32) (i : Fin 128) (j : Fin 256) : weights s (ix2 i j) = wt (fun j => s (ix2 i j)) j := by
  pointwise [weights]
  unfold wt top
  rw [← word_bot]

theorem mix_apply (w : FVec Ideal S128x256 .f32) (vv : FVec Ideal S256x64 .bf16) (i : Fin 128) (e : Fin 64) :
    mix w vv (ix2 i e) = ∑ j : Fin 256, Ideal.div (w (ix2 i j)) (∑ j' : Fin 256, w (ix2 i j')) * vv (ix2 j e) := by
  pointwise [mix]

theorem head_apply (q : FVec Ideal S128x64 .bf16) (kk vv : FVec Ideal S256x64 .bf16) (i : Fin 128) (e : Fin 64) :
    head q kk vv (ix2 i e) = attend (fun j : Fin 256 => score i j (∑ e : Fin 64, q (ix2 i e) * kk (ix2 j e))) (fun j => vv (ix2 j e)) := by
  unfold head attend
  rw [mix_apply]
  simp only [weights_apply, scores_apply]

theorem stack_apply (a b : Vec Ideal S1x1x128x64 .bf16) (i : Fin 256) (e : Fin 64) :
    stack a b (ix2 i e) = if h : i.val < 128 then a (ix4 0 0 ⟨i.val, h⟩ e) else b (ix4 0 0 ⟨i.val - 128, by omega⟩ e) := by
  pointwise [stack, k0_pay9]

/-- Of four heads side by side, the entry in column x. -/
theorem project_apply (h0 h1 h2 h3 : FVec Ideal S128x64 .f32) (wo : Vec Ideal S256x512 .f32) (i : Fin 128) (n : Fin 512) (f : Fin 256 → EReal)
    (e0 : ∀ e : Fin 64, h0 (ix2 i e) = f ⟨e.val, by omega⟩) (e1 : ∀ e : Fin 64, h1 (ix2 i e) = f ⟨64 + e.val, by omega⟩)
    (e2 : ∀ e : Fin 64, h2 (ix2 i e) = f ⟨128 + e.val, by omega⟩) (e3 : ∀ e : Fin 64, h3 (ix2 i e) = f ⟨192 + e.val, by omega⟩) :
    project h0 h1 h2 h3 wo (ix3 0 i n) = ∑ x : Fin 256, f x * wo (ix2 x n) := by
  pointwise [project, k0_pay17]
  refine Finset.sum_congr rfl fun x _ => congrArg (· * _) ?_
  split
  · exact e0 _
  split
  · exact (e1 _).trans (congrArg f (Fin.ext (by show 64 + (x.val - 64) = x.val; omega)))
  split
  · exact (e2 _).trans (congrArg f (Fin.ext (by show 128 + (x.val - 64 - 64) = x.val; omega)))
  · exact (e3 _).trans (congrArg f (Fin.ext (by show 192 + (x.val - 64 - 64 - 64) = x.val; omega)))

section Loads

variable (I : In Ideal) (d : D8)

/-- Entry (j, n) of the keys (t = 0) or values (t = 1) of batch b that device d works with: row j of the first 256 keys, column n of its 256. -/
def kvE (t b : Fin 2) (j n : Fin 256) : EReal :=
  match t with
  | 0 => I.k (rootD ⟨j.val / 128, by omega⟩) (ix2 ⟨128 * b.val + j.val % 128, by omega⟩ ⟨256 * d.val + n.val, by have := d.2; change d.val < 8 at this; omega⟩)
  | 1 => I.v (rootD ⟨j.val / 128, by omega⟩) (ix2 ⟨128 * b.val + j.val % 128, by omega⟩ ⟨256 * d.val + n.val, by have := d.2; change d.val < 8 at this; omega⟩)

/-- An entry of device d's columns, in the whole rows. -/
theorem tile_emb (r r' n : Fin 256) (hr : r'.val = r.val) : (colR d).emb (Cert.KernelIdeal.Run.ix2 r n)
    = (ix2 r' ⟨256 * d.val + n.val, by have := d.2; change d.val < 8 at this; omega⟩ : S256x2048.Idx) := by
  funext a
  match a with
  | 0 => exact Fin.ext (by show 0 + 1 * r.val = r'.val; omega)
  | 1 => exact Fin.ext (by show 256 * d.val + 1 * n.val = 256 * d.val + n.val; omega)

/-- A loaded half tile: root j's rows of batch b, 64 columns from o on. -/
theorem ld_apply (j t b : Fin 2) (o : ℕ) (ho : o + 64 ≤ 256) (off : Fin 4 → ℕ) (hoff : off = ![j.val, t.val, 128 * b.val, o])
    (h : ∀ a, off a + S1x1x128x64.size a ≤ S2x2x256x256.size a) (r : Fin 128) (e : Fin 64) :
    ld I d off h (ix4 0 0 r e) = kvE I d t b ⟨128 * j.val + r.val, by omega⟩ ⟨o + e.val, by omega⟩ := by
  subst hoff
  have he : (Rect.unit (s := S2x2x256x256) ![j.val, t.val, 128 * b.val, o] S1x1x128x64.size h).emb (ix4 0 0 r e : S1x1x128x64.Idx)
      = (ix4 j t ⟨128 * b.val + r.val, by omega⟩ ⟨o + e.val, by omega⟩ : S2x2x256x256.Idx) := by
    funext a
    match a with
    | 0 => exact Fin.ext (by show j.val + 1 * 0 = j.val; omega)
    | 1 => exact Fin.ext (by show t.val + 1 * 0 = t.val; omega)
    | 2 => exact Fin.ext (by show 128 * b.val + 1 * r.val = 128 * b.val + r.val; omega)
    | 3 => exact Fin.ext (by show o + 1 * e.val = o + e.val; omega)
  refine (congrArg (kvW I d) he).trans ?_
  have hj : rootD j = rootD ⟨(128 * j.val + r.val) / 128, by omega⟩ := Fin.ext (by show j.val = (128 * j.val + r.val) / 128; omega)
  have hr : (128 * b.val + (128 * j.val + r.val) % 128) = 128 * b.val + r.val := by omega
  have hi := tile_emb d ⟨128 * b.val + r.val, by omega⟩ ⟨128 * b.val + (128 * j.val + r.val) % 128, by omega⟩ ⟨o + e.val, by omega⟩ hr
  fin_cases t
  · exact (congrArg (I.k (rootD j)) hi).trans (congrArg (fun c => I.k c _) hj)
  · exact (congrArg (I.v (rootD j)) hi).trans (congrArg (fun c => I.v c _) hj)

/-- Two half tiles one below the other. -/
theorem stack_ld (t b : Fin 2) (o : ℕ) (ho : o + 64 ≤ 256) (off off' : Fin 4 → ℕ) (h0 : off = ![0, t.val, 128 * b.val, o])
    (h1 : off' = ![1, t.val, 128 * b.val, o]) (h : ∀ a, off a + S1x1x128x64.size a ≤ S2x2x256x256.size a)
    (h' : ∀ a, off' a + S1x1x128x64.size a ≤ S2x2x256x256.size a) (j : Fin 256) (e : Fin 64) :
    stack (ld I d off h) (ld I d off' h') (ix2 j e) = kvE I d t b j ⟨o + e.val, by omega⟩ := by
  rw [stack_apply]
  split
  · rename_i hj
    rw [ld_apply I d 0 t b o ho off h0]
    exact congrArg (fun j => kvE I d t b j _) (Fin.ext (by show 128 * 0 + j.val = j.val; omega))
  · rename_i hj
    rw [ld_apply I d 1 t b o ho off' h1]
    exact congrArg (fun j => kvE I d t b j _) (Fin.ext (by show 128 * 1 + (j.val - 128) = j.val; omega))

/-- A load of one batch of the activations reads it where it stands, -/
theorem x_emb (b : Fin 2) (h : ∀ a, (![b.val, 0, 0] : Fin 3 → ℕ) a + S1x128x512.size a ≤ S2x128x512.size a) (i : Fin 128) (m : Fin 512) :
    (Rect.unit (s := S2x128x512) ![b.val, 0, 0] S1x128x512.size h).emb (ix3 0 i m : S1x128x512.Idx) = (ix3 b i m : S2x128x512.Idx) := by
  funext a
  match a with
  | 0 => exact Fin.ext (by show b.val + 1 * 0 = b.val; omega)
  | 1 => exact Fin.ext (by show 0 + 1 * i.val = i.val; omega)
  | 2 => exact Fin.ext (by show 0 + 1 * m.val = m.val; omega)
/-- and so does a load of a whole matrix. -/
theorem w_emb {M N : ℕ} (h : ∀ a, (![0, 0] : Fin 2 → ℕ) a + (⟨2, ![M, N]⟩ : Shape).size a ≤ (⟨2, ![M, N]⟩ : Shape).size a) (m : Fin M) (n : Fin N) :
    (Rect.unit (s := ⟨2, ![M, N]⟩) ![0, 0] (⟨2, ![M, N]⟩ : Shape).size h).emb (ix2 m n : (⟨2, ![M, N]⟩ : Shape).Idx) = (ix2 m n : (⟨2, ![M, N]⟩ : Shape).Idx) := by
  funext a
  match a with
  | 0 => exact Fin.ext (by show 0 + 1 * m.val = m.val; omega)
  | 1 => exact Fin.ext (by show 0 + 1 * n.val = n.val; omega)

/-- A query of device d. -/
def qE (b : Fin 2) (i : Fin 128) (n : Fin 256) : EReal := ∑ m : Fin 512, I.x d (ix3 b i m) * I.wq d (ix2 m n)

theorem q0_apply (i : Fin 128) (n : Fin 256) : q0 I d (ix2 i n) = qE I d 0 i n := by
  pointwise [q0, k0_pay5]
  exact Finset.sum_congr rfl fun m _ => congr (congrArg _ (congrArg (I.x d) (x_emb 0 _ i m))) (congrArg (I.wq d) (w_emb _ m n))
theorem q1_apply (i : Fin 128) (n : Fin 256) : q1 I d (ix2 i n) = qE I d 1 i n := by
  pointwise [q1, k0_pay6]
  exact Finset.sum_congr rfl fun m _ => congr (congrArg _ (congrArg (I.x d) (x_emb 1 _ i m))) (congrArg (I.wq d) (w_emb _ m n))

/-- The context in column o + e, o the head's first column. -/
def ctxE (b : Fin 2) (i : Fin 128) (o : ℕ) (ho : o + 64 ≤ 256) (e : Fin 64) : EReal :=
  attend (fun j : Fin 256 => score i j (∑ e : Fin 64, qE I d b i ⟨o + e.val, by omega⟩ * kvE I d 0 b j ⟨o + e.val, by omega⟩))
    (fun j => kvE I d 1 b j ⟨o + e.val, by omega⟩)

/-- A head of device d at an index. -/
theorem head_ld (b : Fin 2) (o : ℕ) (ho : o + 64 ≤ 256) (q : FVec Ideal S128x256 .bf16) (hq : ∀ i n, q (ix2 i n) = qE I d b i n)
    (sl : S128x256.Slices ![0, o] S128x64) (k0 k1 v0 v1 : Fin 4 → ℕ) (hk0 : k0 = ![0, 0, 128 * b.val, o]) (hk1 : k1 = ![1, 0, 128 * b.val, o])
    (hv0 : v0 = ![0, 1, 128 * b.val, o]) (hv1 : v1 = ![1, 1, 128 * b.val, o])
    (a0 : ∀ a, k0 a + S1x1x128x64.size a ≤ S2x2x256x256.size a) (a1 : ∀ a, k1 a + S1x1x128x64.size a ≤ S2x2x256x256.size a)
    (a2 : ∀ a, v0 a + S1x1x128x64.size a ≤ S2x2x256x256.size a) (a3 : ∀ a, v1 a + S1x1x128x64.size a ≤ S2x2x256x256.size a)
    (i : Fin 128) (e : Fin 64) :
    head (extractStridedSlice S128x64 ![0, o] q sl) (stack (ld I d k0 a0) (ld I d k1 a1)) (stack (ld I d v0 a2) (ld I d v1 a3)) (ix2 i e)
      = ctxE I d b i o ho e := by
  have hs : ∀ e : Fin 64, extractStridedSlice S128x64 ![0, o] q sl (ix2 i e) = qE I d b i ⟨o + e.val, by omega⟩ := fun e => by
    rw [← hq]
    pointwise
  rw [head_apply]
  unfold ctxE
  simp only [hs, stack_ld I d 0 b o ho k0 k1 hk0 hk1, stack_ld I d 1 b o ho v0 v1 hv0 hv1]

/-- The context in column n. -/
def ctxN (b : Fin 2) (i : Fin 128) (n : Fin 256) : EReal := ctxE I d b i (64 * (n.val / 64)) (by omega) ⟨n.val % 64, by omega⟩

theorem ctxN_at (b : Fin 2) (i : Fin 128) (o : ℕ) (ho : o + 64 ≤ 256) (h64 : 64 * (o / 64) = o) (e : Fin 64) :
    ctxE I d b i o ho e = ctxN I d b i ⟨o + e.val, by omega⟩ := by
  have h1 : ∀ (o' : ℕ) (ho' : o' + 64 ≤ 256) (e' : Fin 64), o' = o → e' = e → ctxE I d b i o ho e = ctxE I d b i o' ho' e' := by
    rintro o' ho' e' rfl rfl
    rfl
  exact h1 _ _ _ (by show 64 * ((o + e.val) / 64) = o; omega) (Fin.ext (by show (o + e.val) % 64 = e.val; omega))

/-- Device d's partial product. -/
def partE (b : Fin 2) (i : Fin 128) (n : Fin 512) : EReal := ∑ x : Fin 256, ctxN I d b i x * I.wo d (ix2 x n)

theorem woL_apply (x : Fin 256) (n : Fin 512) : woL I d (ix2 x n) = I.wo d (ix2 x n) := congrArg (I.wo d) (w_emb _ x n)

/-- Four heads of device d, side by side and times its output weights. -/
theorem project_heads (b : Fin 2) (i : Fin 128) (n : Fin 512) {h0 h1 h2 h3 : FVec Ideal S128x64 .f32}
    (e0 : ∀ e, h0 (ix2 i e) = ctxE I d b i 0 (by decide) e) (e1 : ∀ e, h1 (ix2 i e) = ctxE I d b i 64 (by decide) e)
    (e2 : ∀ e, h2 (ix2 i e) = ctxE I d b i 128 (by decide) e) (e3 : ∀ e, h3 (ix2 i e) = ctxE I d b i 192 (by decide) e) :
    project h0 h1 h2 h3 (woL I d) (ix3 0 i n) = partE I d b i n := by
  rw [project_apply _ _ _ _ _ i n (ctxN I d b i)]
  · simp only [woL_apply, partE]
  · exact fun e => (e0 e).trans ((ctxN_at I d b i 0 (by decide) (by decide) e).trans (congrArg _ (Fin.ext (by show 0 + e.val = e.val; omega))))
  · exact fun e => (e1 e).trans (ctxN_at I d b i 64 (by decide) (by decide) e)
  · exact fun e => (e2 e).trans (ctxN_at I d b i 128 (by decide) (by decide) e)
  · exact fun e => (e3 e).trans (ctxN_at I d b i 192 (by decide) (by decide) e)

theorem pt0_apply (i : Fin 128) (n : Fin 512) : pt0 I d (ix3 0 i n) = partE I d 0 i n := by
  rw [pt0_eq]
  apply project_heads <;> exact fun e => head_ld I d 0 _ _ _ (q0_apply I d) _ _ _ _ _ rfl rfl rfl rfl _ _ _ _ i e

theorem pt1_apply (i : Fin 128) (n : Fin 512) : pt1 I d (ix3 0 i n) = partE I d 1 i n := by
  rw [pt1_eq]
  apply project_heads <;> exact fun e => head_ld I d 1 _ _ _ (q1_apply I d) _ _ _ _ _ rfl rfl rfl rfl _ _ _ _ i e

/-- A device's partial products of both batches at an index. -/
theorem ptW_apply (b : Fin 2) (i : Fin 128) (n : Fin 512) : ptW I d (ix3 b i n) = partE I d b i n := by
  have e : (fun | 0 => ⟨0, by decide⟩ | 1 => i | 2 => n : S1x128x512.Idx) = ix3 0 i n := by
    funext a
    match a with
    | 0 => rfl
    | 1 => rfl
    | 2 => rfl
  unfold ptW
  match b with
  | 0 => exact (if_pos rfl).trans ((congrArg _ e).trans (pt0_apply I d i n))
  | 1 => exact (if_neg Nat.one_ne_zero).trans ((congrArg _ e).trans (pt1_apply I d i n))

end Loads

end Cert.Val

end
-- ==== Proof.Val.Output.lean ====
/-
  THE KERNEL'S RESULT AT AN INDEX.

  Every device's result is the sum of the eight devices' partial products: the rows of its own group it sums itself, the others' it receives summed.
-/
module

public import proofs.«01_k».proof.Proof.Val.Heads

@[expose] public section

noncomputable section

namespace Cert.Val

open Idealize.ShloMosaic Idealize.ShloMosaic.TcCoe
open Cert.KernelIdeal Cert.KernelIdeal.Gen
open Cert.KernelIdeal.Run hiding ix2 ix3

variable (I : In Ideal)

/-- Row r of device c's group. -/
abbrev rowOf (c : D8) (r : Fin 16) : Fin 128 := ⟨16 * c.val + r.val, by have := c.2; change c.val < 8 at this; omega⟩

theorem row_emb (c : D8) (a : Fin 2) (r : Fin 16) (e : Fin 512) :
    (rowR c).emb (Cert.KernelIdeal.Run.ix3 a r e) = (ix3 a (rowOf c r) e : S2x128x512.Idx) := by
  funext x
  match x with
  | 0 => exact Fin.ext (by show 0 + 1 * a.val = a.val; omega)
  | 1 => exact Fin.ext (by show 16 * c.val + 1 * r.val = 16 * c.val + r.val; omega)
  | 2 => exact Fin.ext (by show 0 + 1 * e.val = e.val; omega)

theorem blk_emb (s : D8) (a : Fin 2) (r : Fin 16) (e : Fin 512) :
    (blkR s).emb (ix4 0 a r e : S1x2x16x512.Idx) = (ix4 s a r e : S8x2x16x512.Idx) := by
  funext x
  match x with
  | 0 => exact Fin.ext (by show s.val + 1 * 0 = s.val; omega)
  | 1 => exact Fin.ext (by show 0 + 1 * a.val = a.val; omega)
  | 2 => exact Fin.ext (by show 0 + 1 * r.val = r.val; omega)
  | 3 => exact Fin.ext (by show 0 + 1 * e.val = e.val; omega)

theorem ix3_eq (a : Fin 2) (r : Fin 16) (e : Fin 512) : (Cert.KernelIdeal.Run.ix3 a r e : S2x16x512.Idx) = ix3 a r e := by
  funext x
  match x with
  | 0 => rfl
  | 1 => rfl
  | 2 => rfl

/-- The rows received of device s are its partial products. -/
theorem rsL_apply (c s : D8) (a : Fin 2) (r : Fin 16) (e : Fin 512) : rsL I c s (ix4 0 a r e) = partE I s a (rowOf c r) e :=
  (congrArg (rsW I c) (blk_emb s a r e)).trans ((congrArg (ptW I s) (row_emb c a r e)).trans (ptW_apply I s a (rowOf c r) e))

theorem own_load_apply (c : D8) (a : Fin 2) (r : Fin 16) (e : Fin 512) :
    ptM.view.readAt (Elt Ideal) (rowR c).toLoadRect (ptW I c) (ix3 a r e) = partE I c a (rowOf c r) e :=
  (congrArg (ptW I c) ((congrArg (rowR c).emb (ix3_eq a r e).symm).trans (row_emb c a r e))).trans (ptW_apply I c a (rowOf c r) e)

/-- The eight partial products, added in the order of device c. -/
theorem own_apply (c : D8) (a : Fin 2) (r : Fin 16) (e : Fin 512) : own I c (ix3 a r e) = ∑ d : D8, partE I d a (rowOf c r) e := by
  have h : own I c (ix3 a r e) = partE I c a (rowOf c r) e + partE I (c + 1) a (rowOf c r) e + partE I (c + 2) a (rowOf c r) e
      + partE I (c + 3) a (rowOf c r) e + partE I (c + 4) a (rowOf c r) e + partE I (c + 5) a (rowOf c r) e
      + partE I (c + 6) a (rowOf c r) e + partE I (c + 7) a (rowOf c r) e := by
    pointwise [own, acc, k0_pay28, k0_pay29, k0_pay30, k0_pay31, k0_pay32, k0_pay33]
    simp only [rsL_apply]
    rw [← own_load_apply I c a r e]
  have hs : ∑ d : Fin 8, partE I (c + d) a (rowOf c r) e = ∑ d : D8, partE I d a (rowOf c r) e :=
    Equiv.sum_comp (Equiv.addLeft (c : Fin 8)) fun d => partE I d a (rowOf c r) e
  rw [h, ← hs, Fin.sum_univ_eight, show c + (0 : Fin 8) = c from add_zero (c : Fin 8)]

/-- Its copy for the other devices holds the same. -/
theorem red_apply (c : D8) (a : Fin 2) (r : Fin 16) (e : Fin 512) : red I c (ix3 a r e) = own I c (ix3 a r e) := by
  pointwise [red, own, k0_pay33, k0_pay34]

theorem other_apply (s : D8) (a : Fin 2) (r : Fin 16) (e : Fin 512) : k0_pay35 (agL I s) (ix3 a r e) = own I s (ix3 a r e) := by
  have h : agL I s (ix4 0 a r e) = red I s (ix3 a r e) := (congrArg (agW I) (blk_emb s a r e)).trans (congrArg (red I s) (ix3_eq a r e))
  pointwise [k0_pay35]
  rw [h, red_apply]

theorem outT_apply (c s : D8) (a : Fin 2) (r : Fin 16) (e : Fin 512) : outT I c s (ix3 a r e) = ∑ d : D8, partE I d a (rowOf s r) e := by
  unfold outT
  split
  · next h => rw [h]; exact own_apply I c a r e
  · exact (other_apply I s a r e).trans (own_apply I s a r e)

/-- The result of the kernel at an index, the same on every device. -/
theorem outW_apply (c : D8) (b : Fin 2) (i : Fin 128) (n : Fin 512) : outW I c (ix3 b i n) = ∑ d : D8, partE I d b i n := by
  have h := outT_apply I c (grp i) b ⟨i.val % 16, Nat.mod_lt _ (by decide)⟩ n
  have hi : rowOf (grp i) ⟨i.val % 16, Nat.mod_lt _ (by decide)⟩ = i := Fin.ext (by show 16 * (i.val / 16) + i.val % 16 = i.val; omega)
  rw [hi] at h
  exact (congrArg (outT I c (grp i)) (ix3_eq b _ n)).trans h

end Cert.Val

end
-- ==== Proof.Val.Equation.lean ====
/-
  KERNEL AND REFERENCE COMPUTE THE SAME.

  Each of the eight devices has four of the 32 heads: where its operands are its parts of the reference's arguments, its contexts are the
  reference's for those heads, and the reference's product with the output weights is the sum of the devices' partial products.
-/
module

public import proofs.«01_k».proof.Proof.Val.Reference
public import proofs.«01_k».proof.Proof.Val.Output

@[expose] public section

noncomputable section

namespace Cert.Val

open Idealize.ShloMosaic Idealize.ShloMosaic.TcCoe
open Cert.KernelIdeal.Run (In D8 outW rootD)

abbrev Acts : Type := FVec Ideal Cert.ReferenceIdeal.S2x128x512 .f32
abbrev QueryWts : Type := FVec Ideal Cert.ReferenceIdeal.S512x2048 .f32
abbrev Rows : Type := FVec Ideal Cert.ReferenceIdeal.S2x1024x32x64 .f32
abbrev OutWts : Type := FVec Ideal Cert.ReferenceIdeal.S2048x512 .f32

/-- Column n of device d in the whole. -/
abbrev col (d : D8) (n : Fin 256) : Fin 2048 := ⟨d.val * 256 + n.val, by have := d.2; change d.val < 8 at this; omega⟩
/-- The head a column is of, -/
abbrev headOf (n : Fin 2048) : Fin 32 := ⟨n.val / 64, by omega⟩
/-- and its place in the head. -/
abbrev inHead (n : Fin 2048) : Fin 64 := ⟨n.val % 64, by omega⟩

/-- The devices' operands are their parts of the reference's arguments. -/
structure Parts (I : In Ideal) (x : Acts) (wq : QueryWts) (k v : Rows) (wo : OutWts) : Prop where
  x : ∀ (d : D8) (b : Fin 2) (i : Fin 128) (m : Fin 512), I.x d (ix3 b i m) = x (ix3 b i m)
  wq : ∀ (d : D8) (m : Fin 512) (n : Fin 256), I.wq d (ix2 m n) = wq (ix2 m (col d n))
  k : ∀ (d : D8) (b : Fin 2) (r : Fin 128) (n : Fin 2048),
    I.k d (ix2 ⟨128 * b.val + r.val, by omega⟩ n) = k (ix4 b ⟨d.val * 128 + r.val, by have := d.2; change d.val < 8 at this; omega⟩ (headOf n) (inHead n))
  v : ∀ (d : D8) (b : Fin 2) (r : Fin 128) (n : Fin 2048),
    I.v d (ix2 ⟨128 * b.val + r.val, by omega⟩ n) = v (ix4 b ⟨d.val * 128 + r.val, by have := d.2; change d.val < 8 at this; omega⟩ (headOf n) (inHead n))
  wo : ∀ (d : D8) (n : Fin 256) (m : Fin 512), I.wo d (ix2 n m) = wo (ix2 (col d n) m)

section Equal

variable {I : In Ideal} {x : Acts} {wq : QueryWts} {k v : Rows} {wo : OutWts} (P : Parts I x wq k v wo) (d : D8) (b : Fin 2) (i : Fin 128)
include P

/-- Column n of the queries of device d. -/
theorem qE_eq (n : Fin 256) (h : Fin 32) (e : Fin 64) (hn : d.val * 256 + n.val = h.val * 64 + e.val) : qE I d b i n = rQuery x wq b h i e := by
  unfold qE rQuery
  refine Finset.sum_congr rfl fun m _ => ?_
  rw [P.x, P.wq, show col d n = ⟨h.val * 64 + e.val, by omega⟩ from Fin.ext hn]

/-- An entry of the keys device d works with, -/
theorem keyE_eq (j n : Fin 256) (h : Fin 32) (e : Fin 64) (hn : d.val * 256 + n.val = h.val * 64 + e.val) :
    kvE I d 0 b j n = k (ix4 b ⟨j.val, by omega⟩ h e) := by
  refine (P.k (rootD ⟨j.val / 128, by omega⟩) b ⟨j.val % 128, by omega⟩ ⟨256 * d.val + n.val, by omega⟩).trans (congrArg k ?_)
  congr 1
  · exact Fin.ext (by show j.val / 128 * 128 + j.val % 128 = j.val; omega)
  · exact Fin.ext (by show (256 * d.val + n.val) / 64 = h.val; omega)
  · exact Fin.ext (by show (256 * d.val + n.val) % 64 = e.val; omega)
/-- and of the values. -/
theorem valE_eq (j n : Fin 256) (h : Fin 32) (e : Fin 64) (hn : d.val * 256 + n.val = h.val * 64 + e.val) :
    kvE I d 1 b j n = v (ix4 b ⟨j.val, by omega⟩ h e) := by
  refine (P.v (rootD ⟨j.val / 128, by omega⟩) b ⟨j.val % 128, by omega⟩ ⟨256 * d.val + n.val, by omega⟩).trans (congrArg v ?_)
  congr 1
  · exact Fin.ext (by show j.val / 128 * 128 + j.val % 128 = j.val; omega)
  · exact Fin.ext (by show (256 * d.val + n.val) / 64 = h.val; omega)
  · exact Fin.ext (by show (256 * d.val + n.val) % 64 = e.val; omega)

/-- A context of device d is the reference's, the scores being real. -/
theorem ctxN_eq (n : Fin 256) (hr : ∀ h j, IsReal (rDot x wq k b h i j)) :
    ctxN I d b i n = rCtx x wq k v b (headOf (col d n)) i (inHead (col d n)) := by
  have hd : d.val < 8 := d.2
  unfold rCtx
  rw [attend_window i _ _ (hr _)]
  unfold ctxN ctxE
  refine congrArg₂ attend (funext fun j => congrArg (score i j) ?_) (funext fun j => ?_)
  · unfold rDot
    refine Finset.sum_congr rfl fun e _ => ?_
    have hn : d.val * 256 + (64 * (n.val / 64) + e.val) = (d.val * 256 + n.val) / 64 * 64 + e.val := by omega
    rw [qE_eq P d b i _ (headOf (col d n)) e hn, keyE_eq P d b j _ (headOf (col d n)) e hn]
  · exact valE_eq P d b j _ (headOf (col d n)) (inHead (col d n))
      (by show d.val * 256 + (64 * (n.val / 64) + n.val % 64) = (d.val * 256 + n.val) / 64 * 64 + (d.val * 256 + n.val) % 64; omega)

omit d b i in
/-- The results agree. -/
theorem outW_eq (c : D8) (hr : ∀ b h i j, IsReal (rDot x wq k b h i j)) : outW I c = rOut x wq k v wo := by
  have key : ∀ (b : Fin 2) (i : Fin 128) (n : Fin 512), outW I c (ix3 b i n) = rOut x wq k v wo (ix3 b i n) := fun b i n => by
    refine (outW_apply I c b i n).trans ?_
    rw [rOut_apply, Fin.sum_univ_tiles (N := 2048) 8 256 rfl]
    refine Finset.sum_congr rfl fun d _ => Finset.sum_congr rfl fun n _ => ?_
    rw [ctxN_eq P d b i n fun h j => hr b h i j, P.wo]
  funext t
  have e : t = ix3 (t 0) (t 1) (t 2) := funext fun | 0 => rfl | 1 => rfl | 2 => rfl
  rw [e]
  exact key _ _ _

omit d b i P in
/-- The scores are real where the activations, the query weights and the keys are. -/
theorem rDot_real (hx : ∀ t, IsReal (x t)) (hq : ∀ t, IsReal (wq t)) (hk : ∀ t, IsReal (k t)) (b : Fin 2) (h : Fin 32) (i : Fin 128) (j : Fin 1024) :
    IsReal (rDot x wq k b h i j) :=
  IsReal.sum fun e _ => (IsReal.sum fun m _ => (hx _).mul (hq _)).mul (hk _)

end Equal

end Cert.Val

end
-- ==== Proof.Val.Inputs.lean ====
/-
  WHAT THE KERNEL IS GIVEN.

  The operands of the kernel are the device's arguments, keys and values with their heads side by side; where the arguments are the blocks of the
  reference's, the operands are the parts `Parts` names.
-/
module

public import proofs.«01_k».proof.Proof.KI.Region
public import proofs.«01_k».proof.Proof.Val.Equation
public import Idealize.ShloMosaic.Lib.Layout
public import Idealize.ShloMosaic.Lib.Claim

@[expose] public section

noncomputable section

namespace Cert.Val

open Idealize.ShloMosaic Idealize.ShloMosaic.TcCoe
open Cert.KernelIdeal Cert.KernelIdeal.Gen
open Cert.KernelIdeal.Run (In D8 inOf)

variable (m : (ℓ : Loc nD τ sig) → Buf (Elt Ideal) ℓ)

/-- The keys of a device, -/
theorem keys_V (c : Dev nD) : V m c main_v2 = (shapeCast S256x2048 (m (c, main_arg2)) shapeCasts_S2x128x32x64_S256x2048 : S256x2048.Idx → EReal) := by
  dsimp only [V, hostOps0]
  after_results
  rfl
/-- and its values. -/
theorem vals_V (c : Dev nD) : V m c main_v4 = (shapeCast S256x2048 (m (c, main_arg3)) shapeCasts_S2x128x32x64_S256x2048 : S256x2048.Idx → EReal) := by
  dsimp only [V, hostOps0]
  after_results
  rfl

/-- Rows with their heads side by side, at an index. -/
theorem side_by_side (a : S2x128x32x64.Idx → EReal) (b : Fin 2) (r : Fin 128) (n : Fin 2048) :
    shapeCast S256x2048 a shapeCasts_S2x128x32x64_S256x2048 (ix2 ⟨128 * b.val + r.val, by omega⟩ n) = a (ix4 b r (headOf n) (inHead n)) := by
  pointwise

/-- A device's rows of keys or values in the whole. -/
theorem rows_block (c : Fin 8) (v : Rows) (b : Fin 2) (r : Fin 128) (h : Fin 32) (e : Fin 64) :
    Layout.block ⟨4, ![2, 128, 32, 64]⟩ ⟨4, ![2, 1024, 32, 64]⟩ 1 8 c v (by decide) (ix4 b r h e) = v (ix4 b ⟨c.val * 128 + r.val, by omega⟩ h e) := by
  rw [Layout.block_apply]
  refine congrArg v (funext fun a => ?_)
  match a with
  | 0 => rfl
  | 1 => rfl
  | 2 => rfl
  | 3 => rfl

/-- The kernel's operands are the parts of the reference's arguments. -/
theorem parts (x : Acts) (wq : QueryWts) (k v : Rows) (wo : OutWts)
    (h : ∀ c : Dev nD, m (c, main_arg0) = x
      ∧ m (c, main_arg1) = Layout.block ⟨2, ![512, 256]⟩ ⟨2, ![512, 2048]⟩ 1 8 c wq
      ∧ m (c, main_arg2) = Layout.block ⟨4, ![2, 128, 32, 64]⟩ ⟨4, ![2, 1024, 32, 64]⟩ 1 8 c k
      ∧ m (c, main_arg3) = Layout.block ⟨4, ![2, 128, 32, 64]⟩ ⟨4, ![2, 1024, 32, 64]⟩ 1 8 c v
      ∧ m (c, main_arg4) = Layout.block ⟨2, ![256, 512]⟩ ⟨2, ![2048, 512]⟩ 0 8 c wo) : Parts (inOf m) x wq k v wo where
  x d b i t := congrFun ((V_main_arg0 m d).trans (h d).1) _
  wq d t n := by
    refine (congrFun ((V_main_arg1 m d).trans (h d).2.1) _).trans (congrArg wq (funext fun a => ?_))
    match a with
    | 0 => rfl
    | 1 => rfl
  k d b r n := ((congrFun (keys_V m d) _).trans (side_by_side _ b r n)).trans ((congrFun (h d).2.2.1 _).trans (rows_block d k b r _ _))
  v d b r n := ((congrFun (vals_V m d) _).trans (side_by_side _ b r n)).trans ((congrFun (h d).2.2.2.1 _).trans (rows_block d v b r _ _))
  wo d n t := by
    refine (congrFun ((V_main_arg4 m d).trans (h d).2.2.2.2) _).trans (congrArg wo (funext fun a => ?_))
    match a with
    | 0 => rfl
    | 1 => rfl

/-- An array is real everywhere where each device's block is and the blocks cover it. -/
theorem real_of_blocks {S T : Shape} {a : ℕ} {w : T.Idx → EReal} (hT : Layout.Tiles S T a 8) (cover : ∀ t : T.Idx, ∃ (c : Fin 8) (s : S.Idx), hT.idx c s = t)
    (h : ∀ (c : Fin 8) (s : S.Idx), IsReal (Layout.block S T a 8 c w hT s)) (t : T.Idx) : IsReal (w t) := by
  obtain ⟨c, s, rfl⟩ := cover t
  exact h c s

/-- Every column of the query weights is some device's, -/
theorem cover_cols (t : (⟨2, ![512, 2048]⟩ : Shape).Idx) :
    ∃ (c : Fin 8) (s : (⟨2, ![512, 256]⟩ : Shape).Idx), (by decide : Layout.Tiles ⟨2, ![512, 256]⟩ ⟨2, ![512, 2048]⟩ 1 8).idx c s = t := by
  have h1 : (t 1).val < 2048 := (t 1).2
  refine ⟨⟨(t 1).val / 256, by omega⟩, ix2 (t 0) ⟨(t 1).val % 256, by omega⟩, funext fun a => ?_⟩
  match a with
  | 0 => rfl
  | 1 => exact Fin.ext (by show (t 1).val / 256 * 256 + (t 1).val % 256 = (t 1).val; omega)
/-- and every row of the keys. -/
theorem cover_rows (t : (⟨4, ![2, 1024, 32, 64]⟩ : Shape).Idx) :
    ∃ (c : Fin 8) (s : (⟨4, ![2, 128, 32, 64]⟩ : Shape).Idx), (by decide : Layout.Tiles ⟨4, ![2, 128, 32, 64]⟩ ⟨4, ![2, 1024, 32, 64]⟩ 1 8).idx c s = t := by
  have h1 : (t 1).val < 1024 := (t 1).2
  refine ⟨⟨(t 1).val / 128, by omega⟩, ix4 (t 0) ⟨(t 1).val % 128, by omega⟩ (t 2) (t 3), funext fun a => ?_⟩
  match a with
  | 0 => rfl
  | 1 => exact Fin.ext (by show (t 1).val / 128 * 128 + (t 1).val % 128 = (t 1).val; omega)
  | 2 => rfl
  | 3 => rfl

end Cert.Val

end
-- ==== Proof.lean ====
/- The claims assembled: the frames of the kernel, of its idealization and of the reference, the named constant, and the equation of the results. -/
module

public import proofs.«01_k».proof.Defs
public import proofs.«01_k».proof.Proof.K.Frames
public import proofs.«01_k».proof.Proof.KI.Frames
public import proofs.«01_k».proof.Proof.Val.Finite
public import proofs.«01_k».proof.Proof.Val.Inputs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel terminates, keeps its arguments and leaves every counter at zero. -/
theorem frame_kernel : Cert.quiescent_Kernel (hKernel := Cert.Kernel.Gen.facts) := fun m ρ _ =>
  (θ_run Cert.Kernel.defs _ _).mono (fun _ h => ⟨h.1.1, h.2⟩) (Cert.Kernel.Run.run_args (F := Bits) m ρ)

/-- So does the idealized kernel. -/
theorem frame_ideal : Cert.quiescent_KernelIdeal (hKernelIdeal := Cert.KernelIdeal.Gen.facts) := fun m ρ _ =>
  (θ_run Cert.KernelIdeal.defs _ _).mono (fun _ h => ⟨h.1.1, h.2⟩) (Cert.KernelIdeal.Run.run_args (F := Ideal) m ρ)

/-- So does the reference, which declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's literal is the constant named in the idealized kernel. -/
theorem preserved : Cert.preserves_Kernel_KernelIdeal :=
  IdealRules.named_const.statement Cert.KernelIdeal.κ "mask" .f32 0xCE6E6B28#32 ⊥ rfl

/-- Over the extended reals the idealized kernel leaves the reference's result on every device. -/
theorem equal : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Val.pre_facts) := by
  intro m g m' g' hpre hlay
  haveI := Cert.Val.pre_facts
  have hreal := fun c => Cert.Val.pre_real _ _ _ _ _ (hpre c)
  have P := Cert.Val.parts m _ _ _ _ _ hlay
  have hr := Cert.Val.rDot_real (fun t => (hlay 0).1 ▸ (hreal 0).1 t)
    (Cert.Val.real_of_blocks _ Cert.Val.cover_cols fun c s => (hlay c).2.1 ▸ (hreal c).2.1 s)
    (Cert.Val.real_of_blocks _ Cert.Val.cover_rows fun c s => (hlay c).2.2.1 ▸ (hreal c).2.2 s)
  refine ⟨Cert.ReferenceIdeal.Value.res_main_v34 m' 0, ?_, ?_⟩
  · refine (θ_run Cert.KernelIdeal.defs _ _).mono (fun r h c => ⟨?_, h.1.1 c⟩) (Cert.KernelIdeal.Run.run_args (F := Ideal) m g)
    exact (h.1.2 c).trans ((Cert.Val.outW_eq P c hr).trans (Cert.Val.result_eq m' 0).symm)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, Cert.Val.pre_facts, Cert.Val.pre_facts_ref,
  frame_kernel, frame_ideal, fun m ρ _ => frame_ideal m ρ trivial, frame_reference, fun m ρ _ => frame_reference m ρ trivial, preserved, equal⟩

end Cert.Proof

end
